-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjSsd (m : (ℓ : Loc Cert.ProjSsd.nD Cert.ProjSsd.τ Cert.ProjSsd.sig) → Buf (Elt Bits) ℓ) : Prop :=
  True

def Pre_ProjSsdIdeal (m : (ℓ : Loc Cert.ProjSsdIdeal.nD Cert.ProjSsdIdeal.τ Cert.ProjSsdIdeal.sig) → Buf (Elt Ideal) ℓ) : Prop :=
  True

def Pre_ProjSsdReferenceIdeal (m : (ℓ : Loc Cert.ProjSsdReferenceIdeal.nD Cert.ProjSsdReferenceIdeal.τ Cert.ProjSsdReferenceIdeal.sig) → Buf (Elt Ideal) ℓ) : Prop :=
  True

def Pre_ProjMix (m : (ℓ : Loc Cert.ProjMix.nD Cert.ProjMix.τ Cert.ProjMix.sig) → Buf (Elt Bits) ℓ) : Prop :=
  True

def Pre_ProjMixIdeal (m : (ℓ : Loc Cert.ProjMixIdeal.nD Cert.ProjMixIdeal.τ Cert.ProjMixIdeal.sig) → Buf (Elt Ideal) ℓ) : Prop :=
  True

def Pre_ProjMixReferenceIdeal (m : (ℓ : Loc Cert.ProjMixReferenceIdeal.nD Cert.ProjMixReferenceIdeal.τ Cert.ProjMixReferenceIdeal.sig) → Buf (Elt Ideal) ℓ) : Prop :=
  True

def Pre_CcSample (m : (ℓ : Loc Cert.CcSample.nD Cert.CcSample.τ Cert.CcSample.sig) → Buf (Elt Bits) ℓ) : Prop :=
  True

def Pre_CcSampleIdeal (m : (ℓ : Loc Cert.CcSampleIdeal.nD Cert.CcSampleIdeal.τ Cert.CcSampleIdeal.sig) → Buf (Elt Ideal) ℓ) : Prop :=
  True

def Pre_CcSampleReferenceIdeal (m : (ℓ : Loc Cert.CcSampleReferenceIdeal.nD Cert.CcSampleReferenceIdeal.τ Cert.CcSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_ProjSsd [hProjSsd : Cert.ProjSsd.Facts] : Prop :=
  ∀ (m : (ℓ : Loc Cert.ProjSsd.nD Cert.ProjSsd.τ Cert.ProjSsd.sig) → Buf (Elt Bits) ℓ) (g : Dev Cert.ProjSsd.nD → PrngReg), Pre_ProjSsd m →
    θ_run (Cert.ProjSsd.defs (F := Bits)) (onTc (τ := Cert.ProjSsd.τ) (Cert.ProjSsd.main (F := Bits))) ⟨m, fun _ => 0, g⟩ (fun r => (∀ c : Dev Cert.ProjSsd.nD,
      r.2.mem ((c.tc : Thread Cert.ProjSsd.nD Cert.ProjSsd.τ).loc Cert.ProjSsd.main_arg0) = m ((c.tc : Thread Cert.ProjSsd.nD Cert.ProjSsd.τ).loc Cert.ProjSsd.main_arg0)
      ∧ r.2.mem ((c.tc : Thread Cert.ProjSsd.nD Cert.ProjSsd.τ).loc Cert.ProjSsd.main_arg1) = m ((c.tc : Thread Cert.ProjSsd.nD Cert.ProjSsd.τ).loc Cert.ProjSsd.main_arg1)
      ∧ r.2.mem ((c.tc : Thread Cert.ProjSsd.nD Cert.ProjSsd.τ).loc Cert.ProjSsd.main_arg2) = m ((c.tc : Thread Cert.ProjSsd.nD Cert.ProjSsd.τ).loc Cert.ProjSsd.main_arg2)
      ∧ r.2.mem ((c.tc : Thread Cert.ProjSsd.nD Cert.ProjSsd.τ).loc Cert.ProjSsd.main_arg3) = m ((c.tc : Thread Cert.ProjSsd.nD Cert.ProjSsd.τ).loc Cert.ProjSsd.main_arg3)
      ∧ r.2.mem ((c.tc : Thread Cert.ProjSsd.nD Cert.ProjSsd.τ).loc Cert.ProjSsd.main_arg4) = m ((c.tc : Thread Cert.ProjSsd.nD Cert.ProjSsd.τ).loc Cert.ProjSsd.main_arg4))
      ∧ r.2.sem = fun _ => 0)

def quiescent_ProjSsdIdeal [hProjSsdIdeal : Cert.ProjSsdIdeal.Facts] : Prop :=
  ∀ (m : (ℓ : Loc Cert.ProjSsdIdeal.nD Cert.ProjSsdIdeal.τ Cert.ProjSsdIdeal.sig) → Buf (Elt Ideal) ℓ) (g : Dev Cert.ProjSsdIdeal.nD → PrngReg), Pre_ProjSsdIdeal m →
    θ_run (Cert.ProjSsdIdeal.defs (F := Ideal)) (onTc (τ := Cert.ProjSsdIdeal.τ) (Cert.ProjSsdIdeal.main (F := Ideal))) ⟨m, fun _ => 0, g⟩ (fun r => (∀ c : Dev Cert.ProjSsdIdeal.nD,
      r.2.mem ((c.tc : Thread Cert.ProjSsdIdeal.nD Cert.ProjSsdIdeal.τ).loc Cert.ProjSsdIdeal.main_arg0) = m ((c.tc : Thread Cert.ProjSsdIdeal.nD Cert.ProjSsdIdeal.τ).loc Cert.ProjSsdIdeal.main_arg0)
      ∧ r.2.mem ((c.tc : Thread Cert.ProjSsdIdeal.nD Cert.ProjSsdIdeal.τ).loc Cert.ProjSsdIdeal.main_arg1) = m ((c.tc : Thread Cert.ProjSsdIdeal.nD Cert.ProjSsdIdeal.τ).loc Cert.ProjSsdIdeal.main_arg1)
      ∧ r.2.mem ((c.tc : Thread Cert.ProjSsdIdeal.nD Cert.ProjSsdIdeal.τ).loc Cert.ProjSsdIdeal.main_arg2) = m ((c.tc : Thread Cert.ProjSsdIdeal.nD Cert.ProjSsdIdeal.τ).loc Cert.ProjSsdIdeal.main_arg2)
      ∧ r.2.mem ((c.tc : Thread Cert.ProjSsdIdeal.nD Cert.ProjSsdIdeal.τ).loc Cert.ProjSsdIdeal.main_arg3) = m ((c.tc : Thread Cert.ProjSsdIdeal.nD Cert.ProjSsdIdeal.τ).loc Cert.ProjSsdIdeal.main_arg3)
      ∧ r.2.mem ((c.tc : Thread Cert.ProjSsdIdeal.nD Cert.ProjSsdIdeal.τ).loc Cert.ProjSsdIdeal.main_arg4) = m ((c.tc : Thread Cert.ProjSsdIdeal.nD Cert.ProjSsdIdeal.τ).loc Cert.ProjSsdIdeal.main_arg4))
      ∧ r.2.sem = fun _ => 0)

def quiescent_ProjSsdReferenceIdeal [hProjSsdReferenceIdeal : Cert.ProjSsdReferenceIdeal.Facts] : Prop :=
  ∀ (m : (ℓ : Loc Cert.ProjSsdReferenceIdeal.nD Cert.ProjSsdReferenceIdeal.τ Cert.ProjSsdReferenceIdeal.sig) → Buf (Elt Ideal) ℓ) (g : Dev Cert.ProjSsdReferenceIdeal.nD → PrngReg), Pre_ProjSsdReferenceIdeal m →
    θ_run (Cert.ProjSsdReferenceIdeal.defs (F := Ideal)) (onTc (τ := Cert.ProjSsdReferenceIdeal.τ) (Cert.ProjSsdReferenceIdeal.main (F := Ideal))) ⟨m, fun _ => 0, g⟩ (fun r => (∀ c : Dev Cert.ProjSsdReferenceIdeal.nD,
      r.2.mem ((c.tc : Thread Cert.ProjSsdReferenceIdeal.nD Cert.ProjSsdReferenceIdeal.τ).loc Cert.ProjSsdReferenceIdeal.main_arg0) = m ((c.tc : Thread Cert.ProjSsdReferenceIdeal.nD Cert.ProjSsdReferenceIdeal.τ).loc Cert.ProjSsdReferenceIdeal.main_arg0)
      ∧ r.2.mem ((c.tc : Thread Cert.ProjSsdReferenceIdeal.nD Cert.ProjSsdReferenceIdeal.τ).loc Cert.ProjSsdReferenceIdeal.main_arg1) = m ((c.tc : Thread Cert.ProjSsdReferenceIdeal.nD Cert.ProjSsdReferenceIdeal.τ).loc Cert.ProjSsdReferenceIdeal.main_arg1)
      ∧ r.2.mem ((c.tc : Thread Cert.ProjSsdReferenceIdeal.nD Cert.ProjSsdReferenceIdeal.τ).loc Cert.ProjSsdReferenceIdeal.main_arg2) = m ((c.tc : Thread Cert.ProjSsdReferenceIdeal.nD Cert.ProjSsdReferenceIdeal.τ).loc Cert.ProjSsdReferenceIdeal.main_arg2)
      ∧ r.2.mem ((c.tc : Thread Cert.ProjSsdReferenceIdeal.nD Cert.ProjSsdReferenceIdeal.τ).loc Cert.ProjSsdReferenceIdeal.main_arg3) = m ((c.tc : Thread Cert.ProjSsdReferenceIdeal.nD Cert.ProjSsdReferenceIdeal.τ).loc Cert.ProjSsdReferenceIdeal.main_arg3)
      ∧ r.2.mem ((c.tc : Thread Cert.ProjSsdReferenceIdeal.nD Cert.ProjSsdReferenceIdeal.τ).loc Cert.ProjSsdReferenceIdeal.main_arg4) = m ((c.tc : Thread Cert.ProjSsdReferenceIdeal.nD Cert.ProjSsdReferenceIdeal.τ).loc Cert.ProjSsdReferenceIdeal.main_arg4))
      ∧ r.2.sem = fun _ => 0)

def quiescent_ProjMix [hProjMix : Cert.ProjMix.Facts] : Prop :=
  ∀ (m : (ℓ : Loc Cert.ProjMix.nD Cert.ProjMix.τ Cert.ProjMix.sig) → Buf (Elt Bits) ℓ) (g : Dev Cert.ProjMix.nD → PrngReg), Pre_ProjMix m →
    θ_run (Cert.ProjMix.defs (F := Bits)) (onTc (τ := Cert.ProjMix.τ) (Cert.ProjMix.main (F := Bits))) ⟨m, fun _ => 0, g⟩ (fun r => (∀ c : Dev Cert.ProjMix.nD,
      r.2.mem ((c.tc : Thread Cert.ProjMix.nD Cert.ProjMix.τ).loc Cert.ProjMix.main_arg0) = m ((c.tc : Thread Cert.ProjMix.nD Cert.ProjMix.τ).loc Cert.ProjMix.main_arg0)
      ∧ r.2.mem ((c.tc : Thread Cert.ProjMix.nD Cert.ProjMix.τ).loc Cert.ProjMix.main_arg1) = m ((c.tc : Thread Cert.ProjMix.nD Cert.ProjMix.τ).loc Cert.ProjMix.main_arg1)
      ∧ r.2.mem ((c.tc : Thread Cert.ProjMix.nD Cert.ProjMix.τ).loc Cert.ProjMix.main_arg2) = m ((c.tc : Thread Cert.ProjMix.nD Cert.ProjMix.τ).loc Cert.ProjMix.main_arg2)
      ∧ r.2.mem ((c.tc : Thread Cert.ProjMix.nD Cert.ProjMix.τ).loc Cert.ProjMix.main_arg3) = m ((c.tc : Thread Cert.ProjMix.nD Cert.ProjMix.τ).loc Cert.ProjMix.main_arg3)
      ∧ r.2.mem ((c.tc : Thread Cert.ProjMix.nD Cert.ProjMix.τ).loc Cert.ProjMix.main_arg4) = m ((c.tc : Thread Cert.ProjMix.nD Cert.ProjMix.τ).loc Cert.ProjMix.main_arg4)
      ∧ r.2.mem ((c.tc : Thread Cert.ProjMix.nD Cert.ProjMix.τ).loc Cert.ProjMix.main_arg5) = m ((c.tc : Thread Cert.ProjMix.nD Cert.ProjMix.τ).loc Cert.ProjMix.main_arg5))
      ∧ r.2.sem = fun _ => 0)

def quiescent_ProjMixIdeal [hProjMixIdeal : Cert.ProjMixIdeal.Facts] : Prop :=
  ∀ (m : (ℓ : Loc Cert.ProjMixIdeal.nD Cert.ProjMixIdeal.τ Cert.ProjMixIdeal.sig) → Buf (Elt Ideal) ℓ) (g : Dev Cert.ProjMixIdeal.nD → PrngReg), Pre_ProjMixIdeal m →
    θ_run (Cert.ProjMixIdeal.defs (F := Ideal)) (onTc (τ := Cert.ProjMixIdeal.τ) (Cert.ProjMixIdeal.main (F := Ideal))) ⟨m, fun _ => 0, g⟩ (fun r => (∀ c : Dev Cert.ProjMixIdeal.nD,
      r.2.mem ((c.tc : Thread Cert.ProjMixIdeal.nD Cert.ProjMixIdeal.τ).loc Cert.ProjMixIdeal.main_arg0) = m ((c.tc : Thread Cert.ProjMixIdeal.nD Cert.ProjMixIdeal.τ).loc Cert.ProjMixIdeal.main_arg0)
      ∧ r.2.mem ((c.tc : Thread Cert.ProjMixIdeal.nD Cert.ProjMixIdeal.τ).loc Cert.ProjMixIdeal.main_arg1) = m ((c.tc : Thread Cert.ProjMixIdeal.nD Cert.ProjMixIdeal.τ).loc Cert.ProjMixIdeal.main_arg1)
      ∧ r.2.mem ((c.tc : Thread Cert.ProjMixIdeal.nD Cert.ProjMixIdeal.τ).loc Cert.ProjMixIdeal.main_arg2) = m ((c.tc : Thread Cert.ProjMixIdeal.nD Cert.ProjMixIdeal.τ).loc Cert.ProjMixIdeal.main_arg2)
      ∧ r.2.mem ((c.tc : Thread Cert.ProjMixIdeal.nD Cert.ProjMixIdeal.τ).loc Cert.ProjMixIdeal.main_arg3) = m ((c.tc : Thread Cert.ProjMixIdeal.nD Cert.ProjMixIdeal.τ).loc Cert.ProjMixIdeal.main_arg3)
      ∧ r.2.mem ((c.tc : Thread Cert.ProjMixIdeal.nD Cert.ProjMixIdeal.τ).loc Cert.ProjMixIdeal.main_arg4) = m ((c.tc : Thread Cert.ProjMixIdeal.nD Cert.ProjMixIdeal.τ).loc Cert.ProjMixIdeal.main_arg4)
      ∧ r.2.mem ((c.tc : Thread Cert.ProjMixIdeal.nD Cert.ProjMixIdeal.τ).loc Cert.ProjMixIdeal.main_arg5) = m ((c.tc : Thread Cert.ProjMixIdeal.nD Cert.ProjMixIdeal.τ).loc Cert.ProjMixIdeal.main_arg5))
      ∧ r.2.sem = fun _ => 0)

def quiescent_ProjMixReferenceIdeal [hProjMixReferenceIdeal : Cert.ProjMixReferenceIdeal.Facts] : Prop :=
  ∀ (m : (ℓ : Loc Cert.ProjMixReferenceIdeal.nD Cert.ProjMixReferenceIdeal.τ Cert.ProjMixReferenceIdeal.sig) → Buf (Elt Ideal) ℓ) (g : Dev Cert.ProjMixReferenceIdeal.nD → PrngReg), Pre_ProjMixReferenceIdeal m →
    θ_run (Cert.ProjMixReferenceIdeal.defs (F := Ideal)) (onTc (τ := Cert.ProjMixReferenceIdeal.τ) (Cert.ProjMixReferenceIdeal.main (F := Ideal))) ⟨m, fun _ => 0, g⟩ (fun r => (∀ c : Dev Cert.ProjMixReferenceIdeal.nD,
      r.2.mem ((c.tc : Thread Cert.ProjMixReferenceIdeal.nD Cert.ProjMixReferenceIdeal.τ).loc Cert.ProjMixReferenceIdeal.main_arg0) = m ((c.tc : Thread Cert.ProjMixReferenceIdeal.nD Cert.ProjMixReferenceIdeal.τ).loc Cert.ProjMixReferenceIdeal.main_arg0)
      ∧ r.2.mem ((c.tc : Thread Cert.ProjMixReferenceIdeal.nD Cert.ProjMixReferenceIdeal.τ).loc Cert.ProjMixReferenceIdeal.main_arg1) = m ((c.tc : Thread Cert.ProjMixReferenceIdeal.nD Cert.ProjMixReferenceIdeal.τ).loc Cert.ProjMixReferenceIdeal.main_arg1)
      ∧ r.2.mem ((c.tc : Thread Cert.ProjMixReferenceIdeal.nD Cert.ProjMixReferenceIdeal.τ).loc Cert.ProjMixReferenceIdeal.main_arg2) = m ((c.tc : Thread Cert.ProjMixReferenceIdeal.nD Cert.ProjMixReferenceIdeal.τ).loc Cert.ProjMixReferenceIdeal.main_arg2)
      ∧ r.2.mem ((c.tc : Thread Cert.ProjMixReferenceIdeal.nD Cert.ProjMixReferenceIdeal.τ).loc Cert.ProjMixReferenceIdeal.main_arg3) = m ((c.tc : Thread Cert.ProjMixReferenceIdeal.nD Cert.ProjMixReferenceIdeal.τ).loc Cert.ProjMixReferenceIdeal.main_arg3)
      ∧ r.2.mem ((c.tc : Thread Cert.ProjMixReferenceIdeal.nD Cert.ProjMixReferenceIdeal.τ).loc Cert.ProjMixReferenceIdeal.main_arg4) = m ((c.tc : Thread Cert.ProjMixReferenceIdeal.nD Cert.ProjMixReferenceIdeal.τ).loc Cert.ProjMixReferenceIdeal.main_arg4)
      ∧ r.2.mem ((c.tc : Thread Cert.ProjMixReferenceIdeal.nD Cert.ProjMixReferenceIdeal.τ).loc Cert.ProjMixReferenceIdeal.main_arg5) = m ((c.tc : Thread Cert.ProjMixReferenceIdeal.nD Cert.ProjMixReferenceIdeal.τ).loc Cert.ProjMixReferenceIdeal.main_arg5))
      ∧ r.2.sem = fun _ => 0)

def quiescent_CcSample [hCcSample : Cert.CcSample.Facts] : Prop :=
  ∀ (m : (ℓ : Loc Cert.CcSample.nD Cert.CcSample.τ Cert.CcSample.sig) → Buf (Elt Bits) ℓ) (g : Dev Cert.CcSample.nD → PrngReg), Pre_CcSample m →
    θ_run (Cert.CcSample.defs (F := Bits)) (onTc (τ := Cert.CcSample.τ) (Cert.CcSample.main (F := Bits))) ⟨m, fun _ => 0, g⟩ (fun r => (∀ c : Dev Cert.CcSample.nD,
      r.2.mem ((c.tc : Thread Cert.CcSample.nD Cert.CcSample.τ).loc Cert.CcSample.main_arg0) = m ((c.tc : Thread Cert.CcSample.nD Cert.CcSample.τ).loc Cert.CcSample.main_arg0)
      ∧ r.2.mem ((c.tc : Thread Cert.CcSample.nD Cert.CcSample.τ).loc Cert.CcSample.main_arg1) = m ((c.tc : Thread Cert.CcSample.nD Cert.CcSample.τ).loc Cert.CcSample.main_arg1)
      ∧ r.2.mem ((c.tc : Thread Cert.CcSample.nD Cert.CcSample.τ).loc Cert.CcSample.main_arg2) = m ((c.tc : Thread Cert.CcSample.nD Cert.CcSample.τ).loc Cert.CcSample.main_arg2)
      ∧ r.2.mem ((c.tc : Thread Cert.CcSample.nD Cert.CcSample.τ).loc Cert.CcSample.main_arg3) = m ((c.tc : Thread Cert.CcSample.nD Cert.CcSample.τ).loc Cert.CcSample.main_arg3)
      ∧ r.2.mem ((c.tc : Thread Cert.CcSample.nD Cert.CcSample.τ).loc Cert.CcSample.main_arg4) = m ((c.tc : Thread Cert.CcSample.nD Cert.CcSample.τ).loc Cert.CcSample.main_arg4)
      ∧ r.2.mem ((c.tc : Thread Cert.CcSample.nD Cert.CcSample.τ).loc Cert.CcSample.main_arg5) = m ((c.tc : Thread Cert.CcSample.nD Cert.CcSample.τ).loc Cert.CcSample.main_arg5))
      ∧ r.2.sem = fun _ => 0)

def quiescent_CcSampleIdeal [hCcSampleIdeal : Cert.CcSampleIdeal.Facts] : Prop :=
  ∀ (m : (ℓ : Loc Cert.CcSampleIdeal.nD Cert.CcSampleIdeal.τ Cert.CcSampleIdeal.sig) → Buf (Elt Ideal) ℓ) (g : Dev Cert.CcSampleIdeal.nD → PrngReg), Pre_CcSampleIdeal m →
    θ_run (Cert.CcSampleIdeal.defs (F := Ideal)) (onTc (τ := Cert.CcSampleIdeal.τ) (Cert.CcSampleIdeal.main (F := Ideal))) ⟨m, fun _ => 0, g⟩ (fun r => (∀ c : Dev Cert.CcSampleIdeal.nD,
      r.2.mem ((c.tc : Thread Cert.CcSampleIdeal.nD Cert.CcSampleIdeal.τ).loc Cert.CcSampleIdeal.main_arg0) = m ((c.tc : Thread Cert.CcSampleIdeal.nD Cert.CcSampleIdeal.τ).loc Cert.CcSampleIdeal.main_arg0)
      ∧ r.2.mem ((c.tc : Thread Cert.CcSampleIdeal.nD Cert.CcSampleIdeal.τ).loc Cert.CcSampleIdeal.main_arg1) = m ((c.tc : Thread Cert.CcSampleIdeal.nD Cert.CcSampleIdeal.τ).loc Cert.CcSampleIdeal.main_arg1)
      ∧ r.2.mem ((c.tc : Thread Cert.CcSampleIdeal.nD Cert.CcSampleIdeal.τ).loc Cert.CcSampleIdeal.main_arg2) = m ((c.tc : Thread Cert.CcSampleIdeal.nD Cert.CcSampleIdeal.τ).loc Cert.CcSampleIdeal.main_arg2)
      ∧ r.2.mem ((c.tc : Thread Cert.CcSampleIdeal.nD Cert.CcSampleIdeal.τ).loc Cert.CcSampleIdeal.main_arg3) = m ((c.tc : Thread Cert.CcSampleIdeal.nD Cert.CcSampleIdeal.τ).loc Cert.CcSampleIdeal.main_arg3)
      ∧ r.2.mem ((c.tc : Thread Cert.CcSampleIdeal.nD Cert.CcSampleIdeal.τ).loc Cert.CcSampleIdeal.main_arg4) = m ((c.tc : Thread Cert.CcSampleIdeal.nD Cert.CcSampleIdeal.τ).loc Cert.CcSampleIdeal.main_arg4)
      ∧ r.2.mem ((c.tc : Thread Cert.CcSampleIdeal.nD Cert.CcSampleIdeal.τ).loc Cert.CcSampleIdeal.main_arg5) = m ((c.tc : Thread Cert.CcSampleIdeal.nD Cert.CcSampleIdeal.τ).loc Cert.CcSampleIdeal.main_arg5))
      ∧ r.2.sem = fun _ => 0)

def quiescent_CcSampleReferenceIdeal [hCcSampleReferenceIdeal : Cert.CcSampleReferenceIdeal.Facts] : Prop :=
  ∀ (m : (ℓ : Loc Cert.CcSampleReferenceIdeal.nD Cert.CcSampleReferenceIdeal.τ Cert.CcSampleReferenceIdeal.sig) → Buf (Elt Ideal) ℓ) (g : Dev Cert.CcSampleReferenceIdeal.nD → PrngReg), Pre_CcSampleReferenceIdeal m →
    θ_run (Cert.CcSampleReferenceIdeal.defs (F := Ideal)) (onTc (τ := Cert.CcSampleReferenceIdeal.τ) (Cert.CcSampleReferenceIdeal.main (F := Ideal))) ⟨m, fun _ => 0, g⟩ (fun r => (∀ c : Dev Cert.CcSampleReferenceIdeal.nD,
      r.2.mem ((c.tc : Thread Cert.CcSampleReferenceIdeal.nD Cert.CcSampleReferenceIdeal.τ).loc Cert.CcSampleReferenceIdeal.main_arg0) = m ((c.tc : Thread Cert.CcSampleReferenceIdeal.nD Cert.CcSampleReferenceIdeal.τ).loc Cert.CcSampleReferenceIdeal.main_arg0)
      ∧ r.2.mem ((c.tc : Thread Cert.CcSampleReferenceIdeal.nD Cert.CcSampleReferenceIdeal.τ).loc Cert.CcSampleReferenceIdeal.main_arg1) = m ((c.tc : Thread Cert.CcSampleReferenceIdeal.nD Cert.CcSampleReferenceIdeal.τ).loc Cert.CcSampleReferenceIdeal.main_arg1)
      ∧ r.2.mem ((c.tc : Thread Cert.CcSampleReferenceIdeal.nD Cert.CcSampleReferenceIdeal.τ).loc Cert.CcSampleReferenceIdeal.main_arg2) = m ((c.tc : Thread Cert.CcSampleReferenceIdeal.nD Cert.CcSampleReferenceIdeal.τ).loc Cert.CcSampleReferenceIdeal.main_arg2)
      ∧ r.2.mem ((c.tc : Thread Cert.CcSampleReferenceIdeal.nD Cert.CcSampleReferenceIdeal.τ).loc Cert.CcSampleReferenceIdeal.main_arg3) = m ((c.tc : Thread Cert.CcSampleReferenceIdeal.nD Cert.CcSampleReferenceIdeal.τ).loc Cert.CcSampleReferenceIdeal.main_arg3)
      ∧ r.2.mem ((c.tc : Thread Cert.CcSampleReferenceIdeal.nD Cert.CcSampleReferenceIdeal.τ).loc Cert.CcSampleReferenceIdeal.main_arg4) = m ((c.tc : Thread Cert.CcSampleReferenceIdeal.nD Cert.CcSampleReferenceIdeal.τ).loc Cert.CcSampleReferenceIdeal.main_arg4)
      ∧ r.2.mem ((c.tc : Thread Cert.CcSampleReferenceIdeal.nD Cert.CcSampleReferenceIdeal.τ).loc Cert.CcSampleReferenceIdeal.main_arg5) = m ((c.tc : Thread Cert.CcSampleReferenceIdeal.nD Cert.CcSampleReferenceIdeal.τ).loc Cert.CcSampleReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v36) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v57) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_ProjSsd_ProjSsdIdeal : Prop :=
  True

def algebraic_ProjSsdIdeal_ProjSsdReferenceIdeal [hProjSsdIdeal : Cert.ProjSsdIdeal.Facts] [hProjSsdReferenceIdeal : Cert.ProjSsdReferenceIdeal.Facts] : Prop :=
  ∀ (m : (ℓ : Loc Cert.ProjSsdIdeal.nD Cert.ProjSsdIdeal.τ Cert.ProjSsdIdeal.sig) → Buf (Elt Ideal) ℓ) (g : Dev Cert.ProjSsdIdeal.nD → PrngReg)
    (m' : (ℓ : Loc Cert.ProjSsdReferenceIdeal.nD Cert.ProjSsdReferenceIdeal.τ Cert.ProjSsdReferenceIdeal.sig) → Buf (Elt Ideal) ℓ) (g' : Dev Cert.ProjSsdReferenceIdeal.nD → PrngReg), Pre_ProjSsdIdeal m →
    (∀ c : Dev Cert.ProjSsdIdeal.nD,
      m' ((c.tc : Thread Cert.ProjSsdReferenceIdeal.nD Cert.ProjSsdReferenceIdeal.τ).loc Cert.ProjSsdReferenceIdeal.main_arg0) = m ((c.tc : Thread Cert.ProjSsdIdeal.nD Cert.ProjSsdIdeal.τ).loc Cert.ProjSsdIdeal.main_arg0)
      ∧ m' ((c.tc : Thread Cert.ProjSsdReferenceIdeal.nD Cert.ProjSsdReferenceIdeal.τ).loc Cert.ProjSsdReferenceIdeal.main_arg1) = m ((c.tc : Thread Cert.ProjSsdIdeal.nD Cert.ProjSsdIdeal.τ).loc Cert.ProjSsdIdeal.main_arg1)
      ∧ m' ((c.tc : Thread Cert.ProjSsdReferenceIdeal.nD Cert.ProjSsdReferenceIdeal.τ).loc Cert.ProjSsdReferenceIdeal.main_arg2) = m ((c.tc : Thread Cert.ProjSsdIdeal.nD Cert.ProjSsdIdeal.τ).loc Cert.ProjSsdIdeal.main_arg2)
      ∧ m' ((c.tc : Thread Cert.ProjSsdReferenceIdeal.nD Cert.ProjSsdReferenceIdeal.τ).loc Cert.ProjSsdReferenceIdeal.main_arg3) = m ((c.tc : Thread Cert.ProjSsdIdeal.nD Cert.ProjSsdIdeal.τ).loc Cert.ProjSsdIdeal.main_arg3)
      ∧ m' ((c.tc : Thread Cert.ProjSsdReferenceIdeal.nD Cert.ProjSsdReferenceIdeal.τ).loc Cert.ProjSsdReferenceIdeal.main_arg4) = m ((c.tc : Thread Cert.ProjSsdIdeal.nD Cert.ProjSsdIdeal.τ).loc Cert.ProjSsdIdeal.main_arg4)) →
    ∃ (v0 : (c : Dev Cert.ProjSsdIdeal.nD) → Buf (Elt Ideal) ((c.tc : Thread Cert.ProjSsdIdeal.nD Cert.ProjSsdIdeal.τ).loc Cert.ProjSsdIdeal.main_v0_0)) (v1 : (c : Dev Cert.ProjSsdIdeal.nD) → Buf (Elt Ideal) ((c.tc : Thread Cert.ProjSsdIdeal.nD Cert.ProjSsdIdeal.τ).loc Cert.ProjSsdIdeal.main_v0_1)) (v2 : (c : Dev Cert.ProjSsdIdeal.nD) → Buf (Elt Ideal) ((c.tc : Thread Cert.ProjSsdIdeal.nD Cert.ProjSsdIdeal.τ).loc Cert.ProjSsdIdeal.main_v0_2)),
      θ_run (Cert.ProjSsdIdeal.defs (F := Ideal)) (onTc (τ := Cert.ProjSsdIdeal.τ) (Cert.ProjSsdIdeal.main (F := Ideal))) ⟨m, fun _ => 0, g⟩ (fun r => ∀ c : Dev Cert.ProjSsdIdeal.nD,
          r.2.mem ((c.tc : Thread Cert.ProjSsdIdeal.nD Cert.ProjSsdIdeal.τ).loc Cert.ProjSsdIdeal.main_v0_0) = v0 c
          ∧ r.2.mem ((c.tc : Thread Cert.ProjSsdIdeal.nD Cert.ProjSsdIdeal.τ).loc Cert.ProjSsdIdeal.main_v0_1) = v1 c
          ∧ r.2.mem ((c.tc : Thread Cert.ProjSsdIdeal.nD Cert.ProjSsdIdeal.τ).loc Cert.ProjSsdIdeal.main_v0_2) = v2 c
          ∧ r.2.mem ((c.tc : Thread Cert.ProjSsdIdeal.nD Cert.ProjSsdIdeal.τ).loc Cert.ProjSsdIdeal.main_arg0) = m ((c.tc : Thread Cert.ProjSsdIdeal.nD Cert.ProjSsdIdeal.τ).loc Cert.ProjSsdIdeal.main_arg0)
          ∧ r.2.mem ((c.tc : Thread Cert.ProjSsdIdeal.nD Cert.ProjSsdIdeal.τ).loc Cert.ProjSsdIdeal.main_arg1) = m ((c.tc : Thread Cert.ProjSsdIdeal.nD Cert.ProjSsdIdeal.τ).loc Cert.ProjSsdIdeal.main_arg1)
          ∧ r.2.mem ((c.tc : Thread Cert.ProjSsdIdeal.nD Cert.ProjSsdIdeal.τ).loc Cert.ProjSsdIdeal.main_arg2) = m ((c.tc : Thread Cert.ProjSsdIdeal.nD Cert.ProjSsdIdeal.τ).loc Cert.ProjSsdIdeal.main_arg2)
          ∧ r.2.mem ((c.tc : Thread Cert.ProjSsdIdeal.nD Cert.ProjSsdIdeal.τ).loc Cert.ProjSsdIdeal.main_arg3) = m ((c.tc : Thread Cert.ProjSsdIdeal.nD Cert.ProjSsdIdeal.τ).loc Cert.ProjSsdIdeal.main_arg3)
          ∧ r.2.mem ((c.tc : Thread Cert.ProjSsdIdeal.nD Cert.ProjSsdIdeal.τ).loc Cert.ProjSsdIdeal.main_arg4) = m ((c.tc : Thread Cert.ProjSsdIdeal.nD Cert.ProjSsdIdeal.τ).loc Cert.ProjSsdIdeal.main_arg4))
      ∧ θ_run (Cert.ProjSsdReferenceIdeal.defs (F := Ideal)) (onTc (τ := Cert.ProjSsdReferenceIdeal.τ) (Cert.ProjSsdReferenceIdeal.main (F := Ideal))) ⟨m', fun _ => 0, g'⟩ (fun r => ∀ c : Dev Cert.ProjSsdReferenceIdeal.nD,
          r.2.mem ((c.tc : Thread Cert.ProjSsdReferenceIdeal.nD Cert.ProjSsdReferenceIdeal.τ).loc Cert.ProjSsdReferenceIdeal.main_v1) = v0 c
          ∧ r.2.mem ((c.tc : Thread Cert.ProjSsdReferenceIdeal.nD Cert.ProjSsdReferenceIdeal.τ).loc Cert.ProjSsdReferenceIdeal.main_v3) = v1 c
          ∧ r.2.mem ((c.tc : Thread Cert.ProjSsdReferenceIdeal.nD Cert.ProjSsdReferenceIdeal.τ).loc Cert.ProjSsdReferenceIdeal.main_v10) = v2 c
          ∧ r.2.mem ((c.tc : Thread Cert.ProjSsdReferenceIdeal.nD Cert.ProjSsdReferenceIdeal.τ).loc Cert.ProjSsdReferenceIdeal.main_arg0) = m' ((c.tc : Thread Cert.ProjSsdReferenceIdeal.nD Cert.ProjSsdReferenceIdeal.τ).loc Cert.ProjSsdReferenceIdeal.main_arg0)
          ∧ r.2.mem ((c.tc : Thread Cert.ProjSsdReferenceIdeal.nD Cert.ProjSsdReferenceIdeal.τ).loc Cert.ProjSsdReferenceIdeal.main_arg1) = m' ((c.tc : Thread Cert.ProjSsdReferenceIdeal.nD Cert.ProjSsdReferenceIdeal.τ).loc Cert.ProjSsdReferenceIdeal.main_arg1)
          ∧ r.2.mem ((c.tc : Thread Cert.ProjSsdReferenceIdeal.nD Cert.ProjSsdReferenceIdeal.τ).loc Cert.ProjSsdReferenceIdeal.main_arg2) = m' ((c.tc : Thread Cert.ProjSsdReferenceIdeal.nD Cert.ProjSsdReferenceIdeal.τ).loc Cert.ProjSsdReferenceIdeal.main_arg2)
          ∧ r.2.mem ((c.tc : Thread Cert.ProjSsdReferenceIdeal.nD Cert.ProjSsdReferenceIdeal.τ).loc Cert.ProjSsdReferenceIdeal.main_arg3) = m' ((c.tc : Thread Cert.ProjSsdReferenceIdeal.nD Cert.ProjSsdReferenceIdeal.τ).loc Cert.ProjSsdReferenceIdeal.main_arg3)
          ∧ r.2.mem ((c.tc : Thread Cert.ProjSsdReferenceIdeal.nD Cert.ProjSsdReferenceIdeal.τ).loc Cert.ProjSsdReferenceIdeal.main_arg4) = m' ((c.tc : Thread Cert.ProjSsdReferenceIdeal.nD Cert.ProjSsdReferenceIdeal.τ).loc Cert.ProjSsdReferenceIdeal.main_arg4))

def preserves_ProjMix_ProjMixIdeal : Prop :=
  True

def algebraic_ProjMixIdeal_ProjMixReferenceIdeal [hProjMixIdeal : Cert.ProjMixIdeal.Facts] [hProjMixReferenceIdeal : Cert.ProjMixReferenceIdeal.Facts] : Prop :=
  ∀ (m : (ℓ : Loc Cert.ProjMixIdeal.nD Cert.ProjMixIdeal.τ Cert.ProjMixIdeal.sig) → Buf (Elt Ideal) ℓ) (g : Dev Cert.ProjMixIdeal.nD → PrngReg)
    (m' : (ℓ : Loc Cert.ProjMixReferenceIdeal.nD Cert.ProjMixReferenceIdeal.τ Cert.ProjMixReferenceIdeal.sig) → Buf (Elt Ideal) ℓ) (g' : Dev Cert.ProjMixReferenceIdeal.nD → PrngReg), Pre_ProjMixIdeal m →
    (∀ c : Dev Cert.ProjMixIdeal.nD,
      m' ((c.tc : Thread Cert.ProjMixReferenceIdeal.nD Cert.ProjMixReferenceIdeal.τ).loc Cert.ProjMixReferenceIdeal.main_arg0) = m ((c.tc : Thread Cert.ProjMixIdeal.nD Cert.ProjMixIdeal.τ).loc Cert.ProjMixIdeal.main_arg0)
      ∧ m' ((c.tc : Thread Cert.ProjMixReferenceIdeal.nD Cert.ProjMixReferenceIdeal.τ).loc Cert.ProjMixReferenceIdeal.main_arg1) = m ((c.tc : Thread Cert.ProjMixIdeal.nD Cert.ProjMixIdeal.τ).loc Cert.ProjMixIdeal.main_arg1)
      ∧ m' ((c.tc : Thread Cert.ProjMixReferenceIdeal.nD Cert.ProjMixReferenceIdeal.τ).loc Cert.ProjMixReferenceIdeal.main_arg2) = m ((c.tc : Thread Cert.ProjMixIdeal.nD Cert.ProjMixIdeal.τ).loc Cert.ProjMixIdeal.main_arg2)
      ∧ m' ((c.tc : Thread Cert.ProjMixReferenceIdeal.nD Cert.ProjMixReferenceIdeal.τ).loc Cert.ProjMixReferenceIdeal.main_arg3) = m ((c.tc : Thread Cert.ProjMixIdeal.nD Cert.ProjMixIdeal.τ).loc Cert.ProjMixIdeal.main_arg3)
      ∧ m' ((c.tc : Thread Cert.ProjMixReferenceIdeal.nD Cert.ProjMixReferenceIdeal.τ).loc Cert.ProjMixReferenceIdeal.main_arg4) = m ((c.tc : Thread Cert.ProjMixIdeal.nD Cert.ProjMixIdeal.τ).loc Cert.ProjMixIdeal.main_arg4)
      ∧ m' ((c.tc : Thread Cert.ProjMixReferenceIdeal.nD Cert.ProjMixReferenceIdeal.τ).loc Cert.ProjMixReferenceIdeal.main_arg5) = m ((c.tc : Thread Cert.ProjMixIdeal.nD Cert.ProjMixIdeal.τ).loc Cert.ProjMixIdeal.main_arg5)) →
    ∃ (v0 : (c : Dev Cert.ProjMixIdeal.nD) → Buf (Elt Ideal) ((c.tc : Thread Cert.ProjMixIdeal.nD Cert.ProjMixIdeal.τ).loc Cert.ProjMixIdeal.main_v28_0)) (v1 : (c : Dev Cert.ProjMixIdeal.nD) → Buf (Elt Ideal) ((c.tc : Thread Cert.ProjMixIdeal.nD Cert.ProjMixIdeal.τ).loc Cert.ProjMixIdeal.main_v28_1)) (v2 : (c : Dev Cert.ProjMixIdeal.nD) → Buf (Elt Ideal) ((c.tc : Thread Cert.ProjMixIdeal.nD Cert.ProjMixIdeal.τ).loc Cert.ProjMixIdeal.main_v28_2)) (v3 : (c : Dev Cert.ProjMixIdeal.nD) → Buf (Elt Ideal) ((c.tc : Thread Cert.ProjMixIdeal.nD Cert.ProjMixIdeal.τ).loc Cert.ProjMixIdeal.main_v28_3)),
      θ_run (Cert.ProjMixIdeal.defs (F := Ideal)) (onTc (τ := Cert.ProjMixIdeal.τ) (Cert.ProjMixIdeal.main (F := Ideal))) ⟨m, fun _ => 0, g⟩ (fun r => ∀ c : Dev Cert.ProjMixIdeal.nD,
          r.2.mem ((c.tc : Thread Cert.ProjMixIdeal.nD Cert.ProjMixIdeal.τ).loc Cert.ProjMixIdeal.main_v28_0) = v0 c
          ∧ r.2.mem ((c.tc : Thread Cert.ProjMixIdeal.nD Cert.ProjMixIdeal.τ).loc Cert.ProjMixIdeal.main_v28_1) = v1 c
          ∧ r.2.mem ((c.tc : Thread Cert.ProjMixIdeal.nD Cert.ProjMixIdeal.τ).loc Cert.ProjMixIdeal.main_v28_2) = v2 c
          ∧ r.2.mem ((c.tc : Thread Cert.ProjMixIdeal.nD Cert.ProjMixIdeal.τ).loc Cert.ProjMixIdeal.main_v28_3) = v3 c
          ∧ r.2.mem ((c.tc : Thread Cert.ProjMixIdeal.nD Cert.ProjMixIdeal.τ).loc Cert.ProjMixIdeal.main_arg0) = m ((c.tc : Thread Cert.ProjMixIdeal.nD Cert.ProjMixIdeal.τ).loc Cert.ProjMixIdeal.main_arg0)
          ∧ r.2.mem ((c.tc : Thread Cert.ProjMixIdeal.nD Cert.ProjMixIdeal.τ).loc Cert.ProjMixIdeal.main_arg1) = m ((c.tc : Thread Cert.ProjMixIdeal.nD Cert.ProjMixIdeal.τ).loc Cert.ProjMixIdeal.main_arg1)
          ∧ r.2.mem ((c.tc : Thread Cert.ProjMixIdeal.nD Cert.ProjMixIdeal.τ).loc Cert.ProjMixIdeal.main_arg2) = m ((c.tc : Thread Cert.ProjMixIdeal.nD Cert.ProjMixIdeal.τ).loc Cert.ProjMixIdeal.main_arg2)
          ∧ r.2.mem ((c.tc : Thread Cert.ProjMixIdeal.nD Cert.ProjMixIdeal.τ).loc Cert.ProjMixIdeal.main_arg3) = m ((c.tc : Thread Cert.ProjMixIdeal.nD Cert.ProjMixIdeal.τ).loc Cert.ProjMixIdeal.main_arg3)
          ∧ r.2.mem ((c.tc : Thread Cert.ProjMixIdeal.nD Cert.ProjMixIdeal.τ).loc Cert.ProjMixIdeal.main_arg4) = m ((c.tc : Thread Cert.ProjMixIdeal.nD Cert.ProjMixIdeal.τ).loc Cert.ProjMixIdeal.main_arg4)
          ∧ r.2.mem ((c.tc : Thread Cert.ProjMixIdeal.nD Cert.ProjMixIdeal.τ).loc Cert.ProjMixIdeal.main_arg5) = m ((c.tc : Thread Cert.ProjMixIdeal.nD Cert.ProjMixIdeal.τ).loc Cert.ProjMixIdeal.main_arg5))
      ∧ θ_run (Cert.ProjMixReferenceIdeal.defs (F := Ideal)) (onTc (τ := Cert.ProjMixReferenceIdeal.τ) (Cert.ProjMixReferenceIdeal.main (F := Ideal))) ⟨m', fun _ => 0, g'⟩ (fun r => ∀ c : Dev Cert.ProjMixReferenceIdeal.nD,
          r.2.mem ((c.tc : Thread Cert.ProjMixReferenceIdeal.nD Cert.ProjMixReferenceIdeal.τ).loc Cert.ProjMixReferenceIdeal.main_v87) = v0 c
          ∧ r.2.mem ((c.tc : Thread Cert.ProjMixReferenceIdeal.nD Cert.ProjMixReferenceIdeal.τ).loc Cert.ProjMixReferenceIdeal.main_v88) = v1 c
          ∧ r.2.mem ((c.tc : Thread Cert.ProjMixReferenceIdeal.nD Cert.ProjMixReferenceIdeal.τ).loc Cert.ProjMixReferenceIdeal.main_v72) = v2 c
          ∧ r.2.mem ((c.tc : Thread Cert.ProjMixReferenceIdeal.nD Cert.ProjMixReferenceIdeal.τ).loc Cert.ProjMixReferenceIdeal.main_v83) = v3 c
          ∧ r.2.mem ((c.tc : Thread Cert.ProjMixReferenceIdeal.nD Cert.ProjMixReferenceIdeal.τ).loc Cert.ProjMixReferenceIdeal.main_arg0) = m' ((c.tc : Thread Cert.ProjMixReferenceIdeal.nD Cert.ProjMixReferenceIdeal.τ).loc Cert.ProjMixReferenceIdeal.main_arg0)
          ∧ r.2.mem ((c.tc : Thread Cert.ProjMixReferenceIdeal.nD Cert.ProjMixReferenceIdeal.τ).loc Cert.ProjMixReferenceIdeal.main_arg1) = m' ((c.tc : Thread Cert.ProjMixReferenceIdeal.nD Cert.ProjMixReferenceIdeal.τ).loc Cert.ProjMixReferenceIdeal.main_arg1)
          ∧ r.2.mem ((c.tc : Thread Cert.ProjMixReferenceIdeal.nD Cert.ProjMixReferenceIdeal.τ).loc Cert.ProjMixReferenceIdeal.main_arg2) = m' ((c.tc : Thread Cert.ProjMixReferenceIdeal.nD Cert.ProjMixReferenceIdeal.τ).loc Cert.ProjMixReferenceIdeal.main_arg2)
          ∧ r.2.mem ((c.tc : Thread Cert.ProjMixReferenceIdeal.nD Cert.ProjMixReferenceIdeal.τ).loc Cert.ProjMixReferenceIdeal.main_arg3) = m' ((c.tc : Thread Cert.ProjMixReferenceIdeal.nD Cert.ProjMixReferenceIdeal.τ).loc Cert.ProjMixReferenceIdeal.main_arg3)
          ∧ r.2.mem ((c.tc : Thread Cert.ProjMixReferenceIdeal.nD Cert.ProjMixReferenceIdeal.τ).loc Cert.ProjMixReferenceIdeal.main_arg4) = m' ((c.tc : Thread Cert.ProjMixReferenceIdeal.nD Cert.ProjMixReferenceIdeal.τ).loc Cert.ProjMixReferenceIdeal.main_arg4)
          ∧ r.2.mem ((c.tc : Thread Cert.ProjMixReferenceIdeal.nD Cert.ProjMixReferenceIdeal.τ).loc Cert.ProjMixReferenceIdeal.main_arg5) = m' ((c.tc : Thread Cert.ProjMixReferenceIdeal.nD Cert.ProjMixReferenceIdeal.τ).loc Cert.ProjMixReferenceIdeal.main_arg5))

def preserves_CcSample_CcSampleIdeal : Prop :=
  True

def algebraic_CcSampleIdeal_CcSampleReferenceIdeal [hCcSampleIdeal : Cert.CcSampleIdeal.Facts] [hCcSampleReferenceIdeal : Cert.CcSampleReferenceIdeal.Facts] : Prop :=
  ∀ (m : (ℓ : Loc Cert.CcSampleIdeal.nD Cert.CcSampleIdeal.τ Cert.CcSampleIdeal.sig) → Buf (Elt Ideal) ℓ) (g : Dev Cert.CcSampleIdeal.nD → PrngReg)
    (m' : (ℓ : Loc Cert.CcSampleReferenceIdeal.nD Cert.CcSampleReferenceIdeal.τ Cert.CcSampleReferenceIdeal.sig) → Buf (Elt Ideal) ℓ) (g' : Dev Cert.CcSampleReferenceIdeal.nD → PrngReg), Pre_CcSampleIdeal m →
    (∀ c : Dev Cert.CcSampleIdeal.nD,
      m' ((c.tc : Thread Cert.CcSampleReferenceIdeal.nD Cert.CcSampleReferenceIdeal.τ).loc Cert.CcSampleReferenceIdeal.main_arg0) = m ((c.tc : Thread Cert.CcSampleIdeal.nD Cert.CcSampleIdeal.τ).loc Cert.CcSampleIdeal.main_arg0)
      ∧ m' ((c.tc : Thread Cert.CcSampleReferenceIdeal.nD Cert.CcSampleReferenceIdeal.τ).loc Cert.CcSampleReferenceIdeal.main_arg1) = m ((c.tc : Thread Cert.CcSampleIdeal.nD Cert.CcSampleIdeal.τ).loc Cert.CcSampleIdeal.main_arg1)
      ∧ m' ((c.tc : Thread Cert.CcSampleReferenceIdeal.nD Cert.CcSampleReferenceIdeal.τ).loc Cert.CcSampleReferenceIdeal.main_arg2) = m ((c.tc : Thread Cert.CcSampleIdeal.nD Cert.CcSampleIdeal.τ).loc Cert.CcSampleIdeal.main_arg2)
      ∧ m' ((c.tc : Thread Cert.CcSampleReferenceIdeal.nD Cert.CcSampleReferenceIdeal.τ).loc Cert.CcSampleReferenceIdeal.main_arg3) = m ((c.tc : Thread Cert.CcSampleIdeal.nD Cert.CcSampleIdeal.τ).loc Cert.CcSampleIdeal.main_arg3)
      ∧ m' ((c.tc : Thread Cert.CcSampleReferenceIdeal.nD Cert.CcSampleReferenceIdeal.τ).loc Cert.CcSampleReferenceIdeal.main_arg4) = m ((c.tc : Thread Cert.CcSampleIdeal.nD Cert.CcSampleIdeal.τ).loc Cert.CcSampleIdeal.main_arg4)
      ∧ m' ((c.tc : Thread Cert.CcSampleReferenceIdeal.nD Cert.CcSampleReferenceIdeal.τ).loc Cert.CcSampleReferenceIdeal.main_arg5) = m ((c.tc : Thread Cert.CcSampleIdeal.nD Cert.CcSampleIdeal.τ).loc Cert.CcSampleIdeal.main_arg5)) →
    ∃ (v0 : (c : Dev Cert.CcSampleIdeal.nD) → Buf (Elt Ideal) ((c.tc : Thread Cert.CcSampleIdeal.nD Cert.CcSampleIdeal.τ).loc Cert.CcSampleIdeal.main_v2)),
      θ_run (Cert.CcSampleIdeal.defs (F := Ideal)) (onTc (τ := Cert.CcSampleIdeal.τ) (Cert.CcSampleIdeal.main (F := Ideal))) ⟨m, fun _ => 0, g⟩ (fun r => ∀ c : Dev Cert.CcSampleIdeal.nD,
          r.2.mem ((c.tc : Thread Cert.CcSampleIdeal.nD Cert.CcSampleIdeal.τ).loc Cert.CcSampleIdeal.main_v2) = v0 c
          ∧ r.2.mem ((c.tc : Thread Cert.CcSampleIdeal.nD Cert.CcSampleIdeal.τ).loc Cert.CcSampleIdeal.main_arg0) = m ((c.tc : Thread Cert.CcSampleIdeal.nD Cert.CcSampleIdeal.τ).loc Cert.CcSampleIdeal.main_arg0)
          ∧ r.2.mem ((c.tc : Thread Cert.CcSampleIdeal.nD Cert.CcSampleIdeal.τ).loc Cert.CcSampleIdeal.main_arg1) = m ((c.tc : Thread Cert.CcSampleIdeal.nD Cert.CcSampleIdeal.τ).loc Cert.CcSampleIdeal.main_arg1)
          ∧ r.2.mem ((c.tc : Thread Cert.CcSampleIdeal.nD Cert.CcSampleIdeal.τ).loc Cert.CcSampleIdeal.main_arg2) = m ((c.tc : Thread Cert.CcSampleIdeal.nD Cert.CcSampleIdeal.τ).loc Cert.CcSampleIdeal.main_arg2)
          ∧ r.2.mem ((c.tc : Thread Cert.CcSampleIdeal.nD Cert.CcSampleIdeal.τ).loc Cert.CcSampleIdeal.main_arg3) = m ((c.tc : Thread Cert.CcSampleIdeal.nD Cert.CcSampleIdeal.τ).loc Cert.CcSampleIdeal.main_arg3)
          ∧ r.2.mem ((c.tc : Thread Cert.CcSampleIdeal.nD Cert.CcSampleIdeal.τ).loc Cert.CcSampleIdeal.main_arg4) = m ((c.tc : Thread Cert.CcSampleIdeal.nD Cert.CcSampleIdeal.τ).loc Cert.CcSampleIdeal.main_arg4)
          ∧ r.2.mem ((c.tc : Thread Cert.CcSampleIdeal.nD Cert.CcSampleIdeal.τ).loc Cert.CcSampleIdeal.main_arg5) = m ((c.tc : Thread Cert.CcSampleIdeal.nD Cert.CcSampleIdeal.τ).loc Cert.CcSampleIdeal.main_arg5))
      ∧ θ_run (Cert.CcSampleReferenceIdeal.defs (F := Ideal)) (onTc (τ := Cert.CcSampleReferenceIdeal.τ) (Cert.CcSampleReferenceIdeal.main (F := Ideal))) ⟨m', fun _ => 0, g'⟩ (fun r => ∀ c : Dev Cert.CcSampleReferenceIdeal.nD,
          r.2.mem ((c.tc : Thread Cert.CcSampleReferenceIdeal.nD Cert.CcSampleReferenceIdeal.τ).loc Cert.CcSampleReferenceIdeal.main_v100) = v0 c
          ∧ r.2.mem ((c.tc : Thread Cert.CcSampleReferenceIdeal.nD Cert.CcSampleReferenceIdeal.τ).loc Cert.CcSampleReferenceIdeal.main_arg0) = m' ((c.tc : Thread Cert.CcSampleReferenceIdeal.nD Cert.CcSampleReferenceIdeal.τ).loc Cert.CcSampleReferenceIdeal.main_arg0)
          ∧ r.2.mem ((c.tc : Thread Cert.CcSampleReferenceIdeal.nD Cert.CcSampleReferenceIdeal.τ).loc Cert.CcSampleReferenceIdeal.main_arg1) = m' ((c.tc : Thread Cert.CcSampleReferenceIdeal.nD Cert.CcSampleReferenceIdeal.τ).loc Cert.CcSampleReferenceIdeal.main_arg1)
          ∧ r.2.mem ((c.tc : Thread Cert.CcSampleReferenceIdeal.nD Cert.CcSampleReferenceIdeal.τ).loc Cert.CcSampleReferenceIdeal.main_arg2) = m' ((c.tc : Thread Cert.CcSampleReferenceIdeal.nD Cert.CcSampleReferenceIdeal.τ).loc Cert.CcSampleReferenceIdeal.main_arg2)
          ∧ r.2.mem ((c.tc : Thread Cert.CcSampleReferenceIdeal.nD Cert.CcSampleReferenceIdeal.τ).loc Cert.CcSampleReferenceIdeal.main_arg3) = m' ((c.tc : Thread Cert.CcSampleReferenceIdeal.nD Cert.CcSampleReferenceIdeal.τ).loc Cert.CcSampleReferenceIdeal.main_arg3)
          ∧ r.2.mem ((c.tc : Thread Cert.CcSampleReferenceIdeal.nD Cert.CcSampleReferenceIdeal.τ).loc Cert.CcSampleReferenceIdeal.main_arg4) = m' ((c.tc : Thread Cert.CcSampleReferenceIdeal.nD Cert.CcSampleReferenceIdeal.τ).loc Cert.CcSampleReferenceIdeal.main_arg4)
          ∧ r.2.mem ((c.tc : Thread Cert.CcSampleReferenceIdeal.nD Cert.CcSampleReferenceIdeal.τ).loc Cert.CcSampleReferenceIdeal.main_arg5) = m' ((c.tc : Thread Cert.CcSampleReferenceIdeal.nD Cert.CcSampleReferenceIdeal.τ).loc Cert.CcSampleReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProjSsd : Cert.ProjSsd.Facts) (hProjSsdIdeal : Cert.ProjSsdIdeal.Facts) (hProjSsdReferenceIdeal : Cert.ProjSsdReferenceIdeal.Facts) (hProjMix : Cert.ProjMix.Facts) (hProjMixIdeal : Cert.ProjMixIdeal.Facts) (hProjMixReferenceIdeal : Cert.ProjMixReferenceIdeal.Facts) (hCcSample : Cert.CcSample.Facts) (hCcSampleIdeal : Cert.CcSampleIdeal.Facts) (hCcSampleReferenceIdeal : Cert.CcSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ProjSsd (hProjSsd := hProjSsd)
    ∧ quiescent_ProjSsdIdeal (hProjSsdIdeal := hProjSsdIdeal)
    ∧ quiescent_ProjSsdReferenceIdeal (hProjSsdReferenceIdeal := hProjSsdReferenceIdeal)
    ∧ quiescent_ProjMix (hProjMix := hProjMix)
    ∧ quiescent_ProjMixIdeal (hProjMixIdeal := hProjMixIdeal)
    ∧ quiescent_ProjMixReferenceIdeal (hProjMixReferenceIdeal := hProjMixReferenceIdeal)
    ∧ quiescent_CcSample (hCcSample := hCcSample)
    ∧ quiescent_CcSampleIdeal (hCcSampleIdeal := hCcSampleIdeal)
    ∧ quiescent_CcSampleReferenceIdeal (hCcSampleReferenceIdeal := hCcSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_ProjSsd_ProjSsdIdeal
    ∧ algebraic_ProjSsdIdeal_ProjSsdReferenceIdeal (hProjSsdIdeal := hProjSsdIdeal) (hProjSsdReferenceIdeal := hProjSsdReferenceIdeal)
    ∧ preserves_ProjMix_ProjMixIdeal
    ∧ algebraic_ProjMixIdeal_ProjMixReferenceIdeal (hProjMixIdeal := hProjMixIdeal) (hProjMixReferenceIdeal := hProjMixReferenceIdeal)
    ∧ preserves_CcSample_CcSampleIdeal
    ∧ algebraic_CcSampleIdeal_CcSampleReferenceIdeal (hCcSampleIdeal := hCcSampleIdeal) (hCcSampleReferenceIdeal := hCcSampleReferenceIdeal)
-- ==== Pre_finite.lean ====
abbrev S1 : Shape := ⟨1, ![1]⟩
abbrev S16512x1024 : Shape := ⟨2, ![16512, 1024]⟩
abbrev S1x128 : Shape := ⟨2, ![1, 128]⟩
abbrev S_ : Shape := ⟨0, ![]⟩

class Facts : Prop where
  bitsLt_bf16_f32 : FTy.bits .bf16 < FTy.bits .f32
  bcast_S_S16512x1024 : S_.BroadcastsInDim S16512x1024 (![] : Fin 0 → Fin S16512x1024.rank)

variable [Facts]

def fn {F : FTy → Type} [FloatOps F] (main_arg0 : FVec F S1 .f32) (main_arg1 : FVec F S16512x1024 .bf16) (main_arg2 : FVec F S16512x1024 .f32) (main_arg3 : FVec F S16512x1024 .f32) (main_arg4 : FVec F S1x128 .f32) : IVec S16512x1024 1 :=
  let main_v0 : FVec F S16512x1024 .f32 := (extf .f32 · bitsLt_bf16_f32) main_arg1
  let main_v1 : FVec F S16512x1024 .f32 := Host.absf main_v0
  let main_cst : FVec F S_ .f32 := constant S_ .f32 0x7F800000#32
  let main_v2 : FVec F S16512x1024 .f32 := broadcastInDim S16512x1024 ![] bcast_S_S16512x1024 main_cst
  let main_v3 : IVec S16512x1024 1 := cmpf .olt main_v1 main_v2
  let main_v4 : FVec F S16512x1024 .f32 := Host.absf main_arg2
  let main_cst_0 : FVec F S_ .f32 := constant S_ .f32 0x7F800000#32
  let main_v5 : FVec F S16512x1024 .f32 := broadcastInDim S16512x1024 ![] bcast_S_S16512x1024 main_cst_0
  let main_v6 : IVec S16512x1024 1 := cmpf .olt main_v4 main_v5
  let main_v7 : IVec S16512x1024 1 := andi main_v3 main_v6
  main_v7
-- ==== Kernel.lean ====
abbrev S1 : Shape := ⟨1, ![1]⟩
abbrev S16512x1024 : Shape := ⟨2, ![16512, 1024]⟩
abbrev S1x128 : Shape := ⟨2, ![1, 128]⟩
abbrev S2064x128 : Shape := ⟨2, ![2064, 128]⟩
abbrev S128x128 : Shape := ⟨2, ![128, 128]⟩
abbrev S16x128 : Shape := ⟨2, ![16, 128]⟩
abbrev S32x128 : Shape := ⟨2, ![32, 128]⟩
abbrev S32 : Shape := ⟨1, ![32]⟩
abbrev S32x1 : Shape := ⟨2, ![32, 1]⟩
abbrev S16 : Shape := ⟨1, ![16]⟩
abbrev S16x1 : Shape := ⟨2, ![16, 1]⟩
abbrev S256x128 : Shape := ⟨2, ![256, 128]⟩
abbrev S256 : Shape := ⟨1, ![256]⟩
abbrev S256x1 : Shape := ⟨2, ![256, 1]⟩
abbrev S128 : Shape := ⟨1, ![128]⟩
abbrev S128x1 : Shape := ⟨2, ![128, 1]⟩
abbrev S256x256 : Shape := ⟨2, ![256, 256]⟩
abbrev S128x256 : Shape := ⟨2, ![128, 256]⟩
abbrev S384x128 : Shape := ⟨2, ![384, 128]⟩
abbrev S256x384 : Shape := ⟨2, ![256, 384]⟩
abbrev S128x384 : Shape := ⟨2, ![128, 384]⟩
abbrev S512x128 : Shape := ⟨2, ![512, 128]⟩
abbrev S256x512 : Shape := ⟨2, ![256, 512]⟩
abbrev S128x512 : Shape := ⟨2, ![128, 512]⟩
abbrev S640x128 : Shape := ⟨2, ![640, 128]⟩
abbrev S256x640 : Shape := ⟨2, ![256, 640]⟩
abbrev S128x640 : Shape := ⟨2, ![128, 640]⟩
abbrev S768x128 : Shape := ⟨2, ![768, 128]⟩
abbrev S256x768 : Shape := ⟨2, ![256, 768]⟩
abbrev S128x768 : Shape := ⟨2, ![128, 768]⟩
abbrev S896x128 : Shape := ⟨2, ![896, 128]⟩
abbrev S256x896 : Shape := ⟨2, ![256, 896]⟩
abbrev S128x896 : Shape := ⟨2, ![128, 896]⟩
abbrev S1024x128 : Shape := ⟨2, ![1024, 128]⟩
abbrev S256x1024 : Shape := ⟨2, ![256, 1024]⟩
abbrev S128x1024 : Shape := ⟨2, ![128, 1024]⟩
abbrev S1152x128 : Shape := ⟨2, ![1152, 128]⟩
abbrev S256x1152 : Shape := ⟨2, ![256, 1152]⟩
abbrev S128x1152 : Shape := ⟨2, ![128, 1152]⟩
abbrev S1280x128 : Shape := ⟨2, ![1280, 128]⟩
abbrev S256x1280 : Shape := ⟨2, ![256, 1280]⟩
abbrev S128x1280 : Shape := ⟨2, ![128, 1280]⟩
abbrev S1408x128 : Shape := ⟨2, ![1408, 128]⟩
abbrev S256x1408 : Shape := ⟨2, ![256, 1408]⟩
abbrev S128x1408 : Shape := ⟨2, ![128, 1408]⟩
abbrev S1536x128 : Shape := ⟨2, ![1536, 128]⟩
abbrev S256x1536 : Shape := ⟨2, ![256, 1536]⟩
abbrev S128x1536 : Shape := ⟨2, ![128, 1536]⟩
abbrev S1664x128 : Shape := ⟨2, ![1664, 128]⟩
abbrev S256x1664 : Shape := ⟨2, ![256, 1664]⟩
abbrev S128x1664 : Shape := ⟨2, ![128, 1664]⟩
abbrev S1792x128 : Shape := ⟨2, ![1792, 128]⟩
abbrev S256x1792 : Shape := ⟨2, ![256, 1792]⟩
abbrev S128x1792 : Shape := ⟨2, ![128, 1792]⟩
abbrev S1920x128 : Shape := ⟨2, ![1920, 128]⟩
abbrev S256x1920 : Shape := ⟨2, ![256, 1920]⟩
abbrev S128x1920 : Shape := ⟨2, ![128, 1920]⟩
abbrev S2048x128 : Shape := ⟨2, ![2048, 128]⟩
abbrev S256x2048 : Shape := ⟨2, ![256, 2048]⟩
abbrev S128x2048 : Shape := ⟨2, ![128, 2048]⟩

abbrev nBuf : Space → Nat
  | .hbm => 6
  | .vmem => 11
  | .smem => 1
  | _ => 0

abbrev bufTy : (tb : Table) → Fin (tcTables nBuf tb) → BufTy
  | .hbm, ⟨0, _⟩ => ⟨S1, .f32⟩
  | .hbm, ⟨1, _⟩ => ⟨S16512x1024, .bf16⟩
  | .hbm, ⟨2, _⟩ => ⟨S16512x1024, .f32⟩
  | .hbm, ⟨3, _⟩ => ⟨S16512x1024, .f32⟩
  | .hbm, ⟨4, _⟩ => ⟨S1x128, .f32⟩
  | .hbm, ⟨5, _⟩ => ⟨S16512x1024, .bf16⟩
  | .local _ .vmem, ⟨0, _⟩ => ⟨S2064x128, .bf16⟩
  | .local _ .vmem, ⟨1, _⟩ => ⟨S2064x128, .bf16⟩
  | .local _ .vmem, ⟨2, _⟩ => ⟨S2064x128, .f32⟩
  | .local _ .vmem, ⟨3, _⟩ => ⟨S2064x128, .f32⟩
  | .local _ .vmem, ⟨4, _⟩ => ⟨S2064x128, .f32⟩
  | .local _ .vmem, ⟨5, _⟩ => ⟨S2064x128, .f32⟩
  | .local _ .vmem, ⟨6, _⟩ => ⟨S1x128, .f32⟩
  | .local _ .vmem, ⟨7, _⟩ => ⟨S2064x128, .bf16⟩
  | .local _ .vmem, ⟨8, _⟩ => ⟨S2064x128, .bf16⟩
  | .local _ .vmem, ⟨9, _⟩ => ⟨S2064x128, .bf16⟩
  | .local _ .vmem, ⟨10, _⟩ => ⟨S2064x128, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1 : Shape := ⟨1, ![1]⟩
abbrev S16512x1024 : Shape := ⟨2, ![16512, 1024]⟩
abbrev S1x128 : Shape := ⟨2, ![1, 128]⟩
abbrev S8x2064x8x2x64 : Shape := ⟨5, ![8, 2064, 8, 2, 64]⟩
abbrev S8x2064x8x128 : Shape := ⟨4, ![8, 2064, 8, 128]⟩
abbrev S2064 : Shape := ⟨1, ![2064]⟩
abbrev S8x8x2x2064x2064 : Shape := ⟨5, ![8, 8, 2, 2064, 2064]⟩
abbrev S1x2064 : Shape := ⟨2, ![1, 2064]⟩
abbrev S2064x1 : Shape := ⟨2, ![2064, 1]⟩
abbrev S2064x2064 : Shape := ⟨2, ![2064, 2064]⟩
abbrev S1x1x1x2064x2064 : Shape := ⟨5, ![1, 1, 1, 2064, 2064]⟩
abbrev S_ : Shape := ⟨0, ![]⟩
abbrev S8x8x2x2064 : Shape := ⟨4, ![8, 8, 2, 2064]⟩
abbrev S8x8x2x2064x1 : Shape := ⟨5, ![8, 8, 2, 2064, 1]⟩
abbrev S8x8x1x2064x2064 : Shape := ⟨5, ![8, 8, 1, 2064, 2064]⟩
abbrev S8x8x2064x2064 : Shape := ⟨4, ![8, 8, 2064, 2064]⟩
abbrev S8x8x128x2064 : Shape := ⟨4, ![8, 8, 128, 2064]⟩
abbrev S8x2064x8 : Shape := ⟨3, ![8, 2064, 8]⟩
abbrev S8x2064x8x1 : Shape := ⟨4, ![8, 2064, 8, 1]⟩
abbrev S128 : Shape := ⟨1, ![128]⟩
abbrev S1x1x1x128 : Shape := ⟨4, ![1, 1, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S1, .f32⟩
  | .hbm, ⟨1, _⟩ => ⟨S16512x1024, .bf16⟩
  | .hbm, ⟨2, _⟩ => ⟨S16512x1024, .f32⟩
  | .hbm, ⟨3, _⟩ => ⟨S16512x1024, .f32⟩
  | .hbm, ⟨4, _⟩ => ⟨S1x128, .f32⟩
  | .hbm, ⟨5, _⟩ => ⟨S16512x1024, .f32⟩
  | .hbm, ⟨6, _⟩ => ⟨S8x2064x8x2x64, .f32⟩
  | .hbm, ⟨7, _⟩ => ⟨S8x2064x8x2x64, .f32⟩
  | .hbm, ⟨8, _⟩ => ⟨S8x2064x8x128, .f32⟩
  | .hbm, ⟨9, _⟩ => ⟨S2064, .i32⟩
  | .hbm, ⟨10, _⟩ => ⟨S8x8x2x2064x2064, .f32⟩
  | .hbm, ⟨11, _⟩ => ⟨S1x2064, .i32⟩
  | .hbm, ⟨12, _⟩ => ⟨S2064x1, .i32⟩
  | .hbm, ⟨13, _⟩ => ⟨S2064x2064, .i32⟩
  | .hbm, ⟨14, _⟩ => ⟨S2064x2064, .i32⟩
  | .hbm, ⟨15, _⟩ => ⟨S2064x2064, .i1⟩
  | .hbm, ⟨16, _⟩ => ⟨S1x1x1x2064x2064, .i1⟩
  | .hbm, ⟨17, _⟩ => ⟨S_, .f32⟩
  | .hbm, ⟨18, _⟩ => ⟨S_, .f32⟩
  | .hbm, ⟨19, _⟩ => ⟨S8x8x2x2064x2064, .i1⟩
  | .hbm, ⟨20, _⟩ => ⟨S8x8x2x2064x2064, .f32⟩
  | .hbm, ⟨21, _⟩ => ⟨S8x8x2x2064x2064, .f32⟩
  | .hbm, ⟨22, _⟩ => ⟨S_, .f32⟩
  | .hbm, ⟨23, _⟩ => ⟨S8x8x2x2064, .f32⟩
  | .hbm, ⟨24, _⟩ => ⟨S_, .f32⟩
  | .hbm, ⟨25, _⟩ => ⟨S8x8x2x2064, .f32⟩
  | .hbm, ⟨26, _⟩ => ⟨S8x8x2x2064, .f32⟩
  | .hbm, ⟨27, _⟩ => ⟨S8x8x2x2064x1, .f32⟩
  | .hbm, ⟨28, _⟩ => ⟨S8x8x2x2064x2064, .f32⟩
  | .hbm, ⟨29, _⟩ => ⟨S8x8x2x2064x2064, .f32⟩
  | .hbm, ⟨30, _⟩ => ⟨S8x8x2x2064x2064, .f32⟩
  | .hbm, ⟨31, _⟩ => ⟨S_, .f32⟩
  | .hbm, ⟨32, _⟩ => ⟨S8x8x2x2064, .f32⟩
  | .hbm, ⟨33, _⟩ => ⟨S8x8x2x2064x1, .f32⟩
  | .hbm, ⟨34, _⟩ => ⟨S8x8x2x2064x2064, .f32⟩
  | .hbm, ⟨35, _⟩ => ⟨S8x8x2x2064x2064, .f32⟩
  | .hbm, ⟨36, _⟩ => ⟨S8x8x1x2064x2064, .f32⟩
  | .hbm, ⟨37, _⟩ => ⟨S8x8x2064x2064, .f32⟩
  | .hbm, ⟨38, _⟩ => ⟨S_, .f32⟩
  | .hbm, ⟨39, _⟩ => ⟨S8x8x1x2064x2064, .f32⟩
  | .hbm, ⟨40, _⟩ => ⟨S8x8x2064x2064, .f32⟩
  | .hbm, ⟨41, _⟩ => ⟨S8x8x2064x2064, .f32⟩
  | .hbm, ⟨42, _⟩ => ⟨S8x8x2064x2064, .f32⟩
  | .hbm, ⟨43, _⟩ => ⟨S8x8x2064x2064, .f32⟩
  | .hbm, ⟨44, _⟩ => ⟨S8x8x128x2064, .f32⟩
  | .hbm, ⟨45, _⟩ => ⟨S8x2064x8x128, .f32⟩
  | .hbm, ⟨46, _⟩ => ⟨S8x2064x8x128, .f32⟩
  | .hbm, ⟨47, _⟩ => ⟨S_, .f32⟩
  | .hbm, ⟨48, _⟩ => ⟨S8x2064x8, .f32⟩
  | .hbm, ⟨49, _⟩ => ⟨S8x2064x8x1, .f32⟩
  | .hbm, ⟨50, _⟩ => ⟨S_, .f32⟩
  | .hbm, ⟨51, _⟩ => ⟨S8x2064x8x1, .f32⟩
  | .hbm, ⟨52, _⟩ => ⟨S8x2064x8x1, .f32⟩
  | .hbm, ⟨53, _⟩ => ⟨S_, .f32⟩
  | .hbm, ⟨54, _⟩ => ⟨S8x2064x8x1, .f32⟩
  | .hbm, ⟨55, _⟩ => ⟨S8x2064x8x1, .f32⟩
  | .hbm, ⟨56, _⟩ => ⟨S8x2064x8x1, .f32⟩
  | .hbm, ⟨57, _⟩ => ⟨S8x2064x8x128, .f32⟩
  | .hbm, ⟨58, _⟩ => ⟨S8x2064x8x128, .f32⟩
  | .hbm, ⟨59, _⟩ => ⟨S128, .f32⟩
  | .hbm, ⟨60, _⟩ => ⟨S1x1x1x128, .f32⟩
  | .hbm, ⟨61, _⟩ => ⟨S8x2064x8x128, .f32⟩
  | .hbm, ⟨62, _⟩ => ⟨S8x2064x8x128, .f32⟩
  | .hbm, ⟨63, _⟩ => ⟨S_, .f32⟩
  | .hbm, ⟨64, _⟩ => ⟨S8x2064x8x128, .f32⟩
  | .hbm, ⟨65, _⟩ => ⟨S8x2064x8x128, .f32⟩
  | .hbm, ⟨66, _⟩ => ⟨S16512x1024, .f32⟩
  | .hbm, ⟨67, _⟩ => ⟨S16512x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Ffn.lean ====
abbrev S16512x1024 : Shape := ⟨2, ![16512, 1024]⟩
abbrev S1024x5632 : Shape := ⟨2, ![1024, 5632]⟩
abbrev S2816x1024 : Shape := ⟨2, ![2816, 1024]⟩
abbrev S1x1024 : Shape := ⟨2, ![1, 1024]⟩
abbrev S688x1024 : Shape := ⟨2, ![688, 1024]⟩
abbrev S1024x256 : Shape := ⟨2, ![1024, 256]⟩
abbrev S688x256 : Shape := ⟨2, ![688, 256]⟩
abbrev S256x1024 : Shape := ⟨2, ![256, 1024]⟩
abbrev S688 : Shape := ⟨1, ![688]⟩
abbrev S688x1 : Shape := ⟨2, ![688, 1]⟩

abbrev nBuf : Space → Nat
  | .hbm => 6
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16512x1024 : Shape := ⟨2, ![16512, 1024]⟩
abbrev S1024x5632 : Shape := ⟨2, ![1024, 5632]⟩
abbrev S2816x1024 : Shape := ⟨2, ![2816, 1024]⟩
abbrev S1x1024 : Shape := ⟨2, ![1, 1024]⟩
abbrev S16512x5632 : Shape := ⟨2, ![16512, 5632]⟩
abbrev S16512x2816 : Shape := ⟨2, ![16512, 2816]⟩
abbrev S_ : Shape := ⟨0, ![]⟩
abbrev S1024 : Shape := ⟨1, ![1024]⟩
abbrev S16512 : Shape := ⟨1, ![16512]⟩
abbrev S16512x1 : Shape := ⟨2, ![16512, 1]⟩

abbrev nBuf : Space → Nat
  | .hbm => 57
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S16512x5632, .f32⟩
  | .hbm, ⟨7, _⟩ => ⟨S16512x2816, .f32⟩
  | .hbm, ⟨8, _⟩ => ⟨S16512x2816, .f32⟩
  | .hbm, ⟨9, _⟩ => ⟨S16512x2816, .f32⟩
  | .hbm, ⟨10, _⟩ => ⟨S16512x2816, .f32⟩
  | .hbm, ⟨11, _⟩ => ⟨S_, .f32⟩
  | .hbm, ⟨12, _⟩ => ⟨S16512x2816, .f32⟩
  | .hbm, ⟨13, _⟩ => ⟨S16512x2816, .f32⟩
  | .hbm, ⟨14, _⟩ => ⟨S_, .f32⟩
  | .hbm, ⟨15, _⟩ => ⟨S16512x2816, .f32⟩
  | .hbm, ⟨16, _⟩ => ⟨S16512x2816, .f32⟩
  | .hbm, ⟨17, _⟩ => ⟨S16512x2816, .f32⟩
  | .hbm, ⟨18, _⟩ => ⟨S16512x2816, .f32⟩
  | .hbm, ⟨19, _⟩ => ⟨S2816x1024, .f32⟩
  | .hbm, ⟨20, _⟩ => ⟨S16512x1024, .f32⟩
  | .hbm, ⟨21, _⟩ => ⟨S_, .f32⟩
  | .hbm, ⟨22, _⟩ => ⟨S16512x1024, .f32⟩
  | .hbm, ⟨23, _⟩ => ⟨S16512x1024, .f32⟩
  | .hbm, ⟨24, _⟩ => ⟨S_, .f32⟩
  | .hbm, ⟨25, _⟩ => ⟨S16512x1024, .f32⟩
  | .hbm, ⟨26, _⟩ => ⟨S16512x1024, .f32⟩
  | .hbm, ⟨27, _⟩ => ⟨S16512x1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S16512, .f32⟩
  | .hbm, ⟨32, _⟩ => ⟨S16512x1, .f32⟩
  | .hbm, ⟨33, _⟩ => ⟨S_, .f32⟩
  | .hbm, ⟨34, _⟩ => ⟨S16512x1, .f32⟩
  | .hbm, ⟨35, _⟩ => ⟨S16512x1, .f32⟩
  | .hbm, ⟨36, _⟩ => ⟨S16512x1024, .f32⟩
  | .hbm, ⟨37, _⟩ => ⟨S16512x1024, .f32⟩
  | .hbm, ⟨38, _⟩ => ⟨S16512x1024, .f32⟩
  | .hbm, ⟨39, _⟩ => ⟨S_, .f32⟩
  | .hbm, ⟨40, _⟩ => ⟨S16512, .f32⟩
  | .hbm, ⟨41, _⟩ => ⟨S16512x1, .f32⟩
  | .hbm, ⟨42, _⟩ => ⟨S_, .f32⟩
  | .hbm, ⟨43, _⟩ => ⟨S16512x1, .f32⟩
  | .hbm, ⟨44, _⟩ => ⟨S16512x1, .f32⟩
  | .hbm, ⟨45, _⟩ => ⟨S_, .f32⟩
  | .hbm, ⟨46, _⟩ => ⟨S16512x1, .f32⟩
  | .hbm, ⟨47, _⟩ => ⟨S16512x1, .f32⟩
  | .hbm, ⟨48, _⟩ => ⟨S16512x1, .f32⟩
  | .hbm, ⟨49, _⟩ => ⟨S16512x1024, .f32⟩
  | .hbm, ⟨50, _⟩ => ⟨S16512x1024, .f32⟩
  | .hbm, ⟨51, _⟩ => ⟨S1x1024, .f32⟩
  | .hbm, ⟨52, _⟩ => ⟨S16512x1024, .f32⟩
  | .hbm, ⟨53, _⟩ => ⟨S16512x1024, .f32⟩
  | .hbm, ⟨54, _⟩ => ⟨S1x1024, .f32⟩
  | .hbm, ⟨55, _⟩ => ⟨S16512x1024, .f32⟩
  | .hbm, ⟨56, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Merge.lean ====
abbrev S16512x1024 : Shape := ⟨2, ![16512, 1024]⟩
abbrev S16512x2048 : Shape := ⟨2, ![16512, 2048]⟩
abbrev S1024x3072 : Shape := ⟨2, ![1024, 3072]⟩
abbrev S1x3072 : Shape := ⟨2, ![1, 3072]⟩
abbrev S2048x1024 : Shape := ⟨2, ![2048, 1024]⟩
abbrev S1024x1024 : Shape := ⟨2, ![1024, 1024]⟩
abbrev S1x1024 : Shape := ⟨2, ![1, 1024]⟩
abbrev S384x1024 : Shape := ⟨2, ![384, 1024]⟩
abbrev S384x2048 : Shape := ⟨2, ![384, 2048]⟩
abbrev S384 : Shape := ⟨1, ![384]⟩
abbrev S384x1 : Shape := ⟨2, ![384, 1]⟩

abbrev nBuf : Space → Nat
  | .hbm => 13
  | .vmem => 18
  | .smem => 0
  | _ => 0

abbrev bufTy : (tb : Table) → Fin (tcTables nBuf tb) → BufTy
  | .hbm, ⟨0, _⟩ => ⟨S16512x1024, .f32⟩
  | .hbm, ⟨1, _⟩ => ⟨S16512x2048, .bf16⟩
  | .hbm, ⟨2, _⟩ => ⟨S16512x1024, .bf16⟩
  | .hbm, ⟨3, _⟩ => ⟨S16512x1024, .bf16⟩
  | .hbm, ⟨4, _⟩ => ⟨S1024x3072, .bf16⟩
  | .hbm, ⟨5, _⟩ => ⟨S1x3072, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x2048, .bf16⟩
  | .local _ .vmem, ⟨3, _⟩ => ⟨S384x2048, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S1024x3072, .bf16⟩
  | .local _ .vmem, ⟨9, _⟩ => ⟨S1x3072, .f32⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S384x1024, .f32⟩
  | .local _ .vmem, ⟨17, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S16512x1024 : Shape := ⟨2, ![16512, 1024]⟩
abbrev S16512x2048 : Shape := ⟨2, ![16512, 2048]⟩
abbrev S1024x3072 : Shape := ⟨2, ![1024, 3072]⟩
abbrev S1x3072 : Shape := ⟨2, ![1, 3072]⟩
abbrev S2048x1024 : Shape := ⟨2, ![2048, 1024]⟩
abbrev S1024x1024 : Shape := ⟨2, ![1024, 1024]⟩
abbrev S1x1024 : Shape := ⟨2, ![1, 1024]⟩
abbrev S16512x3072 : Shape := ⟨2, ![16512, 3072]⟩
abbrev S3072 : Shape := ⟨1, ![3072]⟩
abbrev S_ : Shape := ⟨0, ![]⟩
abbrev S1024 : Shape := ⟨1, ![1024]⟩
abbrev S16512 : Shape := ⟨1, ![16512]⟩
abbrev S16512x1 : Shape := ⟨2, ![16512, 1]⟩

abbrev nBuf : Space → Nat
  | .hbm => 78
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x2048, .bf16⟩
  | .hbm, ⟨2, _⟩ => ⟨S16512x1024, .bf16⟩
  | .hbm, ⟨3, _⟩ => ⟨S16512x1024, .bf16⟩
  | .hbm, ⟨4, _⟩ => ⟨S1024x3072, .bf16⟩
  | .hbm, ⟨5, _⟩ => ⟨S1x3072, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x3072, .f32⟩
  | .hbm, ⟨13, _⟩ => ⟨S16512x3072, .f32⟩
  | .hbm, ⟨14, _⟩ => ⟨S3072, .f32⟩
  | .hbm, ⟨15, _⟩ => ⟨S1x3072, .f32⟩
  | .hbm, ⟨16, _⟩ => ⟨S16512x3072, .f32⟩
  | .hbm, ⟨17, _⟩ => ⟨S16512x3072, .f32⟩
  | .hbm, ⟨18, _⟩ => ⟨S16512x3072, .f32⟩
  | .hbm, ⟨19, _⟩ => ⟨S16512x3072, .f32⟩
  | .hbm, ⟨20, _⟩ => ⟨S_, .f32⟩
  | .hbm, ⟨21, _⟩ => ⟨S16512x3072, .f32⟩
  | .hbm, ⟨22, _⟩ => ⟨S16512x3072, .f32⟩
  | .hbm, ⟨23, _⟩ => ⟨S_, .f32⟩
  | .hbm, ⟨24, _⟩ => ⟨S16512x3072, .f32⟩
  | .hbm, ⟨25, _⟩ => ⟨S16512x3072, .f32⟩
  | .hbm, ⟨26, _⟩ => ⟨S16512x1024, .f32⟩
  | .hbm, ⟨27, _⟩ => ⟨S16512x1024, .f32⟩
  | .hbm, ⟨28, _⟩ => ⟨S16512x1024, .f32⟩
  | .hbm, ⟨29, _⟩ => ⟨S16512x2048, .f32⟩
  | .hbm, ⟨30, _⟩ => ⟨S2048x1024, .f32⟩
  | .hbm, ⟨31, _⟩ => ⟨S16512x1024, .f32⟩
  | .hbm, ⟨32, _⟩ => ⟨S16512x1024, .f32⟩
  | .hbm, ⟨33, _⟩ => ⟨S16512x1024, .f32⟩
  | .hbm, ⟨34, _⟩ => ⟨S1024x1024, .f32⟩
  | .hbm, ⟨35, _⟩ => ⟨S16512x1024, .f32⟩
  | .hbm, ⟨36, _⟩ => ⟨S16512x1024, .f32⟩
  | .hbm, ⟨37, _⟩ => ⟨S16512x1024, .f32⟩
  | .hbm, ⟨38, _⟩ => ⟨S16512x1024, .f32⟩
  | .hbm, ⟨39, _⟩ => ⟨S1024x1024, .f32⟩
  | .hbm, ⟨40, _⟩ => ⟨S16512x1024, .f32⟩
  | .hbm, ⟨41, _⟩ => ⟨S16512x1024, .f32⟩
  | .hbm, ⟨42, _⟩ => ⟨S16512x1024, .f32⟩
  | .hbm, ⟨43, _⟩ => ⟨S1024x1024, .f32⟩
  | .hbm, ⟨44, _⟩ => ⟨S16512x1024, .f32⟩
  | .hbm, ⟨45, _⟩ => ⟨S_, .f32⟩
  | .hbm, ⟨46, _⟩ => ⟨S16512x1024, .f32⟩
  | .hbm, ⟨47, _⟩ => ⟨S16512x1024, .f32⟩
  | .hbm, ⟨48, _⟩ => ⟨S16512x1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S16512, .f32⟩
  | .hbm, ⟨53, _⟩ => ⟨S16512x1, .f32⟩
  | .hbm, ⟨54, _⟩ => ⟨S_, .f32⟩
  | .hbm, ⟨55, _⟩ => ⟨S16512x1, .f32⟩
  | .hbm, ⟨56, _⟩ => ⟨S16512x1, .f32⟩
  | .hbm, ⟨57, _⟩ => ⟨S16512x1024, .f32⟩
  | .hbm, ⟨58, _⟩ => ⟨S16512x1024, .f32⟩
  | .hbm, ⟨59, _⟩ => ⟨S16512x1024, .f32⟩
  | .hbm, ⟨60, _⟩ => ⟨S_, .f32⟩
  | .hbm, ⟨61, _⟩ => ⟨S16512, .f32⟩
  | .hbm, ⟨62, _⟩ => ⟨S16512x1, .f32⟩
  | .hbm, ⟨63, _⟩ => ⟨S_, .f32⟩
  | .hbm, ⟨64, _⟩ => ⟨S16512x1, .f32⟩
  | .hbm, ⟨65, _⟩ => ⟨S16512x1, .f32⟩
  | .hbm, ⟨66, _⟩ => ⟨S_, .f32⟩
  | .hbm, ⟨67, _⟩ => ⟨S16512x1, .f32⟩
  | .hbm, ⟨68, _⟩ => ⟨S16512x1, .f32⟩
  | .hbm, ⟨69, _⟩ => ⟨S16512x1, .f32⟩
  | .hbm, ⟨70, _⟩ => ⟨S16512x1024, .f32⟩
  | .hbm, ⟨71, _⟩ => ⟨S16512x1024, .f32⟩
  | .hbm, ⟨72, _⟩ => ⟨S1x1024, .f32⟩
  | .hbm, ⟨73, _⟩ => ⟨S16512x1024, .f32⟩
  | .hbm, ⟨74, _⟩ => ⟨S16512x1024, .f32⟩
  | .hbm, ⟨75, _⟩ => ⟨S1x1024, .f32⟩
  | .hbm, ⟨76, _⟩ => ⟨S16512x1024, .f32⟩
  | .hbm, ⟨77, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== ProjSsd.lean ====
abbrev S16512x1024 : Shape := ⟨2, ![16512, 1024]⟩
abbrev S1024x2048 : Shape := ⟨2, ![1024, 2048]⟩
abbrev S1024x3072 : Shape := ⟨2, ![1024, 3072]⟩
abbrev S1024x512 : Shape := ⟨2, ![1024, 512]⟩
abbrev S1x512 : Shape := ⟨2, ![1, 512]⟩
abbrev S16512x2048 : Shape := ⟨2, ![16512, 2048]⟩
abbrev S16512x3072 : Shape := ⟨2, ![16512, 3072]⟩
abbrev S16512x512 : Shape := ⟨2, ![16512, 512]⟩
abbrev S688x1024 : Shape := ⟨2, ![688, 1024]⟩
abbrev S688x2048 : Shape := ⟨2, ![688, 2048]⟩
abbrev S688x3072 : Shape := ⟨2, ![688, 3072]⟩
abbrev S688x512 : Shape := ⟨2, ![688, 512]⟩

abbrev nBuf : Space → Nat
  | .hbm => 8
  | .vmem => 12
  | .smem => 0
  | _ => 0

abbrev bufTy : (tb : Table) → Fin (tcTables nBuf tb) → BufTy
  | .hbm, ⟨0, _⟩ => ⟨S16512x1024, .f32⟩
  | .hbm, ⟨1, _⟩ => ⟨S1024x2048, .bf16⟩
  | .hbm, ⟨2, _⟩ => ⟨S1024x3072, .bf16⟩
  | .hbm, ⟨3, _⟩ => ⟨S1024x512, .bf16⟩
  | .hbm, ⟨4, _⟩ => ⟨S1x512, .f32⟩
  | .hbm, ⟨5, _⟩ => ⟨S16512x2048, .f32⟩
  | .hbm, ⟨6, _⟩ => ⟨S16512x3072, .f32⟩
  | .hbm, ⟨7, _⟩ => ⟨S16512x512, .f32⟩
  | .local _ .vmem, ⟨0, _⟩ => ⟨S688x1024, .f32⟩
  | .local _ .vmem, ⟨1, _⟩ => ⟨S688x1024, .f32⟩
  | .local _ .vmem, ⟨2, _⟩ => ⟨S1024x2048, .bf16⟩
  | .local _ .vmem, ⟨3, _⟩ => ⟨S1024x3072, .bf16⟩
  | .local _ .vmem, ⟨4, _⟩ => ⟨S1024x512, .bf16⟩
  | .local _ .vmem, ⟨5, _⟩ => ⟨S1x512, .f32⟩
  | .local _ .vmem, ⟨6, _⟩ => ⟨S688x2048, .f32⟩
  | .local _ .vmem, ⟨7, _⟩ => ⟨S688x2048, .f32⟩
  | .local _ .vmem, ⟨8, _⟩ => ⟨S688x3072, .f32⟩
  | .local _ .vmem, ⟨9, _⟩ => ⟨S688x3072, .f32⟩
  | .local _ .vmem, ⟨10, _⟩ => ⟨S688x512, .f32⟩
  | .local _ .vmem, ⟨11, _⟩ => ⟨S688x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjSsdReferenceIdeal.lean ====
abbrev S16512x1024 : Shape := ⟨2, ![16512, 1024]⟩
abbrev S1024x2048 : Shape := ⟨2, ![1024, 2048]⟩
abbrev S1024x3072 : Shape := ⟨2, ![1024, 3072]⟩
abbrev S1024x512 : Shape := ⟨2, ![1024, 512]⟩
abbrev S1x512 : Shape := ⟨2, ![1, 512]⟩
abbrev S16512x2048 : Shape := ⟨2, ![16512, 2048]⟩
abbrev S16512x3072 : Shape := ⟨2, ![16512, 3072]⟩
abbrev S16512x512 : Shape := ⟨2, ![16512, 512]⟩
abbrev S512 : Shape := ⟨1, ![512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024x2048, .bf16⟩
  | .hbm, ⟨2, _⟩ => ⟨S1024x3072, .bf16⟩
  | .hbm, ⟨3, _⟩ => ⟨S1024x512, .bf16⟩
  | .hbm, ⟨4, _⟩ => ⟨S1x512, .f32⟩
  | .hbm, ⟨5, _⟩ => ⟨S1024x2048, .f32⟩
  | .hbm, ⟨6, _⟩ => ⟨S16512x2048, .f32⟩
  | .hbm, ⟨7, _⟩ => ⟨S1024x3072, .f32⟩
  | .hbm, ⟨8, _⟩ => ⟨S16512x3072, .f32⟩
  | .hbm, ⟨9, _⟩ => ⟨S1024x512, .f32⟩
  | .hbm, ⟨10, _⟩ => ⟨S16512x512, .f32⟩
  | .hbm, ⟨11, _⟩ => ⟨S512, .f32⟩
  | .hbm, ⟨12, _⟩ => ⟨S1x512, .f32⟩
  | .hbm, ⟨13, _⟩ => ⟨S16512x512, .f32⟩
  | .hbm, ⟨14, _⟩ => ⟨S16512x512, .f32⟩
  | .hbm, ⟨15, _⟩ => ⟨S_, .f32⟩
  | .hbm, ⟨16, _⟩ => ⟨S16512x512, .f32⟩
  | .hbm, ⟨17, _⟩ => ⟨S16512x512, .f32⟩
  | .hbm, ⟨18, _⟩ => ⟨S16512x512, .f32⟩
  | .hbm, ⟨19, _⟩ => ⟨S16512x512, .f32⟩
  | .hbm, ⟨20, _⟩ => ⟨S16512x512, .i1⟩
  | .hbm, ⟨21, _⟩ => ⟨S16512x512, .f32⟩
  | .hbm, ⟨22, _⟩ => ⟨S16512x512, .f32⟩
  | .hbm, ⟨23, _⟩ => ⟨S16512x512, .f32⟩
  | .hbm, ⟨24, _⟩ => ⟨S16512x512, .f32⟩
  | .hbm, ⟨25, _⟩ => ⟨S16512x512, .f32⟩
  | .hbm, ⟨26, _⟩ => ⟨S16512x512, .f32⟩
  | .hbm, ⟨27, _⟩ => ⟨S16512x512, .f32⟩
  | .hbm, ⟨28, _⟩ => ⟨S16512x512, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== ProjMix.lean ====
abbrev S16512x1024 : Shape := ⟨2, ![16512, 1024]⟩
abbrev S1024x1024 : Shape := ⟨2, ![1024, 1024]⟩
abbrev S2064 : Shape := ⟨1, ![2064]⟩
abbrev S8 : Shape := ⟨1, ![8]⟩
abbrev S_ : Shape := ⟨0, ![]⟩
abbrev S2064x1 : Shape := ⟨2, ![2064, 1]⟩
abbrev S1x8 : Shape := ⟨2, ![1, 8]⟩
abbrev S2064x8 : Shape := ⟨2, ![2064, 8]⟩
abbrev S2064x48 : Shape := ⟨2, ![2064, 48]⟩
abbrev S2064x64 : Shape := ⟨2, ![2064, 64]⟩
abbrev S2064x128 : Shape := ⟨2, ![2064, 128]⟩
abbrev S688x1024 : Shape := ⟨2, ![688, 1024]⟩
abbrev S688x128 : Shape := ⟨2, ![688, 128]⟩
abbrev S1024x256 : Shape := ⟨2, ![1024, 256]⟩
abbrev S688x256 : Shape := ⟨2, ![688, 256]⟩

abbrev nBuf : Space → Nat
  | .hbm => 44
  | .vmem => 21
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2064, .i32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S2064, .f32⟩
  | .hbm, ⟨19, _⟩ => ⟨S2064x1, .f32⟩
  | .hbm, ⟨20, _⟩ => ⟨S1x8, .f32⟩
  | .hbm, ⟨21, _⟩ => ⟨S2064x8, .f32⟩
  | .hbm, ⟨22, _⟩ => ⟨S2064x8, .f32⟩
  | .hbm, ⟨23, _⟩ => ⟨S2064x8, .f32⟩
  | .hbm, ⟨24, _⟩ => ⟨S2064x8, .f32⟩
  | .hbm, ⟨25, _⟩ => ⟨S2064x8, .f32⟩
  | .hbm, ⟨26, _⟩ => ⟨S_, .f32⟩
  | .hbm, ⟨27, _⟩ => ⟨S2064x48, .f32⟩
  | .hbm, ⟨28, _⟩ => ⟨S_, .f32⟩
  | .hbm, ⟨29, _⟩ => ⟨S2064x8, .f32⟩
  | .hbm, ⟨30, _⟩ => ⟨S_, .f32⟩
  | .hbm, ⟨31, _⟩ => ⟨S2064x48, .f32⟩
  | .hbm, ⟨32, _⟩ => ⟨S2064x48, .f32⟩
  | .hbm, ⟨33, _⟩ => ⟨S2064x64, .f32⟩
  | .hbm, ⟨34, _⟩ => ⟨S2064x8, .f32⟩
  | .hbm, ⟨35, _⟩ => ⟨S2064x64, .f32⟩
  | .hbm, ⟨36, _⟩ => ⟨S2064x64, .f32⟩
  | .hbm, ⟨37, _⟩ => ⟨S2064x128, .f32⟩
  | .hbm, ⟨38, _⟩ => ⟨S2064x128, .f32⟩
  | .hbm, ⟨39, _⟩ => ⟨S2064x128, .f32⟩
  | .hbm, ⟨40, _⟩ => ⟨S16512x1024, .bf16⟩
  | .hbm, ⟨41, _⟩ => ⟨S16512x1024, .f32⟩
  | .hbm, ⟨42, _⟩ => ⟨S16512x1024, .f32⟩
  | .hbm, ⟨43, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S688x128, .f32⟩
  | .local _ .vmem, ⟨3, _⟩ => ⟨S688x128, .f32⟩
  | .local _ .vmem, ⟨4, _⟩ => ⟨S688x128, .f32⟩
  | .local _ .vmem, ⟨5, _⟩ => ⟨S688x128, .f32⟩
  | .local _ .vmem, ⟨6, _⟩ => ⟨S688x128, .f32⟩
  | .local _ .vmem, ⟨7, _⟩ => ⟨S688x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .f32⟩
  | .local _ .vmem, ⟨16, _⟩ => ⟨S688x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .f32⟩
  | .local _ .vmem, ⟨20, _⟩ => ⟨S688x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjMixReferenceIdeal.lean ====
abbrev S16512x1024 : Shape := ⟨2, ![16512, 1024]⟩
abbrev S1024x1024 : Shape := ⟨2, ![1024, 1024]⟩
abbrev S2064 : Shape := ⟨1, ![2064]⟩
abbrev S8x2064x8x2x64 : Shape := ⟨5, ![8, 2064, 8, 2, 64]⟩
abbrev S8 : Shape := ⟨1, ![8]⟩
abbrev S_ : Shape := ⟨0, ![]⟩
abbrev S2064x1 : Shape := ⟨2, ![2064, 1]⟩
abbrev S1x8 : Shape := ⟨2, ![1, 8]⟩
abbrev S2064x8 : Shape := ⟨2, ![2064, 8]⟩
abbrev S1x2064x1x1x8 : Shape := ⟨5, ![1, 2064, 1, 1, 8]⟩
abbrev S8x2064x8x2x8 : Shape := ⟨5, ![8, 2064, 8, 2, 8]⟩
abbrev S8x2064x8x2x48 : Shape := ⟨5, ![8, 2064, 8, 2, 48]⟩

abbrev nBuf : Space → Nat
  | .hbm => 104
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2064, .i32⟩
  | .hbm, ⟨7, _⟩ => ⟨S1024x1024, .f32⟩
  | .hbm, ⟨8, _⟩ => ⟨S16512x1024, .f32⟩
  | .hbm, ⟨9, _⟩ => ⟨S8x2064x8x2x64, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2064, .f32⟩
  | .hbm, ⟨22, _⟩ => ⟨S2064x1, .f32⟩
  | .hbm, ⟨23, _⟩ => ⟨S1x8, .f32⟩
  | .hbm, ⟨24, _⟩ => ⟨S2064x8, .f32⟩
  | .hbm, ⟨25, _⟩ => ⟨S2064x8, .f32⟩
  | .hbm, ⟨26, _⟩ => ⟨S2064x8, .f32⟩
  | .hbm, ⟨27, _⟩ => ⟨S2064x8, .f32⟩
  | .hbm, ⟨28, _⟩ => ⟨S1x2064x1x1x8, .f32⟩
  | .hbm, ⟨29, _⟩ => ⟨S2064x8, .f32⟩
  | .hbm, ⟨30, _⟩ => ⟨S1x2064x1x1x8, .f32⟩
  | .hbm, ⟨31, _⟩ => ⟨S8x2064x8x2x8, .f32⟩
  | .hbm, ⟨32, _⟩ => ⟨S8x2064x8x2x8, .f32⟩
  | .hbm, ⟨33, _⟩ => ⟨S8x2064x8x2x8, .f32⟩
  | .hbm, ⟨34, _⟩ => ⟨S8x2064x8x2x8, .f32⟩
  | .hbm, ⟨35, _⟩ => ⟨S8x2064x8x2x8, .f32⟩
  | .hbm, ⟨36, _⟩ => ⟨S8x2064x8x2x8, .f32⟩
  | .hbm, ⟨37, _⟩ => ⟨S8x2064x8x2x8, .f32⟩
  | .hbm, ⟨38, _⟩ => ⟨S8x2064x8x2x8, .f32⟩
  | .hbm, ⟨39, _⟩ => ⟨S8x2064x8x2x8, .f32⟩
  | .hbm, ⟨40, _⟩ => ⟨S8x2064x8x2x8, .f32⟩
  | .hbm, ⟨41, _⟩ => ⟨S8x2064x8x2x8, .f32⟩
  | .hbm, ⟨42, _⟩ => ⟨S8x2064x8x2x8, .f32⟩
  | .hbm, ⟨43, _⟩ => ⟨S8x2064x8x2x48, .f32⟩
  | .hbm, ⟨44, _⟩ => ⟨S8x2064x8x2x64, .f32⟩
  | .hbm, ⟨45, _⟩ => ⟨S1024x1024, .f32⟩
  | .hbm, ⟨46, _⟩ => ⟨S16512x1024, .f32⟩
  | .hbm, ⟨47, _⟩ => ⟨S8x2064x8x2x64, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S2064, .f32⟩
  | .hbm, ⟨60, _⟩ => ⟨S2064x1, .f32⟩
  | .hbm, ⟨61, _⟩ => ⟨S1x8, .f32⟩
  | .hbm, ⟨62, _⟩ => ⟨S2064x8, .f32⟩
  | .hbm, ⟨63, _⟩ => ⟨S2064x8, .f32⟩
  | .hbm, ⟨64, _⟩ => ⟨S2064x8, .f32⟩
  | .hbm, ⟨65, _⟩ => ⟨S2064x8, .f32⟩
  | .hbm, ⟨66, _⟩ => ⟨S1x2064x1x1x8, .f32⟩
  | .hbm, ⟨67, _⟩ => ⟨S2064x8, .f32⟩
  | .hbm, ⟨68, _⟩ => ⟨S1x2064x1x1x8, .f32⟩
  | .hbm, ⟨69, _⟩ => ⟨S8x2064x8x2x8, .f32⟩
  | .hbm, ⟨70, _⟩ => ⟨S8x2064x8x2x8, .f32⟩
  | .hbm, ⟨71, _⟩ => ⟨S8x2064x8x2x8, .f32⟩
  | .hbm, ⟨72, _⟩ => ⟨S8x2064x8x2x8, .f32⟩
  | .hbm, ⟨73, _⟩ => ⟨S8x2064x8x2x8, .f32⟩
  | .hbm, ⟨74, _⟩ => ⟨S8x2064x8x2x8, .f32⟩
  | .hbm, ⟨75, _⟩ => ⟨S8x2064x8x2x8, .f32⟩
  | .hbm, ⟨76, _⟩ => ⟨S8x2064x8x2x8, .f32⟩
  | .hbm, ⟨77, _⟩ => ⟨S8x2064x8x2x8, .f32⟩
  | .hbm, ⟨78, _⟩ => ⟨S8x2064x8x2x8, .f32⟩
  | .hbm, ⟨79, _⟩ => ⟨S8x2064x8x2x8, .f32⟩
  | .hbm, ⟨80, _⟩ => ⟨S8x2064x8x2x8, .f32⟩
  | .hbm, ⟨81, _⟩ => ⟨S8x2064x8x2x48, .f32⟩
  | .hbm, ⟨82, _⟩ => ⟨S8x2064x8x2x64, .f32⟩
  | .hbm, ⟨83, _⟩ => ⟨S1024x1024, .f32⟩
  | .hbm, ⟨84, _⟩ => ⟨S16512x1024, .f32⟩
  | .hbm, ⟨85, _⟩ => ⟨S1024x1024, .f32⟩
  | .hbm, ⟨86, _⟩ => ⟨S16512x1024, .f32⟩
  | .hbm, ⟨87, _⟩ => ⟨S1024x1024, .f32⟩
  | .hbm, ⟨88, _⟩ => ⟨S16512x1024, .f32⟩
  | .hbm, ⟨89, _⟩ => ⟨S16512x1024, .f32⟩
  | .hbm, ⟨90, _⟩ => ⟨S16512x1024, .f32⟩
  | .hbm, ⟨91, _⟩ => ⟨S_, .f32⟩
  | .hbm, ⟨92, _⟩ => ⟨S16512x1024, .f32⟩
  | .hbm, ⟨93, _⟩ => ⟨S16512x1024, .f32⟩
  | .hbm, ⟨94, _⟩ => ⟨S_, .f32⟩
  | .hbm, ⟨95, _⟩ => ⟨S16512x1024, .f32⟩
  | .hbm, ⟨96, _⟩ => ⟨S16512x1024, .f32⟩
  | .hbm, ⟨97, _⟩ => ⟨S16512x1024, .f32⟩
  | .hbm, ⟨98, _⟩ => ⟨S_, .f32⟩
  | .hbm, ⟨99, _⟩ => ⟨S8x2064x8x2x64, .f32⟩
  | .hbm, ⟨100, _⟩ => ⟨S8x2064x8x2x64, .f32⟩
  | .hbm, ⟨101, _⟩ => ⟨S8x2064x8x2x64, .bf16⟩
  | .hbm, ⟨102, _⟩ => ⟨S16512x1024, .bf16⟩
  | .hbm, ⟨103, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_5 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_7 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩

abbrev nD : Nat := 1
abbrev τ : Topo := Topo.v7x

variable {F : FTy → Type} [FloatOps F]
-- ==== CcSample.lean ====
abbrev S128x8x1024 : Shape := ⟨3, ![128, 8, 1024]⟩
abbrev S128x30x1024 : Shape := ⟨3, ![128, 30, 1024]⟩
abbrev S31x1024 : Shape := ⟨2, ![31, 1024]⟩
abbrev S1x1024 : Shape := ⟨2, ![1, 1024]⟩
abbrev S_ : Shape := ⟨0, ![]⟩
abbrev S128x32x1024 : Shape := ⟨3, ![128, 32, 1024]⟩
abbrev S32x1024 : Shape := ⟨2, ![32, 1024]⟩
abbrev S1024x1024 : Shape := ⟨2, ![1024, 1024]⟩
abbrev S16x8x1024 : Shape := ⟨3, ![16, 8, 1024]⟩
abbrev S16x32x1024 : Shape := ⟨3, ![16, 32, 1024]⟩
abbrev S128x1024 : Shape := ⟨2, ![128, 1024]⟩
abbrev S16x40x1024 : Shape := ⟨3, ![16, 40, 1024]⟩
abbrev S128 : Shape := ⟨1, ![128]⟩
abbrev S128x1 : Shape := ⟨2, ![128, 1]⟩

abbrev nBuf : Space → Nat
  | .hbm => 13
  | .vmem => 11
  | .smem => 0
  | _ => 0

abbrev bufTy : (tb : Table) → Fin (tcTables nBuf tb) → BufTy
  | .hbm, ⟨0, _⟩ => ⟨S128x8x1024, .f32⟩
  | .hbm, ⟨1, _⟩ => ⟨S128x30x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .i32⟩
  | .hbm, ⟨7, _⟩ => ⟨S_, .f32⟩
  | .hbm, ⟨8, _⟩ => ⟨S128x32x1024, .f32⟩
  | .hbm, ⟨9, _⟩ => ⟨S_, .i32⟩
  | .hbm, ⟨10, _⟩ => ⟨S_, .f32⟩
  | .hbm, ⟨11, _⟩ => ⟨S32x1024, .f32⟩
  | .hbm, ⟨12, _⟩ => ⟨S1024x1024, .bf16⟩
  | .local _ .vmem, ⟨0, _⟩ => ⟨S16x8x1024, .f32⟩
  | .local _ .vmem, ⟨1, _⟩ => ⟨S16x8x1024, .f32⟩
  | .local _ .vmem, ⟨2, _⟩ => ⟨S16x32x1024, .f32⟩
  | .local _ .vmem, ⟨3, _⟩ => ⟨S16x32x1024, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | .local _ .vmem, ⟨10, _⟩ => ⟨S16x40x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CcSampleReferenceIdeal.lean ====
abbrev S128x8x1024 : Shape := ⟨3, ![128, 8, 1024]⟩
abbrev S128x30x1024 : Shape := ⟨3, ![128, 30, 1024]⟩
abbrev S31x1024 : Shape := ⟨2, ![31, 1024]⟩
abbrev S1x1024 : Shape := ⟨2, ![1, 1024]⟩
abbrev S128x38x1024 : Shape := ⟨3, ![128, 38, 1024]⟩
abbrev S128x8x1x1024 : Shape := ⟨4, ![128, 8, 1, 1024]⟩
abbrev S128x8x16x1024 : Shape := ⟨4, ![128, 8, 16, 1024]⟩
abbrev S128x8x15x1024 : Shape := ⟨4, ![128, 8, 15, 1024]⟩
abbrev S128x8x31x1024 : Shape := ⟨4, ![128, 8, 31, 1024]⟩
abbrev S1x1x31x1024 : Shape := ⟨4, ![1, 1, 31, 1024]⟩
abbrev S_ : Shape := ⟨0, ![]⟩
abbrev S1024 : Shape := ⟨1, ![1024]⟩
abbrev S1x1x1024 : Shape := ⟨3, ![1, 1, 1024]⟩
abbrev S128x8 : Shape := ⟨2, ![128, 8]⟩
abbrev S128x8x1 : Shape := ⟨3, ![128, 8, 1]⟩
abbrev S1024x1024 : Shape := ⟨2, ![1024, 1024]⟩

abbrev nBuf : Space → Nat
  | .hbm => 121
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x30x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S128x38x1024, .f32⟩
  | .hbm, ⟨7, _⟩ => ⟨S128x8x1024, .f32⟩
  | .hbm, ⟨8, _⟩ => ⟨S128x8x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1024, .f32⟩
  | .hbm, ⟨14, _⟩ => ⟨S128x8x1024, .f32⟩
  | .hbm, ⟨15, _⟩ => ⟨S128x8x1024, .f32⟩
  | .hbm, ⟨16, _⟩ => ⟨S128x8x1024, .f32⟩
  | .hbm, ⟨17, _⟩ => ⟨S128x8x1024, .f32⟩
  | .hbm, ⟨18, _⟩ => ⟨S128x8x1024, .f32⟩
  | .hbm, ⟨19, _⟩ => ⟨S128x8x1024, .f32⟩
  | .hbm, ⟨20, _⟩ => ⟨S128x8x1024, .f32⟩
  | .hbm, ⟨21, _⟩ => ⟨S128x8x1024, .f32⟩
  | .hbm, ⟨22, _⟩ => ⟨S128x8x1024, .f32⟩
  | .hbm, ⟨23, _⟩ => ⟨S128x8x1024, .f32⟩
  | .hbm, ⟨24, _⟩ => ⟨S128x8x1024, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S128x8x1024, .f32⟩
  | .hbm, ⟨29, _⟩ => ⟨S128x8x1024, .f32⟩
  | .hbm, ⟨30, _⟩ => ⟨S128x8x1024, .f32⟩
  | .hbm, ⟨31, _⟩ => ⟨S128x8x1024, .f32⟩
  | .hbm, ⟨32, _⟩ => ⟨S128x8x1024, .f32⟩
  | .hbm, ⟨33, _⟩ => ⟨S128x8x1024, .f32⟩
  | .hbm, ⟨34, _⟩ => ⟨S128x8x1024, .f32⟩
  | .hbm, ⟨35, _⟩ => ⟨S128x8x1024, .f32⟩
  | .hbm, ⟨36, _⟩ => ⟨S128x8x1024, .f32⟩
  | .hbm, ⟨37, _⟩ => ⟨S128x8x1024, .f32⟩
  | .hbm, ⟨38, _⟩ => ⟨S128x8x1x1024, .f32⟩
  | .hbm, ⟨39, _⟩ => ⟨S128x8x1x1024, .f32⟩
  | .hbm, ⟨40, _⟩ => ⟨S128x8x1x1024, .f32⟩
  | .hbm, ⟨41, _⟩ => ⟨S128x8x1x1024, .f32⟩
  | .hbm, ⟨42, _⟩ => ⟨S128x8x1x1024, .f32⟩
  | .hbm, ⟨43, _⟩ => ⟨S128x8x1x1024, .f32⟩
  | .hbm, ⟨44, _⟩ => ⟨S128x8x1x1024, .f32⟩
  | .hbm, ⟨45, _⟩ => ⟨S128x8x1x1024, .f32⟩
  | .hbm, ⟨46, _⟩ => ⟨S128x8x1x1024, .f32⟩
  | .hbm, ⟨47, _⟩ => ⟨S128x8x1x1024, .f32⟩
  | .hbm, ⟨48, _⟩ => ⟨S128x8x1x1024, .f32⟩
  | .hbm, ⟨49, _⟩ => ⟨S128x8x1x1024, .f32⟩
  | .hbm, ⟨50, _⟩ => ⟨S128x8x1x1024, .f32⟩
  | .hbm, ⟨51, _⟩ => ⟨S128x8x1x1024, .f32⟩
  | .hbm, ⟨52, _⟩ => ⟨S128x8x1x1024, .f32⟩
  | .hbm, ⟨53, _⟩ => ⟨S128x8x1x1024, .f32⟩
  | .hbm, ⟨54, _⟩ => ⟨S128x8x1x1024, .f32⟩
  | .hbm, ⟨55, _⟩ => ⟨S128x8x1x1024, .f32⟩
  | .hbm, ⟨56, _⟩ => ⟨S128x8x1x1024, .f32⟩
  | .hbm, ⟨57, _⟩ => ⟨S128x8x1x1024, .f32⟩
  | .hbm, ⟨58, _⟩ => ⟨S128x8x1x1024, .f32⟩
  | .hbm, ⟨59, _⟩ => ⟨S128x8x1x1024, .f32⟩
  | .hbm, ⟨60, _⟩ => ⟨S128x8x1x1024, .f32⟩
  | .hbm, ⟨61, _⟩ => ⟨S128x8x1x1024, .f32⟩
  | .hbm, ⟨62, _⟩ => ⟨S128x8x1x1024, .f32⟩
  | .hbm, ⟨63, _⟩ => ⟨S128x8x1x1024, .f32⟩
  | .hbm, ⟨64, _⟩ => ⟨S128x8x1x1024, .f32⟩
  | .hbm, ⟨65, _⟩ => ⟨S128x8x1x1024, .f32⟩
  | .hbm, ⟨66, _⟩ => ⟨S128x8x1x1024, .f32⟩
  | .hbm, ⟨67, _⟩ => ⟨S128x8x1x1024, .f32⟩
  | .hbm, ⟨68, _⟩ => ⟨S128x8x1x1024, .f32⟩
  | .hbm, ⟨69, _⟩ => ⟨S128x8x16x1024, .f32⟩
  | .hbm, ⟨70, _⟩ => ⟨S128x8x15x1024, .f32⟩
  | .hbm, ⟨71, _⟩ => ⟨S128x8x31x1024, .f32⟩
  | .hbm, ⟨72, _⟩ => ⟨S1x1x31x1024, .f32⟩
  | .hbm, ⟨73, _⟩ => ⟨S128x8x31x1024, .f32⟩
  | .hbm, ⟨74, _⟩ => ⟨S128x8x31x1024, .f32⟩
  | .hbm, ⟨75, _⟩ => ⟨S_, .f32⟩
  | .hbm, ⟨76, _⟩ => ⟨S128x8x1024, .f32⟩
  | .hbm, ⟨77, _⟩ => ⟨S1024, .f32⟩
  | .hbm, ⟨78, _⟩ => ⟨S1x1x1024, .f32⟩
  | .hbm, ⟨79, _⟩ => ⟨S128x8x1024, .f32⟩
  | .hbm, ⟨80, _⟩ => ⟨S128x8x1024, .f32⟩
  | .hbm, ⟨81, _⟩ => ⟨S1024, .f32⟩
  | .hbm, ⟨82, _⟩ => ⟨S1024, .f32⟩
  | .hbm, ⟨83, _⟩ => ⟨S_, .f32⟩
  | .hbm, ⟨84, _⟩ => ⟨S128x8, .f32⟩
  | .hbm, ⟨85, _⟩ => ⟨S128x8x1, .f32⟩
  | .hbm, ⟨86, _⟩ => ⟨S_, .f32⟩
  | .hbm, ⟨87, _⟩ => ⟨S128x8x1, .f32⟩
  | .hbm, ⟨88, _⟩ => ⟨S128x8x1, .f32⟩
  | .hbm, ⟨89, _⟩ => ⟨S128x8x1024, .f32⟩
  | .hbm, ⟨90, _⟩ => ⟨S128x8x1024, .f32⟩
  | .hbm, ⟨91, _⟩ => ⟨S128x8x1024, .f32⟩
  | .hbm, ⟨92, _⟩ => ⟨S_, .f32⟩
  | .hbm, ⟨93, _⟩ => ⟨S128x8, .f32⟩
  | .hbm, ⟨94, _⟩ => ⟨S128x8x1, .f32⟩
  | .hbm, ⟨95, _⟩ => ⟨S_, .f32⟩
  | .hbm, ⟨96, _⟩ => ⟨S128x8x1, .f32⟩
  | .hbm, ⟨97, _⟩ => ⟨S128x8x1, .f32⟩
  | .hbm, ⟨98, _⟩ => ⟨S_, .f32⟩
  | .hbm, ⟨99, _⟩ => ⟨S128x8x1, .f32⟩
  | .hbm, ⟨100, _⟩ => ⟨S128x8x1, .f32⟩
  | .hbm, ⟨101, _⟩ => ⟨S128x8x1, .f32⟩
  | .hbm, ⟨102, _⟩ => ⟨S128x8x1024, .f32⟩
  | .hbm, ⟨103, _⟩ => ⟨S128x8x1024, .f32⟩
  | .hbm, ⟨104, _⟩ => ⟨S1x1x1024, .f32⟩
  | .hbm, ⟨105, _⟩ => ⟨S128x8x1024, .f32⟩
  | .hbm, ⟨106, _⟩ => ⟨S128x8x1024, .f32⟩
  | .hbm, ⟨107, _⟩ => ⟨S1x1x1024, .f32⟩
  | .hbm, ⟨108, _⟩ => ⟨S128x8x1024, .f32⟩
  | .hbm, ⟨109, _⟩ => ⟨S128x8x1024, .f32⟩
  | .hbm, ⟨110, _⟩ => ⟨S128x8x1024, .f32⟩
  | .hbm, ⟨111, _⟩ => ⟨S128x8x1024, .f32⟩
  | .hbm, ⟨112, _⟩ => ⟨S_, .f32⟩
  | .hbm, ⟨113, _⟩ => ⟨S128x8x1024, .f32⟩
  | .hbm, ⟨114, _⟩ => ⟨S128x8x1024, .f32⟩
  | .hbm, ⟨115, _⟩ => ⟨S_, .f32⟩
  | .hbm, ⟨116, _⟩ => ⟨S128x8x1024, .f32⟩
  | .hbm, ⟨117, _⟩ => ⟨S128x8x1024, .f32⟩
  | .hbm, ⟨118, _⟩ => ⟨S128x8x1024, .f32⟩
  | .hbm, ⟨119, _⟩ => ⟨S128x8x1024, .bf16⟩
  | .hbm, ⟨120, _⟩ => ⟨S1024x1024, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_0 : Ref sig .tc := ⟨.hbm, 83, rfl⟩
abbrev main_v76 : Ref sig .tc := ⟨.hbm, 84, rfl⟩
abbrev main_v77 : Ref sig .tc := ⟨.hbm, 85, rfl⟩
abbrev main_cst_1 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_2 : Ref sig .tc := ⟨.hbm, 92, rfl⟩
abbrev main_v83 : Ref sig .tc := ⟨.hbm, 93, rfl⟩
abbrev main_v84 : Ref sig .tc := ⟨.hbm, 94, rfl⟩
abbrev main_cst_3 : Ref sig .tc := ⟨.hbm, 95, rfl⟩
abbrev main_v85 : Ref sig .tc := ⟨.hbm, 96, rfl⟩
abbrev main_v86 : Ref sig .tc := ⟨.hbm, 97, rfl⟩
abbrev main_cst_4 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_call0_v5 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩

abbrev nD : Nat := 1
abbrev τ : Topo := Topo.v7x

variable {F : FTy → Type} [FloatOps F]
-- ==== Proof.AttnSpec.lean ====
/- The attention of one query row, written as plain sums over all positions, and the two ways a row's sums and maxima over the
   positions are cut into the 16 meta keys and the keys of the sequence. -/
module

public import Idealize.ShloMosaic.PureOps.Ideal.Laws

@[expose] public section

set_option maxRecDepth 16384

noncomputable section

namespace Attn

open Idealize.ShloMosaic
open scoped BigOperators

/-! ## The row -/

/-- The score of one component: 64 of the 128 lanes. -/
def score (q k : Fin 128 → EReal) (c : ℕ) (hc : c < 2) : EReal :=
  ∑ d : Fin 64, q ⟨c * 64 + d, by omega⟩ * k ⟨c * 64 + d, by omega⟩

/-- Keys after the query masked to `-∞`. -/
def causal (t : Fin 2064) (s : Fin 2064 → EReal) : Fin 2064 → EReal := fun j => if j.val ≤ t.val then s j else ⊥

/-- A row's maximum. -/
def top (g : Fin 2064 → EReal) : EReal := Finset.univ.fold max ⊥ g

/-- A row's exponentials, shifted by the maximum. -/
def ex (g : Fin 2064 → EReal) (j : Fin 2064) : EReal := Ideal.exp (g j - top g)

/-- A row's softmax. -/
def weight (g : Fin 2064 → EReal) (j : Fin 2064) : EReal := Ideal.div (ex g j) (∑ i, ex g i)

/-- The difference of two rows' softmaxes, against the values. -/
def mixed (lam : EReal) (g₀ g₁ : Fin 2064 → EReal) (v : Fin 2064 → EReal) : EReal :=
  ∑ j, (weight g₀ j - lam * weight g₁ j) * v j

/-- The root-mean-square norm of a head's 128 lanes with its weight and the constant factor. -/
def normed (o w : Fin 128 → EReal) (e : Fin 128) : EReal :=
  o e * Ideal.rsqrt (Ideal.div (∑ i, o i * o i) (Ideal.ofBits .f32 0x43000000#32) + Ideal.ofBits .f32 0x3727C5AC#32) * w e
    * Ideal.ofBits .f32 0x3F4CCCCD#32

/-- One row's masked scores against all the keys. -/
def row (q : Fin 128 → EReal) (K : Fin 2064 → Fin 128 → EReal) (t : Fin 2064) (c : ℕ) (hc : c < 2) : Fin 2064 → EReal :=
  causal t fun j => score q (K j) c hc

/-- One row of the attention: lane `e` of the output of query `t`. -/
def out (lam : EReal) (q : Fin 128 → EReal) (K V : Fin 2064 → Fin 128 → EReal) (w : Fin 128 → EReal) (t : Fin 2064) (e : Fin 128) : EReal :=
  normed (fun e => mixed lam (row q K t 0 (by omega)) (row q K t 1 (by omega)) fun j => V j e) w e

/-! ## Corners of the extended reals -/

theorem exp_bot_sub (m : EReal) : Ideal.exp (⊥ - m) = 0 := by
  rw [sub_eq_add_neg, EReal.bot_add]; rfl

theorem exp_nonneg (x : EReal) : 0 ≤ Ideal.exp x := by
  induction x with
  | bot => exact le_rfl
  | top => exact le_top
  | coe r => exact EReal.coe_nonneg.mpr (Real.exp_pos r).le

theorem div_eq_mul_div_one {x d : EReal} (hd : d ≠ 0) : x * Ideal.div 1 d = Ideal.div x d := by
  unfold Ideal.div; rw [if_neg hd, if_neg hd, one_mul]

theorem zero_div {d : EReal} (hd : d ≠ 0) : Ideal.div 0 d = 0 := by
  unfold Ideal.div; rw [if_neg hd, zero_mul]

theorem fold_eq_sup {ι : Type*} (s : Finset ι) (f : ι → EReal) : s.fold max ⊥ f = s.sup f := rfl

/-- A score is a real number. -/
def Fin' (x : EReal) : Prop := x ≠ ⊤ ∧ x ≠ ⊥

theorem finite_sum {ι : Type*} (s : Finset ι) (f : ι → EReal) (h : ∀ i, Fin' (f i)) : Fin' (∑ i ∈ s, f i) := by
  classical
  induction s using Finset.induction_on with
  | empty => simp [Fin']
  | insert a s ha ih =>
    rw [Finset.sum_insert ha]
    have := h a
    revert ih this
    generalize f a = x
    generalize ∑ i ∈ s, f i = y
    intro ih h'
    lift x to ℝ using h'
    lift y to ℝ using ih
    rw [← EReal.coe_add]
    exact ⟨EReal.coe_ne_top _, EReal.coe_ne_bot _⟩

theorem finite_mul {x y : EReal} (hx : Fin' x) (hy : Fin' y) : Fin' (x * y) := by
  lift x to ℝ using hx
  lift y to ℝ using hy
  rw [← EReal.coe_mul]
  exact ⟨EReal.coe_ne_top _, EReal.coe_ne_bot _⟩

theorem score_finite {q k : Fin 128 → EReal} (hq : ∀ d, Fin' (q d)) (hk : ∀ d, Fin' (k d)) (c : ℕ) (hc : c < 2) :
    Fin' (score q k c hc) := finite_sum _ _ fun _ => finite_mul (hq _) (hk _)

/-- A masked row with real scores has a denominator that is not zero: the maximum is one of its scores, whose exponential is one. -/
theorem den_ne_zero (t : Fin 2064) (s : Fin 2064 → EReal) (h : ∀ j, Fin' (s j)) : (∑ i, ex (causal t s) i) ≠ 0 := by
  obtain ⟨i, -, hi⟩ := Finset.exists_mem_eq_sup (Finset.univ : Finset (Fin 2064)) ⟨t, Finset.mem_univ _⟩ (causal t s)
  have htop : top (causal t s) = causal t s i := by rw [← hi]; rfl
  have hle : causal t s t ≤ causal t s i := by rw [← hi]; exact Finset.le_sup (Finset.mem_univ t)
  have hfin : Fin' (causal t s i) := by
    by_cases hit : i.val ≤ t.val
    · unfold causal; rw [if_pos hit]; exact h i
    · exfalso
      unfold causal at hle
      rw [if_pos le_rfl, if_neg hit] at hle
      exact (h t).2 (le_bot_iff.mp hle)
  have hone : ex (causal t s) i = 1 := by
    unfold ex; rw [htop]
    generalize causal t s i = x at hfin
    lift x to ℝ using hfin
    rw [← EReal.coe_sub, sub_self]
    show ((Real.exp 0 : ℝ) : EReal) = 1
    rw [Real.exp_zero]; rfl
  have hge : (1 : EReal) ≤ ∑ i, ex (causal t s) i := by
    rw [← hone]
    exact Finset.single_le_sum (f := ex (causal t s)) (fun j _ => exp_nonneg _) (Finset.mem_univ i)
  intro h0
  rw [h0] at hge
  exact absurd hge (by norm_num)

/-! ## The positions in two parts -/

/-- A sum over the positions is the sum over the meta keys and the sum over `L` keys of the sequence, when what lies after them is zero. -/
theorem sum_parts {M : Type*} [AddCommMonoid M] {L : ℕ} (hL : L ≤ 2048) (F : Fin 2064 → M) (hF : ∀ j : Fin 2064, 16 + L ≤ j.val → F j = 0) :
    (∑ j : Fin 128, if j.val < 16 then F ⟨j, by omega⟩ else 0) + (∑ j : Fin L, F ⟨16 + j, by omega⟩) = ∑ j, F j := by
  let f : ℕ → M := fun n => if h : n < 2064 then F ⟨n, h⟩ else 0
  have hf : ∀ n (h : n < 2064), f n = F ⟨n, h⟩ := fun n h => dif_pos h
  have h1 : (∑ j : Fin 128, if j.val < 16 then F ⟨j, by omega⟩ else 0) = ∑ n ∈ Finset.range 16, f n := by
    rw [← Fin.sum_univ_eq_sum_range, Finset.sum_ite, Finset.sum_const_zero, add_zero]
    refine Finset.sum_bij (fun (a : Fin 128) ha => (⟨a.val, (Finset.mem_filter.mp ha).2⟩ : Fin 16)) (fun _ _ => Finset.mem_univ _)
      (fun a _ b _ h => Fin.ext (Fin.mk.inj_iff.mp h)) (fun b _ => ⟨⟨b, by omega⟩, Finset.mem_filter.mpr ⟨Finset.mem_univ _, b.2⟩, rfl⟩)
      (fun a _ => (hf a _).symm)
  have h2 : (∑ j : Fin L, F ⟨16 + j, by omega⟩) = ∑ n ∈ Finset.range L, f (16 + n) := by
    rw [← Fin.sum_univ_eq_sum_range (fun n => f (16 + n))]
    exact Finset.sum_congr rfl fun j _ => (hf _ _).symm
  have h3 : (∑ j, F j) = ∑ n ∈ Finset.range 2064, f n := by
    rw [← Fin.sum_univ_eq_sum_range]
    exact Finset.sum_congr rfl fun j _ => (hf _ _).symm
  rw [h1, h2, h3, ← Finset.sum_range_add]
  refine Finset.sum_subset (Finset.range_mono (by omega)) fun n hn hn' => ?_
  rw [hf n (Finset.mem_range.mp hn)]
  exact hF _ (by simpa using hn')

/-- The same of the maximum, when what lies after the keys is `-∞`. -/
theorem top_parts {L : ℕ} (hL : L ≤ 2048) (g : Fin 2064 → EReal) (hg : ∀ j : Fin 2064, 16 + L ≤ j.val → g j = ⊥) :
    max (Finset.univ.fold max ⊥ fun j : Fin 128 => if j.val < 16 then g ⟨j, by omega⟩ else ⊥)
      (Finset.univ.fold max ⊥ fun j : Fin L => g ⟨16 + j, by omega⟩) = top g := by
  unfold top
  simp only [fold_eq_sup]
  apply le_antisymm
  · refine max_le (Finset.sup_le fun j _ => ?_) (Finset.sup_le fun j _ => Finset.le_sup (f := g) (Finset.mem_univ _))
    split_ifs
    · exact Finset.le_sup (f := g) (Finset.mem_univ _)
    · exact bot_le
  · refine Finset.sup_le fun j _ => ?_
    by_cases h16 : j.val < 16
    · refine le_trans ?_ (le_max_left _ _)
      refine le_trans ?_ (Finset.le_sup (f := fun j : Fin 128 => if j.val < 16 then g ⟨j, by omega⟩ else ⊥) (Finset.mem_univ ⟨j.val, by omega⟩))
      simp only [h16, if_true]; exact le_rfl
    · by_cases hj : 16 + L ≤ j.val
      · rw [hg j hj]; exact bot_le
      · refine le_trans ?_ (le_max_right _ _)
        refine le_trans ?_ (Finset.le_sup (f := fun j : Fin L => g ⟨16 + j, by omega⟩) (Finset.mem_univ ⟨j.val - 16, by omega⟩))
        have : (⟨16 + (j.val - 16), by omega⟩ : Fin 2064) = j := Fin.ext (by show 16 + (j.val - 16) = j.val; omega)
        show g j ≤ g ⟨16 + (j.val - 16), _⟩
        rw [this]

/-- A row in two parts: the meta keys among 128, the rest masked, and `L` keys of the sequence. -/
structure Parts (L : ℕ) (g : Fin 2064 → EReal) (a : Fin 128 → EReal) (b : Fin L → EReal) : Prop where
  meta' : ∀ j : Fin 128, a j = if j.val < 16 then g ⟨j, by omega⟩ else ⊥
  real' : ∀ (j : Fin L) (h : 16 + j.val < 2064), b j = g ⟨16 + j, h⟩
  rest : ∀ j : Fin 2064, 16 + L ≤ j.val → g j = ⊥

variable {L : ℕ} {g : Fin 2064 → EReal} {a : Fin 128 → EReal} {b : Fin L → EReal}

/-- The maximum of a row in two parts. -/
theorem Parts.top (hL : L ≤ 2048) (h : Parts L g a b) : max (Finset.univ.fold max ⊥ a) (Finset.univ.fold max ⊥ b) = Attn.top g := by
  rw [← top_parts hL g h.rest]
  congr 1
  · exact congrArg (Finset.fold max ⊥ · Finset.univ) (funext h.meta')
  · exact congrArg (Finset.fold max ⊥ · Finset.univ) (funext fun j => h.real' j (by omega))

theorem Parts.ex_meta (h : Parts L g a b) (j : Fin 128) :
    Ideal.exp (a j - Attn.top g) = if j.val < 16 then ex g ⟨j, by omega⟩ else 0 := by
  rw [h.meta' j]; split_ifs
  · rfl
  · exact exp_bot_sub _

theorem Parts.ex_real (h : Parts L g a b) (j : Fin L) (hj : 16 + j.val < 2064) : Ideal.exp (b j - Attn.top g) = ex g ⟨16 + j, hj⟩ := by
  rw [h.real' j hj]; rfl

theorem Parts.ex_rest (h : Parts L g a b) (j : Fin 2064) (hj : 16 + L ≤ j.val) : ex g j = 0 := by
  unfold ex; rw [h.rest j hj]; exact exp_bot_sub _

/-- The denominator of a row in two parts. -/
theorem Parts.den (hL : L ≤ 2048) (h : Parts L g a b) :
    (∑ j, Ideal.exp (a j - Attn.top g)) + (∑ j, Ideal.exp (b j - Attn.top g)) = ∑ j, ex g j := by
  rw [← sum_parts hL (ex g) h.ex_rest]
  congr 1
  · exact Finset.sum_congr rfl fun j _ => h.ex_meta j
  · exact Finset.sum_congr rfl fun j _ => h.ex_real j _

/-- The weighted values of two rows in two parts, each weight an exponential times the reciprocal of the denominator. -/
theorem mixed_parts (hL : L ≤ 2048) (lam : EReal) {g₀ g₁ : Fin 2064 → EReal} {a₀ a₁ : Fin 128 → EReal} {b₀ b₁ : Fin L → EReal}
    (h₀ : Parts L g₀ a₀ b₀) (h₁ : Parts L g₁ a₁ b₁) (d₀ : (∑ i, ex g₀ i) ≠ 0) (d₁ : (∑ i, ex g₁ i) ≠ 0)
    (v : Fin 2064 → EReal) (vm : Fin 128 → EReal) (vr : Fin L → EReal) (hm : ∀ j : Fin 128, vm j = v ⟨j, by omega⟩)
    (hr : ∀ (j : Fin L) (h : 16 + j.val < 2064), vr j = v ⟨16 + j, h⟩) :
    (∑ j, (Ideal.exp (a₀ j - Attn.top g₀) * Ideal.div 1 (∑ i, ex g₀ i) - lam * (Ideal.exp (a₁ j - Attn.top g₁) * Ideal.div 1 (∑ i, ex g₁ i))) * vm j)
      + (∑ j, (Ideal.exp (b₀ j - Attn.top g₀) * Ideal.div 1 (∑ i, ex g₀ i) - lam * (Ideal.exp (b₁ j - Attn.top g₁) * Ideal.div 1 (∑ i, ex g₁ i))) * vr j)
      = mixed lam g₀ g₁ v := by
  unfold mixed
  rw [← sum_parts hL (fun j => (weight g₀ j - lam * weight g₁ j) * v j) (fun j hj => by
    unfold weight; rw [h₀.ex_rest j hj, h₁.ex_rest j hj, zero_div d₀, zero_div d₁, mul_zero, sub_zero, zero_mul])]
  simp only [div_eq_mul_div_one d₀, div_eq_mul_div_one d₁]
  congr 1
  · refine Finset.sum_congr rfl fun j _ => ?_
    rw [h₀.ex_meta j, h₁.ex_meta j]
    split_ifs with hj
    · rw [hm j]; rfl
    · rw [zero_div d₀, zero_div d₁, mul_zero, sub_zero, zero_mul]
  · refine Finset.sum_congr rfl fun j _ => ?_
    rw [h₀.ex_real j (by omega), h₁.ex_real j (by omega), hr j (by omega)]; rfl

end Attn

end
-- ==== Proof.Attend.lean ====
/- One block of 128 queries of the attention kernel, over any number `L` of keys of the sequence: what its vector operations compute,
   entry by entry. -/
module

public import Idealize.ShloMosaic.PureOps
public import Idealize.ShloMosaic.PureOps.Ideal.Laws
public import Idealize.ShloMosaic.Lib.Pointwise
public import Idealize.ShloMosaic.Lib.Pointwise.IndexVar
public import Idealize.ShloMosaic.Lib.MatmulPlain
public import proofs.«01_k».proof.Proof.AttnSpec

@[expose] public section

set_option maxRecDepth 16384

noncomputable section

namespace Attend

open Idealize.ShloMosaic

/-- A rank-2 shape. -/
abbrev Sh (a b : ℕ) : Shape := ⟨2, ![a, b]⟩
/-- A rank-1 shape. -/
abbrev Sv (a : ℕ) : Shape := ⟨1, ![a]⟩

/-- The shape relations that one attention block over `L` real keys takes. -/
structure Rel (L : ℕ) : Prop where
  red : (Sh 256 L).Reduces [1] (Sv 256)
  bc : (Sh 256 1).Broadcasts (Sh 256 L)
  lo : (Sh 256 L).Slices ![0, 0] (Sh 128 L)
  hi : (Sh 256 L).Slices ![128, 0] (Sh 128 L)
  i0 : (Sh 256 L).Iotas .tc 32 [0]
  i1 : (Sh 256 L).Iotas .tc 32 [1]

variable {L : ℕ}

/-- The scores of the real keys, those after the query masked to `-∞`. -/
def realScores (h : Rel L) (off : BitVec 32) (q2 : FVec Ideal (Sh 256 128) .bf16) (k : FVec Ideal (Sh L 128) .bf16) : FVec Ideal (Sh 256 L) .f32 :=
  select (cmpi .sle (iota .tc (Sh 256 L) 32 [1] h.i1)
      (addi (andi (iota .tc (Sh 256 L) 32 [0] h.i0) (broadcast (Sh 256 L) 127#32)) (broadcast (Sh 256 L) off)))
    (matmul (DotDims.transposedRhs 256 128 L) none q2 k (constant (Sh 256 L) .f32 0x00000000#32))
    (broadcast (Sh 256 L) (Scalar.ofBits .f32 0xFF800000#32))

/-- A row maximum, as a column. -/
def rowMax (h : Rel L) (c : (Sv 256).ShapeCasts (Sh 256 1)) (s : FVec Ideal (Sh 256 L) .f32) : FVec Ideal (Sh 256 1) .f32 :=
  shapeCast (Sh 256 1) (multiReduction .maximumf [1] (Sv 256) s 0xFF800000#32 h.red (.inl rfl) rfl) c

/-- A row sum, as a column. -/
def rowSum (h : Rel L) (c : (Sv 256).ShapeCasts (Sh 256 1)) (s : FVec Ideal (Sh 256 L) .f32) : FVec Ideal (Sh 256 1) .f32 :=
  shapeCast (Sh 256 1) (multiReduction .add [1] (Sv 256) s 0x00000000#32 h.red (.inl rfl) rfl) c

/-- The exponentials of a part's scores. -/
def expo (h : Rel L) (m : FVec Ideal (Sh 256 1) .f32) (s : FVec Ideal (Sh 256 L) .f32) : FVec Ideal (Sh 256 L) .f32 :=
  exp (subf s (broadcastTo (Sh 256 L) m h.bc))

/-- A part's weighted values: the difference of the two components' weights against the part's values. -/
def term (h : Rel L) (lam : Ideal .f32) (p : FVec Ideal (Sh 256 L) .f32) (inv : FVec Ideal (Sh 256 1) .f32) (v : FVec Ideal (Sh L 128) .bf16)
    (hb : FTy.bits .bf16 < FTy.bits .f32) : FVec Ideal (Sh 128 128) .f32 :=
  matmul (DotDims.plain 128 L 128) none
    (truncf .bf16 (subf (extractStridedSlice (Sh 128 L) ![0, 0] (mulf p (broadcastTo (Sh 256 L) inv h.bc)) h.lo)
      (mulf (broadcast (Sh 128 L) lam) (extractStridedSlice (Sh 128 L) ![128, 0] (mulf p (broadcastTo (Sh 256 L) inv h.bc)) h.hi))) hb)
    v (constant (Sh 128 128) .f32 0x00000000#32)

theorem rowMax_apply (h : Rel L) (c) (s : FVec Ideal (Sh 256 L) .f32) (r : Fin 256) :
    rowMax h c s (ix2 r 0) = Finset.univ.fold max ⊥ fun j : Fin L => s (ix2 r j) := by
  unfold rowMax
  pointwise
  rw [show Ideal.ofBits FTy.f32 4286578688#32 = ⊥ by simp [Ideal.ofBits, Ideal.ieee]]

theorem rowSum_apply (h : Rel L) (c) (s : FVec Ideal (Sh 256 L) .f32) (r : Fin 256) :
    rowSum h c s (ix2 r 0) = ∑ j : Fin L, s (ix2 r j) := by
  unfold rowSum
  pointwise

theorem expo_apply (h : Rel L) (m) (s : FVec Ideal (Sh 256 L) .f32) (r : Fin 256) (j : Fin L) :
    expo h m s (ix2 r j) = Ideal.exp (s (ix2 r j) - m (ix2 r 0)) := by
  unfold expo
  pointwise

theorem term_apply (h : Rel L) (lam) (p : FVec Ideal (Sh 256 L) .f32) (inv) (v) (hb) (r : Fin 128) (e : Fin 128) :
    term h lam p inv v hb (ix2 r e) = ∑ j : Fin L, (p (ix2 ⟨r, by omega⟩ j) * inv (ix2 ⟨r, by omega⟩ 0)
      - lam * (p (ix2 ⟨128 + r, by omega⟩ j) * inv (ix2 ⟨128 + r, by omega⟩ 0))) * v (ix2 j e) := by
  unfold term
  refine (Ideal.matmul_plain_apply none _ v _ r e).trans ?_
  rw [show (constant (F := Ideal) (Sh 128 128) .f32 0x00000000#32) (ValueIdx.ix2 r e) = 0 from Ideal.ofBits_zero_f32, zero_add]
  refine Finset.sum_congr rfl fun j _ => ?_
  refine congrArg (· * v (ix2 j e)) ?_
  show (truncf .bf16 _ hb) (ix2 r j) = _
  pointwise

/-- The mask's comparison: key `j` against the query of row `r`, its row number taken modulo 128. -/
theorem mask_iff {L i : ℕ} (hL : L ≤ 2048) (hi : i < 16) (r : Fin 256) (j : Fin L) :
    IntOp.cmpi CmpIPredicate.sle (BitVec.ofNat 32 ↑j) (IntOp.addi (IntOp.andi (BitVec.ofNat 32 ↑r) 127#32) (BitVec.ofNat 32 (128 * i)))
      = BitVec.ofBool (decide (j.val ≤ r.val % 128 + 128 * i)) := by
  have h1 : IntOp.andi (BitVec.ofNat 32 ↑r) 127#32 = BitVec.ofNat 32 (r.val % 128) := by
    revert r; decide +kernel
  have h2 : IntOp.addi (BitVec.ofNat 32 (r.val % 128)) (BitVec.ofNat 32 (128 * i)) = BitVec.ofNat 32 (r.val % 128 + 128 * i) := by
    show BitVec.ofNat 32 (r.val % 128) + BitVec.ofNat 32 (128 * i) = _
    rw [← BitVec.ofNat_add]
  rw [h1, h2]
  show BitVec.ofBool (decide ((BitVec.ofNat 32 ↑j).toInt ≤ (BitVec.ofNat 32 (r.val % 128 + 128 * i)).toInt)) = _
  congr 1
  have e : ∀ n : ℕ, n < 2 ^ 31 → (BitVec.ofNat 32 n).toInt = n := fun n hn => by
    rw [BitVec.toInt_ofNat', Int.bmod_eq_of_le] <;> omega
  rw [e _ (by omega), e _ (by omega)]
  simp only [Nat.cast_le]

theorem realScores_apply (h : Rel L) {i : ℕ} (hL : L ≤ 2048) (hi : i < 16) (q2) (k) (r : Fin 256) (j : Fin L) :
    realScores h (BitVec.ofNat 32 (128 * i)) q2 k (ix2 r j)
      = if j.val ≤ r.val % 128 + 128 * i then ∑ x : Fin 128, q2 (ix2 r x) * k (ix2 j x) else ⊥ := by
  unfold realScores
  pointwise
  rw [mask_iff hL hi, show Ideal.ofBits FTy.f32 4286578688#32 = ⊥ by simp [Ideal.ofBits, Ideal.ieee]]
  by_cases hj : j.val ≤ r.val % 128 + 128 * i <;> simp [hj, Scalar.select]

/-! ## The whole block -/

/-- The shape relations that do not depend on the number of keys. -/
structure Rel0 : Prop where
  cat : Shape.Concatenates [Sh 128 128, Sh 128 128] (Sh 256 128) 0
  i1q : (Sh 128 128).Iotas .tc 32 [1]
  col : (Sv 256).ShapeCasts (Sh 256 1)
  colq : (Sv 128).ShapeCasts (Sh 128 1)
  redq : (Sh 128 128).Reduces [1] (Sv 128)
  bcq : (Sh 128 1).Broadcasts (Sh 128 128)
  bcw : (Sh 1 128).Broadcasts (Sh 128 128)
  bits : FTy.bits .bf16 < FTy.bits .f32

/-- The queries with the other component's lanes zeroed, one component after the other. -/
def split (h : Rel0) (q : FVec Ideal (Sh 128 128) .bf16) : FVec Ideal (Sh 256 128) .bf16 :=
  concatenate (Sh 256 128) 0
    [⟨Sh 128 128, select (cmpi .slt (iota .tc (Sh 128 128) 32 [1] h.i1q) (broadcast (Sh 128 128) 64#32)) q
        (broadcast (Sh 128 128) (Scalar.ofBits .bf16 0x0000#16))⟩,
     ⟨Sh 128 128, select (cmpi .slt (iota .tc (Sh 128 128) 32 [1] h.i1q) (broadcast (Sh 128 128) 64#32))
        (broadcast (Sh 128 128) (Scalar.ofBits .bf16 0x0000#16)) q⟩] h.cat

/-- The scores of the first 128 keys, those after the 16 meta keys masked to `-∞`. -/
def metaScores (h : Rel 128) (q2 : FVec Ideal (Sh 256 128) .bf16) (k : FVec Ideal (Sh 128 128) .bf16) : FVec Ideal (Sh 256 128) .f32 :=
  select (cmpi .slt (iota .tc (Sh 256 128) 32 [1] h.i1) (broadcast (Sh 256 128) 16#32))
    (matmul (DotDims.transposedRhs 256 128 128) none q2 k (constant (Sh 256 128) .f32 0x00000000#32))
    (broadcast (Sh 256 128) (Scalar.ofBits .f32 0xFF800000#32))

/-- The norm of the block's rows. -/
def norm (h : Rel0) (o : FVec Ideal (Sh 128 128) .f32) (w : FVec Ideal (Sh 1 128) .f32) : FVec Ideal (Sh 128 128) .bf16 :=
  truncf .bf16 (mulf (mulf (mulf o (broadcastTo (Sh 128 128) (rsqrt (addf (divf
      (shapeCast (Sh 128 1) (multiReduction .add [1] (Sv 128) (mulf o o) 0x00000000#32 h.redq (.inl rfl) rfl) h.colq)
      (broadcast (Sh 128 1) (Scalar.ofBits .f32 0x43000000#32))) (broadcast (Sh 128 1) (Scalar.ofBits .f32 0x3727C5AC#32)))) h.bcq))
    (broadcastTo (Sh 128 128) w h.bcw)) (broadcast (Sh 128 128) (Scalar.ofBits .f32 0x3F4CCCCD#32))) h.bits

/-- The two parts' weighted values, added. -/
def values (h0 : Rel0) (hm : Rel 128) (h : Rel L) (lam : Ideal .f32) (sm : FVec Ideal (Sh 256 128) .f32) (sr : FVec Ideal (Sh 256 L) .f32)
    (vm : FVec Ideal (Sh 128 128) .bf16) (vr : FVec Ideal (Sh L 128) .bf16) : FVec Ideal (Sh 128 128) .f32 :=
  let m := maximumf (rowMax hm h0.col sm) (rowMax h h0.col sr)
  let inv := divf (broadcast (Sh 256 1) (Scalar.ofBits .f32 0x3F800000#32))
    (addf (rowSum hm h0.col (expo hm m sm)) (rowSum h h0.col (expo h m sr)))
  addf (term hm lam (expo hm m sm) inv vm h0.bits) (term h lam (expo h m sr) inv vr h0.bits)

/-- One block: what the kernel stores for 128 queries. -/
def block (h0 : Rel0) (hm : Rel 128) (h : Rel L) (off : BitVec 32) (lam : Ideal .f32) (q : FVec Ideal (Sh 128 128) .bf16)
    (km vm : FVec Ideal (Sh 128 128) .bf16) (kr vr : FVec Ideal (Sh L 128) .bf16) (w : FVec Ideal (Sh 1 128) .f32) :
    FVec Ideal (Sh 128 128) .bf16 :=
  norm h0 (values h0 hm h lam (metaScores hm (split h0 q) km) (realScores h off (split h0 q) kr) vm vr) w

/-- A comparison of small numbers as words. -/
theorem slt_small (a b : ℕ) (ha : a < 2 ^ 31) (hb : b < 2 ^ 31) :
    IntOp.cmpi CmpIPredicate.slt (BitVec.ofNat 32 a) (BitVec.ofNat 32 b) = BitVec.ofBool (decide (a < b)) := by
  show BitVec.ofBool (decide ((BitVec.ofNat 32 a).toInt < (BitVec.ofNat 32 b).toInt)) = _
  congr 1
  have e : ∀ n : ℕ, n < 2 ^ 31 → (BitVec.ofNat 32 n).toInt = n := fun n hn => by
    rw [BitVec.toInt_ofNat', Int.bmod_eq_of_le] <;> omega
  rw [e a ha, e b hb]
  simp only [Nat.cast_lt]

theorem split_lo (h : Rel0) (q) (r : Fin 128) (d : Fin 128) :
    split h q (ix2 ⟨r, by omega⟩ d) = if d.val < 64 then q (ix2 r d) else 0 := by
  unfold split
  pointwise
  rw [slt_small d 64 (by omega) (by omega)]
  by_cases hd : d.val < 64 <;> simp [hd, Scalar.select]

theorem split_hi (h : Rel0) (q) (r : Fin 128) (d : Fin 128) :
    split h q (ix2 ⟨128 + r, by omega⟩ d) = if d.val < 64 then 0 else q (ix2 r d) := by
  unfold split
  pointwise
  rw [slt_small d 64 (by omega) (by omega)]
  by_cases hd : d.val < 64 <;> simp [hd, Scalar.select]

theorem metaScores_apply (h : Rel 128) (q2) (k) (r : Fin 256) (j : Fin 128) :
    metaScores h q2 k (ix2 r j) = if j.val < 16 then ∑ x : Fin 128, q2 (ix2 r x) * k (ix2 j x) else ⊥ := by
  unfold metaScores
  pointwise
  rw [slt_small j 16 (by omega) (by omega), show Ideal.ofBits FTy.f32 4286578688#32 = ⊥ by simp [Ideal.ofBits, Ideal.ieee]]
  by_cases hd : j.val < 16 <;> simp [hd, Scalar.select]

theorem norm_apply (h : Rel0) (o w) (r e : Fin 128) :
    norm h o w (ix2 r e) = Attn.normed (fun i => o (ix2 r i)) (fun i => w (ix2 0 i)) e := by
  unfold norm Attn.normed
  pointwise

/-- The masked queries' scores are the components' scores. -/
theorem score_lo (h : Rel0) (q) (r : Fin 128) (k : Fin 128 → EReal) :
    (∑ x : Fin 128, split h q (ix2 ⟨r, by omega⟩ x) * k x) = Attn.score (fun d => q (ix2 r d)) k 0 (by omega) := by
  rw [Fin.sum_univ_two_halves 64 64 rfl]
  simp only [split_lo]
  unfold Attn.score
  have h2 : ∀ i : Fin 64, ¬ (64 + i.val < 64) := fun i => by omega
  simp only [h2, if_false, zero_mul, Finset.sum_const_zero, add_zero, Fin.is_lt, if_true, Nat.zero_add]

theorem score_hi (h : Rel0) (q) (r : Fin 128) (k : Fin 128 → EReal) :
    (∑ x : Fin 128, split h q (ix2 ⟨128 + r, by omega⟩ x) * k x) = Attn.score (fun d => q (ix2 r d)) k 1 (by omega) := by
  rw [Fin.sum_univ_two_halves 64 64 rfl]
  simp only [split_hi]
  unfold Attn.score
  have h2 : ∀ i : Fin 64, ¬ (64 + i.val < 64) := fun i => by omega
  simp only [h2, if_false, zero_mul, Finset.sum_const_zero, zero_add, Fin.is_lt, if_true, one_mul]

variable {K V : Fin 2064 → Fin 128 → EReal}

theorem values_apply (h0 : Rel0) (hm : Rel 128) (h : Rel L) (hL : L ≤ 2048) (lam sm sr vm vr) (r e : Fin 128) {g₀ g₁ : Fin 2064 → EReal}
    (p₀ : Attn.Parts L g₀ (fun j => sm (ix2 ⟨r, by omega⟩ j)) (fun j => sr (ix2 ⟨r, by omega⟩ j)))
    (p₁ : Attn.Parts L g₁ (fun j => sm (ix2 ⟨128 + r, by omega⟩ j)) (fun j => sr (ix2 ⟨128 + r, by omega⟩ j)))
    (d₀ : (∑ i, Attn.ex g₀ i) ≠ 0) (d₁ : (∑ i, Attn.ex g₁ i) ≠ 0)
    (hvm : ∀ (j : Fin 128), vm (ix2 j e) = V ⟨j, by omega⟩ e)
    (hvr : ∀ (j : Fin L) (hj : 16 + j.val < 2064), vr (ix2 j e) = V ⟨16 + j, hj⟩ e) :
    values h0 hm h lam sm sr vm vr (ix2 r e) = Attn.mixed lam g₀ g₁ (fun j => V j e) := by
  unfold values
  pointwise [rowMax_apply, rowSum_apply, term_apply, expo_apply]
  rw [p₀.top hL, p₁.top hL, p₀.den hL, p₁.den hL]
  exact Attn.mixed_parts hL lam p₀ p₁ d₀ d₁ _ _ _ hvm hvr

/-- **A block is the attention of its rows.** -/
theorem block_apply (h0 : Rel0) (hm : Rel 128) (h : Rel L) {i : ℕ} (hL : L = 128 * (i + 1)) (hi : i < 16) (lam q km vm kr vr w) (r e : Fin 128)
    (hkm : ∀ (j d : Fin 128), km (ix2 j d) = K ⟨j, by omega⟩ d) (hvm : ∀ (j d : Fin 128), vm (ix2 j d) = V ⟨j, by omega⟩ d)
    (hkr : ∀ (j : Fin L) (d : Fin 128) (hj : 16 + j.val < 2064), kr (ix2 j d) = K ⟨16 + j, hj⟩ d)
    (hvr : ∀ (j : Fin L) (d : Fin 128) (hj : 16 + j.val < 2064), vr (ix2 j d) = V ⟨16 + j, hj⟩ d)
    (hq : ∀ d, Attn.Fin' (q (ix2 r d))) (hK : ∀ j d, Attn.Fin' (K j d)) :
    block h0 hm h (BitVec.ofNat 32 (128 * i)) lam q km vm kr vr w (ix2 r e)
      = Attn.out lam (fun d => q (ix2 r d)) K V (fun d => w (ix2 0 d)) ⟨16 + 128 * i + r, by omega⟩ e := by
  have hL' : L ≤ 2048 := by omega
  unfold block Attn.out
  rw [norm_apply]
  refine congrArg (Attn.normed · _ e) (funext fun e' => ?_)
  refine values_apply h0 hm h hL' _ _ _ _ _ r e' ?_ ?_ (Attn.den_ne_zero _ _ fun j => Attn.score_finite hq (hK j) _ _)
    (Attn.den_ne_zero _ _ fun j => Attn.score_finite hq (hK j) _ _) (fun j => hvm j e') (fun j hj => hvr j e' hj)
  · refine ⟨fun j => ?_, fun j hj => ?_, fun j hj => ?_⟩
    · simp only [metaScores_apply, hkm]
      split_ifs with h16
      · rw [score_lo h0 q r fun d => K ⟨j, by omega⟩ d]
        unfold Attn.row Attn.causal
        rw [if_pos (by show j.val ≤ 16 + 128 * i + r.val; omega)]
      · rfl
    · simp only [realScores_apply h hL' hi, hkr _ _ hj]
      rw [score_lo h0 q r fun d => K ⟨16 + j, hj⟩ d]
      unfold Attn.row Attn.causal
      refine if_congr ?_ rfl rfl
      show j.val ≤ r.val % 128 + 128 * i ↔ 16 + j.val ≤ 16 + 128 * i + r.val
      omega
    · unfold Attn.row Attn.causal
      rw [if_neg (by show ¬ j.val ≤ 16 + 128 * i + r.val; omega)]
  · refine ⟨fun j => ?_, fun j hj => ?_, fun j hj => ?_⟩
    · simp only [metaScores_apply, hkm]
      split_ifs with h16
      · rw [score_hi h0 q r fun d => K ⟨j, by omega⟩ d]
        unfold Attn.row Attn.causal
        rw [if_pos (by show j.val ≤ 16 + 128 * i + r.val; omega)]
      · rfl
    · simp only [realScores_apply h hL' hi, hkr _ _ hj]
      rw [score_hi h0 q r fun d => K ⟨16 + j, hj⟩ d]
      unfold Attn.row Attn.causal
      refine if_congr ?_ rfl rfl
      show j.val ≤ (128 + r.val) % 128 + 128 * i ↔ 16 + j.val ≤ 16 + 128 * i + r.val
      omega
    · unfold Attn.row Attn.causal
      rw [if_neg (by show ¬ j.val ≤ 16 + 128 * i + r.val; omega)]

end Attend
end
-- ==== Proof.AttendMeta.lean ====
/- The block of the 16 meta queries of the attention kernel: what is stored for them, entry by entry. -/
module

public import Idealize.ShloMosaic.PureOps.Ideal.Laws
public import Idealize.ShloMosaic.Lib.Pointwise
public import Idealize.ShloMosaic.Lib.MatmulPlain
public import proofs.«01_k».proof.Proof.AttnSpec
public import proofs.«01_k».proof.Proof.Attend
public import proofs.«01_k».proof.Proof.Gen.KernelIdeal.Skeleton

@[expose] public section

set_option maxRecDepth 16384

noncomputable section

namespace AttendMeta

open Idealize.ShloMosaic Cert.KernelIdeal Attend

variable (q : FVec Ideal S16x128 .bf16) (k : FVec Ideal S128x128 .bf16)

theorem mask_meta (r : Fin 32) (j : Fin 128) :
    IntOp.cmpi CmpIPredicate.sle (BitVec.ofNat 32 ↑j) (IntOp.andi (BitVec.ofNat 32 ↑r) 15#32) = BitVec.ofBool (decide (j.val ≤ r.val % 16)) := by
  have h1 : IntOp.andi (BitVec.ofNat 32 ↑r) 15#32 = BitVec.ofNat 32 (r.val % 16) := by
    revert r; decide +kernel
  rw [h1]
  show BitVec.ofBool (decide ((BitVec.ofNat 32 ↑j).toInt ≤ (BitVec.ofNat 32 (r.val % 16)).toInt)) = _
  congr 1
  have e : ∀ n : ℕ, n < 2 ^ 31 → (BitVec.ofNat 32 n).toInt = n := fun n hn => by
    rw [BitVec.toInt_ofNat', Int.bmod_eq_of_le] <;> omega
  rw [e _ (by omega), e _ (by omega)]
  simp only [Nat.cast_le]

theorem lane_lo : ∀ x : Fin 64, IntOp.cmpi CmpIPredicate.slt (BitVec.ofNat 32 x.val) 64#32 = 1#1 := by decide +kernel
theorem lane_hi : ∀ x : Fin 64, IntOp.cmpi CmpIPredicate.slt (BitVec.ofNat 32 (64 + x.val)) 64#32 = 0#1 := by decide +kernel

/-- A masked score of the first component. -/
theorem pay4_lo (r : Fin 16) (j : Fin 128) : Gen.k0_pay4 (F := Ideal) k q (ix2 ⟨r, by omega⟩ j)
    = if j.val ≤ r.val then Attn.score (fun d => q (ix2 r d)) (fun d => k (ix2 j d)) 0 (by omega) else ⊥ := by
  unfold Gen.k0_pay4
  pointwise
  rw [mask_meta ⟨r, by omega⟩ j, show Ideal.ofBits FTy.f32 4286578688#32 = ⊥ by simp [Ideal.ofBits, Ideal.ieee],
    show (⟨r.val, by omega⟩ : Fin 32).val % 16 = r.val from Nat.mod_eq_of_lt r.2, Fin.sum_univ_two_halves 64 64 rfl]
  unfold Attn.score
  by_cases hj : j.val ≤ r.val <;> simp [hj, Scalar.select, lane_lo, lane_hi]

/-- A masked score of the second component. -/
theorem pay4_hi (r : Fin 16) (j : Fin 128) : Gen.k0_pay4 (F := Ideal) k q (ix2 ⟨16 + r, by omega⟩ j)
    = if j.val ≤ r.val then Attn.score (fun d => q (ix2 r d)) (fun d => k (ix2 j d)) 1 (by omega) else ⊥ := by
  unfold Gen.k0_pay4
  pointwise
  rw [mask_meta ⟨16 + r, by omega⟩ j, show Ideal.ofBits FTy.f32 4286578688#32 = ⊥ by simp [Ideal.ofBits, Ideal.ieee],
    show (⟨16 + r.val, by omega⟩ : Fin 32).val % 16 = r.val by show (16 + r.val) % 16 = r.val; omega, Fin.sum_univ_two_halves 64 64 rfl]
  unfold Attn.score
  have h4 : ¬ (16 + r.val < 16) := by omega
  by_cases hj : j.val ≤ r.val <;> simp [hj, Scalar.select, lane_lo, lane_hi]

theorem pay5_apply (r : Fin 32) (j : Fin 128) : Gen.k0_pay5 (F := Ideal) k q (ix2 r j) = Finset.univ.fold max ⊥ fun j => Gen.k0_pay4 (F := Ideal) k q (ix2 r j) := by
  unfold Gen.k0_pay5
  pointwise
  rw [show Ideal.ofBits FTy.f32 4286578688#32 = ⊥ by simp [Ideal.ofBits, Ideal.ieee]]

variable {K V : Fin 2064 → Fin 128 → EReal}

theorem block_apply (lam : EReal) (v : FVec Ideal S128x128 .bf16) (w : FVec Ideal S1x128 .f32) (r : Fin 16) (e : Fin 128)
    (hk : ∀ (j d : Fin 128), k (ix2 j d) = K ⟨j, by omega⟩ d) (hv : ∀ (j d : Fin 128), v (ix2 j d) = V ⟨j, by omega⟩ d)
    (hq : ∀ d, Attn.Fin' (q (ix2 r d))) (hK : ∀ j d, Attn.Fin' (K j d)) :
    Gen.k0_pay6 (F := Ideal) lam v w (Gen.k0_pay4 (F := Ideal) k q) (Gen.k0_pay5 (F := Ideal) k q) (ix2 r e)
      = Attn.out lam (fun d => q (ix2 r d)) K V (fun d => w (ix2 0 d)) ⟨r, by omega⟩ e := by
  unfold Gen.k0_pay6
  pointwise
  have hbot : (Finset.univ.fold max ⊥ fun _ : Fin 0 => (⊥ : EReal)) = ⊥ := rfl
  have part : ∀ (c : ℕ) (hc : c < 2) (a : Fin 128 → EReal)
      (_ : ∀ j : Fin 128, a j = if j.val ≤ r.val then Attn.score (fun d => q (ix2 r d)) (fun d => k (ix2 j d)) c hc else ⊥),
      Attn.Parts 0 (Attn.row (fun d => q (ix2 r d)) K ⟨r, by omega⟩ c hc) a (fun _ => ⊥) := fun c hc a ha => by
    refine ⟨fun j => ?_, fun j => j.elim0, fun j hj => ?_⟩
    · rw [ha j]
      unfold Attn.row Attn.causal
      simp only [hk]
      by_cases h : j.val ≤ r.val
      · rw [if_pos h, if_pos (show j.val < 16 by omega)]
      · rw [if_neg h]; split_ifs
        · rfl
        · rfl
    · unfold Attn.row Attn.causal
      rw [if_neg (by show ¬ j.val ≤ r.val; omega)]
  have p₀ := part 0 (by omega) _ (pay4_lo q k r)
  have p₁ := part 1 (by omega) _ (pay4_hi q k r)
  have t₀ := (max_bot_right _).symm.trans (p₀.top (by omega))
  have t₁ := (max_bot_right _).symm.trans (p₁.top (by omega))
  have s₀ := p₀.den (by omega)
  have s₁ := p₁.den (by omega)
  have hd : ∀ (c : ℕ) (hc : c < 2), (∑ i, Attn.ex (Attn.row (fun d => q (ix2 r d)) K ⟨r, by omega⟩ c hc) i) ≠ 0 := fun c hc =>
    Attn.den_ne_zero _ _ fun j => Attn.score_finite hq (hK j) _ _
  have hm := fun e => Attn.mixed_parts (by omega) lam p₀ p₁ (hd 0 (by omega)) (hd 1 (by omega)) (fun j => V j e) (fun j => v (ix2 j e)) (fun _ => 0)
    (fun j => hv j e) (fun j => j.elim0)
  simp only [Finset.univ_eq_empty, Finset.sum_empty, add_zero] at s₀ s₁ hm
  simp only [pay5_apply, t₀, t₁, s₀, s₁, hm]
  rfl

end AttendMeta
end
-- ==== Proof.AttendPiece.lean ====
/- What one launch point of the attention kernel leaves in its output block: every stored piece is the attention of its rows. -/
module

public import proofs.«01_k».proof.Proof.AttendMeta
public import proofs.«01_k».proof.Proof.Gen.KernelIdeal.Frame

@[expose] public section

set_option maxRecDepth 65536

noncomputable section

namespace AttendRun

open Idealize.ShloMosaic Cert.KernelIdeal Cert.KernelIdeal.Gen Idealize.ShloMosaic.TcCoe Idealize.SL.Sem

/-- What the launch point stores at a row and lane, from the point's blocks. -/
def G (x0 : Vec Ideal S1 .f32) (x1 : Vec Ideal S2064x128 .bf16) (x2 x3 : Vec Ideal S2064x128 .f32) (x4 : Vec Ideal S1x128 .f32) : Vec Ideal S2064x128 .bf16 := fun y =>
  Attn.out (x0 (ix1 0)) (fun d => x1 (ix2 (y 0) d)) (fun j d => x2 (ix2 j d)) (fun j d => x3 (ix2 j d)) (fun d => x4 (ix2 0 d)) (y 0) (y 1)

/-- A load through a whole-buffer store reads what was stored. -/
theorem readCov_whole {sig : RefSig} {κ : Kind} {sp : Space} {e : EltTy} {S : Shape} (v : View sig κ sp S e) {off : Fin S.rank → ℕ} (h0 : off = fun _ => 0) (inb)
    (w : S.Idx → Elt Ideal e) (r : Rect S) (x) :
    v.readCov [(⟨Rect.unit off S.size inb, w⟩ : View.Piece (Elt Ideal) S e)] r.toLoadRect x = w (r.emb x) := by
  rw [View.readCov_eq_canon_ld _ _ _ (fun y => ⟨_, List.mem_singleton_self _, View.mem_set_unit_zero h0 inb y⟩), View.canon_unit_zero h0]
  rfl

/-- A load of a staged array reads its entries. -/
theorem readAt_unread {κ : Kind} {sp : Space} {e : EltTy} {S : Shape} (a : Memref sig κ sp S e) (ha : a.IsWhole) (x : S.Idx → Elt Ideal e) (r : Rect S) (y) :
    View.readAt (Elt Ideal) a.view r.toLoadRect (ha.unread x) y = x (r.emb y) :=
  congrFun (ha.read_unread x) _

theorem rel0 : Attend.Rel0 := by
  refine ⟨?_, ?_, ?_, ?_, ?_, ?_, ?_, ?_⟩
  · exact concatenates_S128x128_S128x128_S256x128_d0
  · exact iota_S128x128_d1_w32
  · exact shapeCasts_S256_S256x1
  · exact shapeCasts_S128_S128x1
  · exact reduces_S128x128_S128
  · exact broadcasts_S128x1_S128x128
  · exact broadcasts_S1x128_S128x128
  · exact bitsLt_bf16_f32

variable (c : Dev nD) (arg2 : Memref sig .tc .smem S1 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S1x128 .f32) (harg6 : arg6.IsWhole)
    (arg8 : Memref sig .tc .vmem S2064x128 .bf16) (arg9 : Memref sig .tc .vmem S2064x128 .bf16)
    (x0 : Vec Ideal S1 .f32) (x1 : Vec Ideal S2064x128 .bf16) (x2 : Vec Ideal S2064x128 .f32) (x3 : Vec Ideal S2064x128 .f32) (x4 : Vec Ideal S1x128 .f32)

theorem lam_read : kernelRun0_A.sl.r (F := Ideal) c arg2 harg2 x0 = x0 (ix1 0) :=
  (congrFun (harg2.read_unread x0) _).trans (congrArg x0 (funext fun a => match a with | ⟨0, _⟩ => Subsingleton.elim (α := Fin 1) _ _))

theorem whole_unit (x : S2064x128.Idx) (inb) : (Rect.unit (s := S2064x128) ![0, 0] S2064x128.size inb).emb x = x :=
  funext fun a => Fin.ext (match a with
    | ⟨0, _⟩ => by show 0 + 1 * (x 0).val = (x 0).val; omega
    | ⟨1, _⟩ => by show 0 + 1 * (x 1).val = (x 1).val; omega)

/-- The key scratch holds the keys. -/
theorem keys_read (r : Rect S2064x128) (x) : arg8.view.readCov (kernelRun0_A.sl.HS0_1 (F := Ideal) c arg4 harg4 x2) r.toLoadRect x = x2 (r.emb x) := by
  unfold kernelRun0_A.sl.HS0_1
  rw [readCov_whole arg8.view (by funext a; fin_cases a <;> rfl)]
  unfold k0_pay2
  show shapeCast S2064x128 _ _ (r.emb x) = _
  rw [shapeCast_self]
  exact (readAt_unread arg4 harg4 x2 _ _).trans (congrArg x2 (whole_unit _ _))

/-- The value scratch holds the values. -/
theorem vals_read (r : Rect S2064x128) (x) : arg9.view.readCov (kernelRun0_A.sl.HS1_1 (F := Ideal) c arg5 harg5 x3) r.toLoadRect x = x3 (r.emb x) := by
  unfold kernelRun0_A.sl.HS1_1
  rw [readCov_whole arg9.view (by funext a; fin_cases a <;> rfl)]
  unfold k0_pay3
  show shapeCast S2064x128 _ _ (r.emb x) = _
  rw [shapeCast_self]
  exact (readAt_unread arg5 harg5 x3 _ _).trans (congrArg x3 (whole_unit _ _))

theorem emb_unit {o a b : ℕ} {inb} (j : Fin a) (d : Fin b) (h : o + j.val < 2064) (hd : d.val < 128) :
    (Rect.unit (s := S2064x128) ![o, 0] ![a, b] inb).emb (ix2 j d) = ix2 ⟨o + j, h⟩ ⟨d, hd⟩ :=
  funext fun q => Fin.ext (match q with
    | ⟨0, _⟩ => by show o + 1 * j.val = o + j.val; omega
    | ⟨1, _⟩ => by show 0 + 1 * d.val = d.val; omega)

/-- The piece stored for the `i`-th block of 128 queries. -/
theorem piece {L i o : ℕ} (h : Attend.Rel L) (hm : Attend.Rel 128) (hL : L = 128 * (i + 1)) (hi : i < 16) (ho : o = 16 + 128 * i)
    {inbq : ∀ a, (![o, 0] : Fin S2064x128.rank → ℕ) a + (![128, 128] : Fin S2064x128.rank → ℕ) a ≤ S2064x128.size a}
    {inbk : ∀ a, (![16, 0] : Fin S2064x128.rank → ℕ) a + (![L, 128] : Fin S2064x128.rank → ℕ) a ≤ S2064x128.size a}
    (hq : ∀ y, Attn.Fin' (x1 y)) (hk : ∀ y, Attn.Fin' (x2 y)) (x : (Rect.unit (s := S2064x128) ![o, 0] ![128, 128] inbq).shape.Idx) :
    Attend.block rel0 hm h (BitVec.ofNat 32 (128 * i)) (kernelRun0_A.sl.r (F := Ideal) c arg2 harg2 x0)
      (View.readAt (Elt Ideal) arg3.view (Rect.unit (s := S2064x128) ![o, 0] ![128, 128] inbq).toLoadRect (harg3.unread x1))
      (kernelRun0_A.sl.v11 (F := Ideal) c arg4 harg4 arg8 x2) (kernelRun0_A.sl.v12 (F := Ideal) c arg5 harg5 arg9 x3)
      (arg8.view.readCov (kernelRun0_A.sl.HS0_1 (F := Ideal) c arg4 harg4 x2) (Rect.unit (s := S2064x128) ![16, 0] ![L, 128] inbk).toLoadRect)
      (arg9.view.readCov (kernelRun0_A.sl.HS1_1 (F := Ideal) c arg5 harg5 x3) (Rect.unit (s := S2064x128) ![16, 0] ![L, 128] inbk).toLoadRect)
      (kernelRun0_A.sl.r_1 (F := Ideal) c arg6 harg6 x4) x
      = G x0 x1 x2 x3 x4 ((Rect.unit (s := S2064x128) ![o, 0] ![128, 128] inbq).emb x) := by
  obtain ⟨r, e, rfl⟩ : ∃ (r e : Fin 128), x = ix2 r e := ⟨x 0, x 1, funext fun a => match a with | ⟨0, _⟩ => rfl | ⟨1, _⟩ => rfl⟩
  have hqr : ∀ d : Fin 128, View.readAt (Elt Ideal) arg3.view (Rect.unit (s := S2064x128) ![o, 0] ![128, 128] inbq).toLoadRect (harg3.unread x1) (ix2 r d)
      = x1 (ix2 ⟨16 + 128 * i + r, by omega⟩ d) := fun d => by
    refine (readAt_unread arg3 harg3 x1 _ _).trans (congrArg x1 ((emb_unit r d (by omega) d.2).trans ?_))
    subst ho; rfl
  rw [Attend.block_apply (K := fun j d => x2 (ix2 j d)) (V := fun j d => x3 (ix2 j d)) rel0 hm h hL hi]
  · rw [lam_read, emb_unit r e (by omega) e.2]
    subst ho
    unfold G
    simp only [hqr]
    refine congrArg (fun w => Attn.out _ _ _ _ w _ _) (funext fun d => ?_)
    exact (readAt_unread arg6 harg6 x4 _ _).trans (congrArg x4 (funext fun q => Fin.ext (match q with
      | ⟨0, _⟩ => rfl
      | ⟨1, _⟩ => by show 0 + 1 * d.val = d.val; omega)))
  · intro j d
    exact (keys_read c arg4 harg4 arg8 x2 _ _).trans (congrArg x2 ((emb_unit j d (by omega) d.2).trans (by simp)))
  · intro j d
    exact (vals_read c arg5 harg5 arg9 x3 _ _).trans (congrArg x3 ((emb_unit j d (by omega) d.2).trans (by simp)))
  · intro j d hj
    exact (keys_read c arg4 harg4 arg8 x2 _ _).trans (congrArg x2 (emb_unit j d (by omega) d.2))
  · intro j d hj
    exact (vals_read c arg5 harg5 arg9 x3 _ _).trans (congrArg x3 (emb_unit j d (by omega) d.2))
  · intro d
    rw [hqr]; exact hq _
  · intro j d
    exact hk _

/-- The piece stored for the 16 meta queries. -/
theorem piece_meta {inbq : ∀ a, (![0, 0] : Fin S2064x128.rank → ℕ) a + (![16, 128] : Fin S2064x128.rank → ℕ) a ≤ S2064x128.size a}
    (hq : ∀ y, Attn.Fin' (x1 y)) (hk : ∀ y, Attn.Fin' (x2 y)) (x : (Rect.unit (s := S2064x128) ![0, 0] ![16, 128] inbq).shape.Idx) :
    k0_pay6 (F := Ideal) (kernelRun0_A.sl.r (F := Ideal) c arg2 harg2 x0) (kernelRun0_A.sl.v12 (F := Ideal) c arg5 harg5 arg9 x3)
      (kernelRun0_A.sl.r_1 (F := Ideal) c arg6 harg6 x4)
      (k0_pay4 (F := Ideal) (kernelRun0_A.sl.v11 (F := Ideal) c arg4 harg4 arg8 x2)
        (View.readAt (Elt Ideal) arg3.view (Rect.unit (s := S2064x128) ![0, 0] ![16, 128] inbq).toLoadRect (harg3.unread x1)))
      (k0_pay5 (F := Ideal) (kernelRun0_A.sl.v11 (F := Ideal) c arg4 harg4 arg8 x2)
        (View.readAt (Elt Ideal) arg3.view (Rect.unit (s := S2064x128) ![0, 0] ![16, 128] inbq).toLoadRect (harg3.unread x1))) x
      = G x0 x1 x2 x3 x4 ((Rect.unit (s := S2064x128) ![0, 0] ![16, 128] inbq).emb x) := by
  obtain ⟨r, e, rfl⟩ : ∃ (r : Fin 16) (e : Fin 128), x = ix2 r e := ⟨x 0, x 1, funext fun a => match a with | ⟨0, _⟩ => rfl | ⟨1, _⟩ => rfl⟩
  have hqr : ∀ d : Fin 128, View.readAt (Elt Ideal) arg3.view (Rect.unit (s := S2064x128) ![0, 0] ![16, 128] inbq).toLoadRect (harg3.unread x1) (ix2 r d)
      = x1 (ix2 ⟨r, by omega⟩ d) := fun d =>
    (readAt_unread arg3 harg3 x1 _ _).trans (congrArg x1 ((emb_unit r d (by omega) d.2).trans (by simp)))
  rw [AttendMeta.block_apply (K := fun j d => x2 (ix2 j d)) (V := fun j d => x3 (ix2 j d))]
  · rw [lam_read, emb_unit r e (by omega) e.2]
    unfold G
    simp only [hqr, Nat.zero_add]
    refine congrArg (fun w => Attn.out _ _ _ _ w _ _) (funext fun d => ?_)
    exact (readAt_unread arg6 harg6 x4 _ _).trans (congrArg x4 (funext fun q => Fin.ext (match q with
      | ⟨0, _⟩ => rfl
      | ⟨1, _⟩ => by show 0 + 1 * d.val = d.val; omega)))
  · intro j d
    exact (keys_read c arg4 harg4 arg8 x2 _ _).trans (congrArg x2 ((emb_unit j d (by omega) d.2).trans (by simp)))
  · intro j d
    exact (vals_read c arg5 harg5 arg9 x3 _ _).trans (congrArg x3 ((emb_unit j d (by omega) d.2).trans (by simp)))
  · intro d
    rw [hqr]; exact hq _
  · intro j d
    exact hk _

end AttendRun
end
-- ==== Proof.AttendOut.lean ====
/- One launch point of the attention kernel: its whole output block, row by row. -/
module

public import proofs.«01_k».proof.Proof.AttendPiece

@[expose] public section

set_option maxRecDepth 65536

noncomputable section

namespace AttendRun

open Idealize.ShloMosaic Cert.KernelIdeal Cert.KernelIdeal.Gen Idealize.ShloMosaic.TcCoe Idealize.SL.Sem

theorem rel128 : Attend.Rel 128 := ⟨reduces_S256x128_S256, broadcasts_S256x1_S256x128, slices_S256x128_o0_0_S128x128, slices_S256x128_o128_0_S128x128, iota_S256x128_d0_w32, iota_S256x128_d1_w32⟩
theorem rel256 : Attend.Rel 256 := ⟨reduces_S256x256_S256, broadcasts_S256x1_S256x256, slices_S256x256_o0_0_S128x256, slices_S256x256_o128_0_S128x256, iota_S256x256_d0_w32, iota_S256x256_d1_w32⟩
theorem rel384 : Attend.Rel 384 := ⟨reduces_S256x384_S256, broadcasts_S256x1_S256x384, slices_S256x384_o0_0_S128x384, slices_S256x384_o128_0_S128x384, iota_S256x384_d0_w32, iota_S256x384_d1_w32⟩
theorem rel512 : Attend.Rel 512 := ⟨reduces_S256x512_S256, broadcasts_S256x1_S256x512, slices_S256x512_o0_0_S128x512, slices_S256x512_o128_0_S128x512, iota_S256x512_d0_w32, iota_S256x512_d1_w32⟩
theorem rel640 : Attend.Rel 640 := ⟨reduces_S256x640_S256, broadcasts_S256x1_S256x640, slices_S256x640_o0_0_S128x640, slices_S256x640_o128_0_S128x640, iota_S256x640_d0_w32, iota_S256x640_d1_w32⟩
theorem rel768 : Attend.Rel 768 := ⟨reduces_S256x768_S256, broadcasts_S256x1_S256x768, slices_S256x768_o0_0_S128x768, slices_S256x768_o128_0_S128x768, iota_S256x768_d0_w32, iota_S256x768_d1_w32⟩
theorem rel896 : Attend.Rel 896 := ⟨reduces_S256x896_S256, broadcasts_S256x1_S256x896, slices_S256x896_o0_0_S128x896, slices_S256x896_o128_0_S128x896, iota_S256x896_d0_w32, iota_S256x896_d1_w32⟩
theorem rel1024 : Attend.Rel 1024 := ⟨reduces_S256x1024_S256, broadcasts_S256x1_S256x1024, slices_S256x1024_o0_0_S128x1024, slices_S256x1024_o128_0_S128x1024, iota_S256x1024_d0_w32, iota_S256x1024_d1_w32⟩
theorem rel1152 : Attend.Rel 1152 := ⟨reduces_S256x1152_S256, broadcasts_S256x1_S256x1152, slices_S256x1152_o0_0_S128x1152, slices_S256x1152_o128_0_S128x1152, iota_S256x1152_d0_w32, iota_S256x1152_d1_w32⟩
theorem rel1280 : Attend.Rel 1280 := ⟨reduces_S256x1280_S256, broadcasts_S256x1_S256x1280, slices_S256x1280_o0_0_S128x1280, slices_S256x1280_o128_0_S128x1280, iota_S256x1280_d0_w32, iota_S256x1280_d1_w32⟩
theorem rel1408 : Attend.Rel 1408 := ⟨reduces_S256x1408_S256, broadcasts_S256x1_S256x1408, slices_S256x1408_o0_0_S128x1408, slices_S256x1408_o128_0_S128x1408, iota_S256x1408_d0_w32, iota_S256x1408_d1_w32⟩
theorem rel1536 : Attend.Rel 1536 := ⟨reduces_S256x1536_S256, broadcasts_S256x1_S256x1536, slices_S256x1536_o0_0_S128x1536, slices_S256x1536_o128_0_S128x1536, iota_S256x1536_d0_w32, iota_S256x1536_d1_w32⟩
theorem rel1664 : Attend.Rel 1664 := ⟨reduces_S256x1664_S256, broadcasts_S256x1_S256x1664, slices_S256x1664_o0_0_S128x1664, slices_S256x1664_o128_0_S128x1664, iota_S256x1664_d0_w32, iota_S256x1664_d1_w32⟩
theorem rel1792 : Attend.Rel 1792 := ⟨reduces_S256x1792_S256, broadcasts_S256x1_S256x1792, slices_S256x1792_o0_0_S128x1792, slices_S256x1792_o128_0_S128x1792, iota_S256x1792_d0_w32, iota_S256x1792_d1_w32⟩
theorem rel1920 : Attend.Rel 1920 := ⟨reduces_S256x1920_S256, broadcasts_S256x1_S256x1920, slices_S256x1920_o0_0_S128x1920, slices_S256x1920_o128_0_S128x1920, iota_S256x1920_d0_w32, iota_S256x1920_d1_w32⟩
theorem rel2048 : Attend.Rel 2048 := ⟨reduces_S256x2048_S256, broadcasts_S256x1_S256x2048, slices_S256x2048_o0_0_S128x2048, slices_S256x2048_o128_0_S128x2048, iota_S256x2048_d0_w32, iota_S256x2048_d1_w32⟩

theorem out_apply (c : Dev nD) (i : grid0.Coords) (arg2 : Memref sig .tc .smem S1 .f32) (harg2 : arg2.IsWhole) (arg3 : Memref sig .tc .vmem S2064x128 .bf16) (harg3 : arg3.IsWhole) (arg4 : Memref sig .tc .vmem S2064x128 .f32) (harg4 : arg4.IsWhole) (arg5 : Memref sig .tc .vmem S2064x128 .f32) (harg5 : arg5.IsWhole) (arg6 : Memref sig .tc .vmem S1x128 .f32) (harg6 : arg6.IsWhole) (arg7 : Memref sig .tc .vmem S2064x128 .bf16) (harg7 : arg7.IsWhole) (arg8 : Memref sig .tc .vmem S2064x128 .bf16) (harg8 : arg8.IsWhole) (arg9 : Memref sig .tc .vmem S2064x128 .bf16) (harg9 : arg9.IsWhole)
    (x0 : Vec Ideal S1 .f32) (x1 : Vec Ideal S2064x128 .bf16) (x2 : Vec Ideal S2064x128 .f32) (x3 : Vec Ideal S2064x128 .f32) (x4 : Vec Ideal S1x128 .f32)
    (hq : ∀ y, Attn.Fin' (x1 y)) (hk : ∀ y, Attn.Fin' (x2 y)) (y : S2064x128.Idx) :
    out0_A_5 (F := Ideal) c i arg2 harg2 arg3 harg3 arg4 harg4 arg5 harg5 arg6 harg6 arg7 harg7 arg8 harg8 arg9 harg9 x0 x1 x2 x3 x4 y = G x0 x1 x2 x3 x4 y := by
  refine View.read_writes_apply_of_pieces VO0_5 _ (G x0 x1 x2 x3 x4) _ ?_ y (cover0_A_5 c i arg2 harg2 arg3 harg3 arg4 harg4 arg5 harg5 arg6 harg6 arg7 harg7 arg8 harg8 arg9 harg9 x0 x1 x2 x3 x4 y)
  unfold kernelRun0_A
  simp only [List.forall_mem_cons]
  have h128 := rel128
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · refine Eq.trans ?_ (piece c arg2 harg2 arg3 harg3 arg4 harg4 arg5 harg5 arg6 harg6 arg8 arg9 x0 x1 x2 x3 x4 (i := 15) rel2048 rel128 rfl (by omega) rfl
      (inbk := inb_S2064x128_S2048x128_16_0) hq hk x)
    sl_kernel_rfl
  · refine Eq.trans ?_ (piece c arg2 harg2 arg3 harg3 arg4 harg4 arg5 harg5 arg6 harg6 arg8 arg9 x0 x1 x2 x3 x4 (i := 14) rel1920 rel128 rfl (by omega) rfl
      (inbk := inb_S2064x128_S1920x128_16_0) hq hk x)
    sl_kernel_rfl
  · refine Eq.trans ?_ (piece c arg2 harg2 arg3 harg3 arg4 harg4 arg5 harg5 arg6 harg6 arg8 arg9 x0 x1 x2 x3 x4 (i := 13) rel1792 rel128 rfl (by omega) rfl
      (inbk := inb_S2064x128_S1792x128_16_0) hq hk x)
    sl_kernel_rfl
  · refine Eq.trans ?_ (piece c arg2 harg2 arg3 harg3 arg4 harg4 arg5 harg5 arg6 harg6 arg8 arg9 x0 x1 x2 x3 x4 (i := 12) rel1664 rel128 rfl (by omega) rfl
      (inbk := inb_S2064x128_S1664x128_16_0) hq hk x)
    sl_kernel_rfl
  · refine Eq.trans ?_ (piece c arg2 harg2 arg3 harg3 arg4 harg4 arg5 harg5 arg6 harg6 arg8 arg9 x0 x1 x2 x3 x4 (i := 11) rel1536 rel128 rfl (by omega) rfl
      (inbk := inb_S2064x128_S1536x128_16_0) hq hk x)
    sl_kernel_rfl
  · refine Eq.trans ?_ (piece c arg2 harg2 arg3 harg3 arg4 harg4 arg5 harg5 arg6 harg6 arg8 arg9 x0 x1 x2 x3 x4 (i := 10) rel1408 rel128 rfl (by omega) rfl
      (inbk := inb_S2064x128_S1408x128_16_0) hq hk x)
    sl_kernel_rfl
  · refine Eq.trans ?_ (piece c arg2 harg2 arg3 harg3 arg4 harg4 arg5 harg5 arg6 harg6 arg8 arg9 x0 x1 x2 x3 x4 (i := 9) rel1280 rel128 rfl (by omega) rfl
      (inbk := inb_S2064x128_S1280x128_16_0) hq hk x)
    sl_kernel_rfl
  · refine Eq.trans ?_ (piece c arg2 harg2 arg3 harg3 arg4 harg4 arg5 harg5 arg6 harg6 arg8 arg9 x0 x1 x2 x3 x4 (i := 8) rel1152 rel128 rfl (by omega) rfl
      (inbk := inb_S2064x128_S1152x128_16_0) hq hk x)
    sl_kernel_rfl
  · refine Eq.trans ?_ (piece c arg2 harg2 arg3 harg3 arg4 harg4 arg5 harg5 arg6 harg6 arg8 arg9 x0 x1 x2 x3 x4 (i := 7) rel1024 rel128 rfl (by omega) rfl
      (inbk := inb_S2064x128_S1024x128_16_0) hq hk x)
    sl_kernel_rfl
  · refine Eq.trans ?_ (piece c arg2 harg2 arg3 harg3 arg4 harg4 arg5 harg5 arg6 harg6 arg8 arg9 x0 x1 x2 x3 x4 (i := 6) rel896 rel128 rfl (by omega) rfl
      (inbk := inb_S2064x128_S896x128_16_0) hq hk x)
    sl_kernel_rfl
  · refine Eq.trans ?_ (piece c arg2 harg2 arg3 harg3 arg4 harg4 arg5 harg5 arg6 harg6 arg8 arg9 x0 x1 x2 x3 x4 (i := 5) rel768 rel128 rfl (by omega) rfl
      (inbk := inb_S2064x128_S768x128_16_0) hq hk x)
    sl_kernel_rfl
  · refine Eq.trans ?_ (piece c arg2 harg2 arg3 harg3 arg4 harg4 arg5 harg5 arg6 harg6 arg8 arg9 x0 x1 x2 x3 x4 (i := 4) rel640 rel128 rfl (by omega) rfl
      (inbk := inb_S2064x128_S640x128_16_0) hq hk x)
    sl_kernel_rfl
  · refine Eq.trans ?_ (piece c arg2 harg2 arg3 harg3 arg4 harg4 arg5 harg5 arg6 harg6 arg8 arg9 x0 x1 x2 x3 x4 (i := 3) rel512 rel128 rfl (by omega) rfl
      (inbk := inb_S2064x128_S512x128_16_0) hq hk x)
    sl_kernel_rfl
  · refine Eq.trans ?_ (piece c arg2 harg2 arg3 harg3 arg4 harg4 arg5 harg5 arg6 harg6 arg8 arg9 x0 x1 x2 x3 x4 (i := 2) rel384 rel128 rfl (by omega) rfl
      (inbk := inb_S2064x128_S384x128_16_0) hq hk x)
    sl_kernel_rfl
  · refine Eq.trans ?_ (piece c arg2 harg2 arg3 harg3 arg4 harg4 arg5 harg5 arg6 harg6 arg8 arg9 x0 x1 x2 x3 x4 (i := 1) rel256 rel128 rfl (by omega) rfl
      (inbk := inb_S2064x128_S256x128_16_0) hq hk x)
    sl_kernel_rfl
  · refine Eq.trans ?_ (piece c arg2 harg2 arg3 harg3 arg4 harg4 arg5 harg5 arg6 harg6 arg8 arg9 x0 x1 x2 x3 x4 (i := 0) rel128 rel128 rfl (by omega) rfl
      (inbk := inb_S2064x128_S128x128_16_0) hq hk x)
    sl_kernel_rfl
  · exact piece_meta c arg2 harg2 arg3 harg3 arg4 harg4 arg5 harg5 arg6 harg6 arg8 arg9 x0 x1 x2 x3 x4 hq hk x

end AttendRun
end
-- ==== Proof.AttendArray.lean ====
/- The attention kernel's whole output array: at row `y 0` and lane `y 1`, the attention of that row's query over the keys and values
   of its batch and head. -/
module

public import proofs.«01_k».proof.Proof.AttendOut
public import proofs.«01_k».proof.Proof.Gen.KernelIdeal.Value
public import Idealize.ShloMosaic.Lib.Pipeline.Value

@[expose] public section

set_option maxRecDepth 65536

noncomputable section

namespace AttendRun

open Idealize.ShloMosaic Cert.KernelIdeal Cert.KernelIdeal.Gen Idealize.ShloMosaic.TcCoe Idealize.SL.Sem
open Idealize.ShloMosaic.Pipeline (Dat)

/-- The attention, as one function of the five arrays: row `b · 2064 + t` and lane `h · 128 + e` hold lane `e` of query `t` in batch `b`
    and head `h`. -/
def attention (lam : S1.Idx → EReal) (q k v : S16512x1024.Idx → EReal) (w : S1x128.Idx → EReal) (y : S16512x1024.Idx) : EReal :=
  have h0 : (y 0).val < 16512 := (y 0).isLt
  have h1 : (y 1).val < 1024 := (y 1).isLt
  Attn.out (lam (ix1 0)) (fun d => q (ix2 (y 0) ⟨(y 1).val / 128 * 128 + d, by omega⟩))
    (fun j d => k (ix2 ⟨(y 0).val / 2064 * 2064 + j, by omega⟩ ⟨(y 1).val / 128 * 128 + d, by omega⟩))
    (fun j d => v (ix2 ⟨(y 0).val / 2064 * 2064 + j, by omega⟩ ⟨(y 1).val / 128 * 128 + d, by omega⟩))
    (fun d => w (ix2 0 d)) ⟨(y 0).val % 2064, by omega⟩ ⟨(y 1).val % 128, by omega⟩

variable (m : (ℓ : Loc nD τ sig) → Buf (Elt Ideal) ℓ) (ρ : Dev nD → PrngReg)

theorem index_facts : ∀ t : Fin grid0.N, (win0_1.index t 0 = t.val / 8 ∧ win0_1.index t 1 = t.val % 8)
    ∧ (win0_2.index t 0 = t.val / 8 ∧ win0_2.index t 1 = t.val % 8) ∧ (win0_3.index t 0 = t.val / 8 ∧ win0_3.index t 1 = t.val % 8)
    ∧ (win0_4.index t 0 = 0 ∧ win0_4.index t 1 = 0) ∧ (win0_5.index t 0 = t.val / 8 ∧ win0_5.index t 1 = t.val % 8)
    ∧ win0_0.index t 0 = 0 ∧ win0_5.xsize (grid0.coords t) 0 = 2064 ∧ win0_5.xsize (grid0.coords t) 1 = 128 := by
  decide +kernel

theorem blk_lt (t : Fin cfg0.N) : t.val < 64 := by have := t.isLt; have hN : cfg0.N = 64 := N_0; omega

/-- The array index under a block's row and lane. -/
abbrev under (t : Fin cfg0.N) (y : S2064x128.Idx) : S16512x1024.Idx :=
  ix2 (n0 := 16512) (n1 := 1024) ⟨t.val / 8 * 2064 + (y 0).val, by have h := blk_lt t; have h0 : (y 0).val < 2064 := (y 0).isLt; omega⟩
    ⟨t.val % 8 * 128 + (y 1).val, by have h1 : (y 1).val < 128 := (y 1).isLt; omega⟩

theorem iblk0_apply (c : Dev nD) (t : Fin cfg0.N) : iblk m c 0 t (ix1 0 : S1.Idx) = m ((c : Thread nD τ).loc main_arg0) (ix1 0 : S1.Idx) := by
  refine congrArg (m ((c : Thread nD τ).loc main_arg0)) (funext fun a => match a with | ⟨0, _⟩ => Subsingleton.elim (α := Fin 1) _ _)

theorem iblk1_apply (c : Dev nD) (t : Fin cfg0.N) (y : S2064x128.Idx) : iblk m c 1 t y = m ((c : Thread nD τ).loc main_arg1) (under t y) := by
  refine congrArg (m ((c : Thread nD τ).loc main_arg1)) (funext fun a => Fin.ext ?_)
  have e := (index_facts t).1
  match a with
  | ⟨0, _⟩ => show win0_1.index t 0 * 2064 + 1 * (y 0).val = t.val / 8 * 2064 + (y 0).val; rw [e.1, Nat.one_mul]
  | ⟨1, _⟩ => show win0_1.index t 1 * 128 + 1 * (y 1).val = t.val % 8 * 128 + (y 1).val; rw [e.2, Nat.one_mul]

theorem iblk2_apply (c : Dev nD) (t : Fin cfg0.N) (y : S2064x128.Idx) : iblk m c 2 t y = m ((c : Thread nD τ).loc main_arg2) (under t y) := by
  refine congrArg (m ((c : Thread nD τ).loc main_arg2)) (funext fun a => Fin.ext ?_)
  have e := (index_facts t).2.1
  match a with
  | ⟨0, _⟩ => show win0_2.index t 0 * 2064 + 1 * (y 0).val = t.val / 8 * 2064 + (y 0).val; rw [e.1, Nat.one_mul]
  | ⟨1, _⟩ => show win0_2.index t 1 * 128 + 1 * (y 1).val = t.val % 8 * 128 + (y 1).val; rw [e.2, Nat.one_mul]

theorem iblk3_apply (c : Dev nD) (t : Fin cfg0.N) (y : S2064x128.Idx) : iblk m c 3 t y = m ((c : Thread nD τ).loc main_arg3) (under t y) := by
  refine congrArg (m ((c : Thread nD τ).loc main_arg3)) (funext fun a => Fin.ext ?_)
  have e := (index_facts t).2.2.1
  match a with
  | ⟨0, _⟩ => show win0_3.index t 0 * 2064 + 1 * (y 0).val = t.val / 8 * 2064 + (y 0).val; rw [e.1, Nat.one_mul]
  | ⟨1, _⟩ => show win0_3.index t 1 * 128 + 1 * (y 1).val = t.val % 8 * 128 + (y 1).val; rw [e.2, Nat.one_mul]

theorem iblk4_apply (c : Dev nD) (t : Fin cfg0.N) (d : Fin 128) : iblk m c 4 t (ix2 0 d : S1x128.Idx) = m ((c : Thread nD τ).loc main_arg4) (ix2 0 d : S1x128.Idx) := by
  refine congrArg (m ((c : Thread nD τ).loc main_arg4)) (funext fun a => Fin.ext ?_)
  have e := (index_facts t).2.2.2.1
  match a with
  | ⟨0, _⟩ => show win0_4.index t 0 * 1 + 1 * 0 = 0; rw [e.1]
  | ⟨1, _⟩ => show win0_4.index t 1 * 128 + 1 * d.val = d.val; rw [e.2]; omega

/-- The result array. -/
abbrev GA (c : Dev nD) : Buf (Elt Ideal) ((c : Thread nD τ).loc main_v0) :=
  attention (m ((c : Thread nD τ).loc main_arg0)) (m ((c : Thread nD τ).loc main_arg1)) (m ((c : Thread nD τ).loc main_arg2))
    (m ((c : Thread nD τ).loc main_arg3)) (m ((c : Thread nD τ).loc main_arg4))

theorem mem_blk (t : Fin cfg0.N) (i : S16512x1024.Idx) (h0 : (i 0).val / 2064 = t.val / 8) (h1 : (i 1).val / 128 = t.val % 8) :
    i ∈ ((cfg0.win 5).blk t).view.set := by
  show i ∈ ((View.whole main_v0).slice (win0_5.rect t)).set
  rw [View.set_slice_whole, Rect.mem_set_unit]
  have e := (index_facts t).2.2.2.2
  intro a
  match a with
  | ⟨0, _⟩ =>
    show win0_5.index t 0 * 2064 ≤ (i 0 : ℕ) ∧ (i 0 : ℕ) < win0_5.index t 0 * 2064 + win0_5.xsize (grid0.coords t) 0
    rw [e.1.1, e.2.2.1]; omega
  | ⟨1, _⟩ =>
    show win0_5.index t 1 * 128 ≤ (i 1 : ℕ) ∧ (i 1 : ℕ) < win0_5.index t 1 * 128 + win0_5.xsize (grid0.coords t) 1
    rw [e.1.2, e.2.2.2]; omega

/-- What a point writes back is its block of the attention. -/
theorem flushed_eq (c : Dev nD) (hq : ∀ y : S16512x1024.Idx, Attn.Fin' (m ((c : Thread nD τ).loc main_arg1) y))
    (hk : ∀ y : S16512x1024.Idx, Attn.Fin' (m ((c : Thread nD τ).loc main_arg2) y)) (t : Fin cfg0.N) :
    (dats m 0 c).flushed 5 t = ((cfg0.win 5).blk t).view.read (Elt Ideal) (GA m c) := by
  rw [Value.flushed5_A]
  have key : ∀ y : S2064x128.Idx, out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _) (iblk m c 0 t) (iblk m c 1 t)
      (iblk m c 2 t) (iblk m c 3 t) (iblk m c 4 t) y = GA m c (under t y) := fun y => by
    rw [out_apply]
    · have h := blk_lt t
      have h0 : (y 0).val < 2064 := (y 0).isLt
      have h1 : (y 1).val < 128 := (y 1).isLt
      have e0 : (t.val / 8 * 2064 + (y 0).val) / 2064 = t.val / 8 := by omega
      have e1 : (t.val % 8 * 128 + (y 1).val) / 128 = t.val % 8 := by omega
      have e2 : (t.val / 8 * 2064 + (y 0).val) % 2064 = (y 0).val := by omega
      have e3 : (t.val % 8 * 128 + (y 1).val) % 128 = (y 1).val := by omega
      unfold G
      show _ = attention _ _ _ _ _ (under t y)
      unfold attention
      simp only [iblk0_apply, iblk1_apply, iblk2_apply, iblk3_apply, iblk4_apply]
      show _ = Attn.out _ (fun d => m ((c : Thread nD τ).loc main_arg1) (ix2 _ ⟨(t.val % 8 * 128 + (y 1).val) / 128 * 128 + d, _⟩))
        (fun j d => m ((c : Thread nD τ).loc main_arg2) (ix2 ⟨(t.val / 8 * 2064 + (y 0).val) / 2064 * 2064 + j, _⟩ ⟨(t.val % 8 * 128 + (y 1).val) / 128 * 128 + d, _⟩))
        (fun j d => m ((c : Thread nD τ).loc main_arg3) (ix2 ⟨(t.val / 8 * 2064 + (y 0).val) / 2064 * 2064 + j, _⟩ ⟨(t.val % 8 * 128 + (y 1).val) / 128 * 128 + d, _⟩))
        _ ⟨(t.val / 8 * 2064 + (y 0).val) % 2064, _⟩ ⟨(t.val % 8 * 128 + (y 1).val) % 128, _⟩
      simp only [e0, e1, e2, e3]
      rfl
    · intro y; rw [iblk1_apply]; exact hq _
    · intro y; rw [iblk2_apply]; exact hk _
  funext y
  refine (key y).trans (congrArg (GA m c) (funext fun a => Fin.ext ?_))
  have e := (index_facts t).2.2.2.2.1
  match a with
  | ⟨0, _⟩ => show t.val / 8 * 2064 + (y 0).val = win0_5.index t 0 * 2064 + 1 * (y 0).val; rw [e.1, Nat.one_mul]
  | ⟨1, _⟩ => show t.val % 8 * 128 + (y 1).val = win0_5.index t 1 * 128 + 1 * (y 1).val; rw [e.2, Nat.one_mul]

/-- **The result array is the attention.** -/
theorem final (c : Dev nD) (hq : ∀ y : S16512x1024.Idx, Attn.Fin' (m ((c : Thread nD τ).loc main_arg1) y))
    (hk : ∀ y : S16512x1024.Idx, Attn.Fin' (m ((c : Thread nD τ).loc main_arg2) y)) :
    (dats m 0 c).arrAt 5 cfg0.N = GA m c :=
  (dats m 0 c).arrAt_eq_of_cover 5 (GA m c) (fun t _ => flushed_eq m c hq hk t) fun i => by
    have h0 : (i 0).val < 16512 := (i 0).isLt
    have h1 : (i 1).val < 1024 := (i 1).isLt
    have hN : cfg0.N = 64 := N_0
    exact ⟨⟨(i 0).val / 2064 * 8 + (i 1).val / 128, by omega⟩, flush0_5 _, mem_blk _ i (by dsimp only; omega) (by dsimp only; omega)⟩

end AttendRun
end
-- ==== Proof.AttendRef.lean ====
/- The reference's attention, read entry by entry: its result is the same function of the five arrays. -/
module

public import proofs.«01_k».proof.Proof.AttendArray
public import proofs.«01_k».proof.Proof.Gen.ReferenceIdeal.Read

@[expose] public section

set_option maxRecDepth 65536

noncomputable section

namespace AttendRef

open Idealize.ShloMosaic Cert.ReferenceIdeal Cert.ReferenceIdeal.Read
open scoped BigOperators

/-- Row `t` of batch `b`. -/
abbrev pos (b : Fin 8) (t : Fin 2064) : Fin 16512 := ⟨b.val * 2064 + t.val, by omega⟩

/-- Lane `d` of head `h`. -/
abbrev lane (h : Fin 8) (d : Fin 128) : Fin 1024 := ⟨h.val * 128 + d.val, by omega⟩

/-- The 128 lanes of one head, in row `t` of batch `b`. -/
abbrev head (x : S16512x1024.Idx → EReal) (b h : Fin 8) (t : Fin 2064) : Fin 128 → EReal := fun d => x (ix2 (pos b t) (lane h d))

variable (x0 : S1.Idx → EReal) (x1 x2 x3 : S16512x1024.Idx → EReal) (x4 : S1x128.Idx → EReal) (b h : Fin 8) (c : Fin 2) (t j : Fin 2064)

theorem score_apply : val_main_v5 (F := Ideal) x1 x2 (ix5 b h c t j) = Attn.score (head x1 b h t) (head x2 b h j) c c.isLt := by
  have hb := b.isLt; have hh := h.isLt; have hc := c.isLt; have ht := t.isLt; have hj := j.isLt
  rw [val_main_v5_apply]
  unfold Attn.score
  refine Finset.sum_congr rfl fun d _ => ?_
  have hd := d.isLt
  rw [val_main_v1_apply, val_main_v2_apply]
  refine congrArg₂ (· * ·) (congrArg x1 (funext fun a => Fin.ext ?_)) (congrArg x2 (funext fun a => Fin.ext ?_))
  · match a with
    | ⟨0, _⟩ =>
      show ((((b.val * 2064 + t.val) * 8 + h.val) * 2 + c.val) * 64 + d.val) / 1024 = b.val * 2064 + t.val
      omega
    | ⟨1, _⟩ =>
      show ((((b.val * 2064 + t.val) * 8 + h.val) * 2 + c.val) * 64 + d.val) % 1024 = h.val * 128 + (c.val * 64 + d.val)
      omega
  · match a with
    | ⟨0, _⟩ =>
      show ((((b.val * 2064 + j.val) * 8 + h.val) * 2 + c.val) * 64 + d.val) / 1024 = b.val * 2064 + j.val
      omega
    | ⟨1, _⟩ =>
      show ((((b.val * 2064 + j.val) * 8 + h.val) * 2 + c.val) * 64 + d.val) % 1024 = h.val * 128 + (c.val * 64 + d.val)
      omega

/-- The masked scores of query `t`, component `c`. -/
abbrev row : Fin 2064 → EReal := Attn.row (head x1 b h t) (fun j => head x2 b h j) t c c.isLt

theorem sle_small (a b : Fin 2064) : IntOp.cmpi .sle (BitVec.ofNat 32 a.val) (BitVec.ofNat 32 b.val) = if a.val ≤ b.val then 1#1 else 0#1 := by
  have ha := a.isLt; have hb := b.isLt
  have e : (BitVec.ofNat 32 a.val).sle (BitVec.ofNat 32 b.val) = decide (a.val ≤ b.val) := by
    rw [BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  show BitVec.ofBool ((BitVec.ofNat 32 a.val).sle (BitVec.ofNat 32 b.val)) = _
  rw [e]
  by_cases hle : a.val ≤ b.val <;> simp [hle]

theorem row_apply : val_main_v12 (F := Ideal) x1 x2 (ix5 b h c t j) = row x1 x2 b h c t j := by
  unfold val_main_v12 val_main_call0_v1 val_main_v11 val_main_v10 val_main_v9 val_main_v8 val_main_v7 val_main_v6 val_main_v4
    val_main_call0_v2 val_main_call0_v0 val_main_cst
  pointwise
  rw [score_apply, sle_small]
  unfold row Attn.row Attn.causal
  by_cases hle : j.val ≤ t.val
  · rw [if_pos hle, if_pos hle]; rfl
  · rw [if_neg hle, if_neg hle]
    show Ideal.ofBits .f32 0xFF800000#32 = ⊥
    simp [Ideal.ofBits, Ideal.ieee]

theorem bot_word : Ideal.ofBits .f32 0xFF800000#32 = ⊥ := by simp [Ideal.ofBits, Ideal.ieee]

theorem fold_apply : val_main_v13 (F := Ideal) x1 x2 (ix4 b h c t) = Attn.top (row x1 x2 b h c t) := by
  have hr : ∀ j, val_main_v12 (F := Ideal) x1 x2 (ix5 b h c t j) = row x1 x2 b h c t j := row_apply x1 x2 b h c t
  have hc : val_main_cst_0 (F := Ideal) (Shape.Idx.first Gen.h_S_) = ⊥ := bot_word
  unfold val_main_v13
  revert hr hc
  generalize row x1 x2 b h c t = g
  generalize val_main_v12 (F := Ideal) x1 x2 = y
  generalize val_main_cst_0 (F := Ideal) = z
  intro hr hc
  pointwise
  simp only [hr, hc]
  unfold Attn.top
  with_reducible rfl

theorem top_apply : val_main_v15 (F := Ideal) x1 x2 (ix4 b h c t) = Attn.top (row x1 x2 b h c t) := by
  have h13 := fold_apply x1 x2 b h c t
  have h14 : val_main_v14 (F := Ideal) (ix4 b h c t) = ⊥ := by
    rw [val_main_v14_apply, val_main_cst_1_apply]
    exact bot_word
  rw [val_main_v15_apply, h13, h14]
  exact max_eq_right bot_le

theorem ex_apply : val_main_v19 (F := Ideal) x1 x2 (ix5 b h c t j) = Attn.ex (row x1 x2 b h c t) j := by
  have hr := row_apply x1 x2 b h c t j
  have ht := top_apply x1 x2 b h c t
  unfold val_main_v19 val_main_v18 val_main_v17 val_main_v16
  revert hr ht
  generalize val_main_v12 (F := Ideal) x1 x2 = y
  generalize val_main_v15 (F := Ideal) x1 x2 = z
  intro hr ht
  pointwise
  rw [hr, ht]
  rfl

theorem weight_apply : val_main_v23 (F := Ideal) x1 x2 (ix5 b h c t j) = Attn.weight (row x1 x2 b h c t) j := by
  have he : ∀ j, val_main_v19 (F := Ideal) x1 x2 (ix5 b h c t j) = Attn.ex (row x1 x2 b h c t) j := ex_apply x1 x2 b h c t
  have hd : val_main_v20 (F := Ideal) x1 x2 (ix4 b h c t) = ∑ i, Attn.ex (row x1 x2 b h c t) i := by
    have hz : val_main_cst_2 (F := Ideal) (Shape.Idx.first Gen.h_S_) = 0 := Ideal.ofBits_zero_f32
    unfold val_main_v20
    revert he hz
    generalize Attn.ex (row x1 x2 b h c t) = g
    generalize val_main_v19 (F := Ideal) x1 x2 = y
    generalize val_main_cst_2 (F := Ideal) = z
    intro he hz
    pointwise
    simp only [he, hz, zero_add]
  have he' := he j
  unfold val_main_v23 val_main_v22 val_main_v21
  revert he' hd
  clear he
  generalize val_main_v19 (F := Ideal) x1 x2 = y
  generalize val_main_v20 (F := Ideal) x1 x2 = z
  intro hd he
  pointwise
  rw [hd, he]
  rfl

theorem sub_mul_apply (x y z : EReal) : FloatOps.subf (F := Ideal) (φ := .f32) x (FloatOps.mulf (F := Ideal) (φ := .f32) y z) = x - y * z := rfl

theorem diff_apply : val_main_v31 (F := Ideal) x0 x1 x2 (ix4 b h t j)
    = Attn.weight (row x1 x2 b h 0 t) j - x0 (ix1 0) * Attn.weight (row x1 x2 b h 1 t) j := by
  have h0 := weight_apply x1 x2 b h 0 t j
  have h1 := weight_apply x1 x2 b h 1 t j
  have e25 : val_main_v25 (F := Ideal) x1 x2 (ix4 b h t j) = Attn.weight (row x1 x2 b h 0 t) j := by
    unfold val_main_v25 val_main_v24
    revert h0
    generalize val_main_v23 (F := Ideal) x1 x2 = y
    intro h0
    pointwise
    exact h0
  have e28 : val_main_v28 (F := Ideal) x1 x2 (ix4 b h t j) = Attn.weight (row x1 x2 b h 1 t) j := by
    unfold val_main_v28 val_main_v27
    revert h1
    generalize val_main_v23 (F := Ideal) x1 x2 = y
    intro h1
    pointwise
    exact h1
  have e29 : val_main_v29 (F := Ideal) x0 (ix4 b h t j) = x0 (ix1 0) := by
    rw [val_main_v29_apply]
    unfold val_main_v26
    exact congrArg x0 (funext fun a => match a with | ⟨0, _⟩ => Subsingleton.elim (α := Fin 1) _ _)
  rw [val_main_v31_apply, val_main_v30_apply, e25, e28, e29]
  exact sub_mul_apply _ _ _

/-- The attention of one row before the norm. -/
abbrev mixed (e : Fin 128) : EReal := Attn.mixed (x0 (ix1 0)) (Attn.row (head x1 b h t) (fun j => head x2 b h j) t 0 (by omega))
  (Attn.row (head x1 b h t) (fun j => head x2 b h j) t 1 (by omega)) fun j => head x3 b h j e

theorem mixed_apply (e : Fin 128) : val_main_v33 (F := Ideal) x0 x1 x2 x3 (ix4 b t h e) = mixed x0 x1 x2 x3 b h t e := by
  have hb := b.isLt; have hh := h.isLt; have ht := t.isLt; have he := e.isLt
  rw [val_main_v33_apply, val_main_v32_apply]
  refine Finset.sum_congr rfl fun j _ => ?_
  have hj := j.isLt
  rw [val_main_v3_apply, mul_comm]
  refine congrArg₂ (· * ·) (Eq.trans (congrArg (val_main_v31 (F := Ideal) x0 x1 x2) (funext fun a => ?_)) (diff_apply x0 x1 x2 b h t j))
    (congrArg x3 (funext fun a => Fin.ext ?_))
  · match a with
    | ⟨0, _⟩ => rfl
    | ⟨1, _⟩ => rfl
    | ⟨2, _⟩ => rfl
    | ⟨3, _⟩ => rfl
  · match a with
    | ⟨0, _⟩ =>
      show (((b.val * 2064 + j.val) * 8 + h.val) * 128 + e.val) / 1024 = b.val * 2064 + j.val
      omega
    | ⟨1, _⟩ =>
      show (((b.val * 2064 + j.val) * 8 + h.val) * 128 + e.val) % 1024 = h.val * 128 + e.val
      omega

theorem normed_apply (e : Fin 128) : val_main_v49 (F := Ideal) x0 x1 x2 x3 x4 (ix4 b t h e)
    = Attn.normed (mixed x0 x1 x2 x3 b h t) (fun e => x4 (ix2 0 e)) e := by
  have hm : ∀ e, val_main_v33 (F := Ideal) x0 x1 x2 x3 (ix4 b t h e) = mixed x0 x1 x2 x3 b h t e := mixed_apply x0 x1 x2 x3 b h t
  have hw : val_main_v46 (F := Ideal) x4 (ix4 b t h e) = x4 (ix2 0 e) := by
    unfold val_main_v46 val_main_v45 val_main_v44
    pointwise
  unfold val_main_v49 val_main_v48 val_main_v47 val_main_v43 val_main_v42 val_main_v41 val_main_v40 val_main_v39 val_main_v38
    val_main_v37 val_main_v36 val_main_v35 val_main_v34 val_main_cst_3 val_main_cst_4 val_main_cst_5 val_main_cst_6
  revert hm hw
  generalize val_main_v33 (F := Ideal) x0 x1 x2 x3 = y
  generalize val_main_v46 (F := Ideal) x4 = z
  intro hm hw
  pointwise
  simp only [hm, hw]
  unfold Attn.normed
  with_reducible rfl

theorem result (y : S16512x1024.Idx) : val_main_v51 (F := Ideal) x0 x1 x2 x3 x4 y = AttendRun.attention x0 x1 x2 x3 x4 y := by
  have h0 : (y 0).val < 16512 := (y 0).isLt
  have h1 : (y 1).val < 1024 := (y 1).isLt
  obtain ⟨b, hb⟩ : ∃ b : Fin 8, b.val = (y 0).val / 2064 := ⟨⟨(y 0).val / 2064, by omega⟩, rfl⟩
  obtain ⟨t, ht⟩ : ∃ t : Fin 2064, t.val = (y 0).val % 2064 := ⟨⟨(y 0).val % 2064, by omega⟩, rfl⟩
  obtain ⟨h, hh⟩ : ∃ h : Fin 8, h.val = (y 1).val / 128 := ⟨⟨(y 1).val / 128, by omega⟩, rfl⟩
  obtain ⟨e, he⟩ : ∃ e : Fin 128, e.val = (y 1).val % 128 := ⟨⟨(y 1).val % 128, by omega⟩, rfl⟩
  rw [val_main_v51_apply, val_main_v50_apply]
  have hi : idx_main_v50 y = ix4 b t h e := funext fun a => Fin.ext (by
    match a with
    | ⟨0, _⟩ => show ((y 0).val * 1024 + (y 1).val) / 2113536 = b.val; omega
    | ⟨1, _⟩ => show ((y 0).val * 1024 + (y 1).val) / 1024 % 2064 = t.val; omega
    | ⟨2, _⟩ => show ((y 0).val * 1024 + (y 1).val) / 128 % 8 = h.val; omega
    | ⟨3, _⟩ => show ((y 0).val * 1024 + (y 1).val) % 128 = e.val; omega)
  rw [hi]
  refine (normed_apply x0 x1 x2 x3 x4 b h t e).trans ?_
  have et : t = ⟨(y 0).val % 2064, by omega⟩ := Fin.ext ht
  have ee : e = ⟨(y 1).val % 128, by omega⟩ := Fin.ext he
  have ex : ∀ (x : S16512x1024.Idx → EReal) (j : Fin 2064) (d : Fin 128) (p : Fin 16512) (l : Fin 1024), p.val = (y 0).val / 2064 * 2064 + j.val →
      l.val = (y 1).val / 128 * 128 + d.val → head x b h j d = x (ix2 p l) := fun x j d p l hp hl => by
    have e0 : pos b j = p := Fin.ext (by rw [hp]; show b.val * 2064 + j.val = _; rw [hb])
    have e1 : lane h d = l := Fin.ext (by rw [hl]; show h.val * 128 + d.val = _; rw [hh])
    show x (ix2 (pos b j) (lane h d)) = _
    rw [e0, e1]
  have hq : head x1 b h t = fun d : Fin 128 => x1 (ix2 (y 0) ⟨(y 1).val / 128 * 128 + d.val, by omega⟩) := funext fun d =>
    ex x1 t d (y 0) ⟨(y 1).val / 128 * 128 + d.val, by omega⟩ (by rw [ht]; omega) rfl
  have hk : ∀ x : S16512x1024.Idx → EReal, (fun j => head x b h j) = fun (j : Fin 2064) (d : Fin 128) =>
      x (ix2 ⟨(y 0).val / 2064 * 2064 + j.val, by omega⟩ ⟨(y 1).val / 128 * 128 + d.val, by omega⟩) := fun x =>
    funext fun j => funext fun d => ex x j d _ _ rfl rfl
  have hout : Attn.normed (mixed x0 x1 x2 x3 b h t) (fun e => x4 (ix2 0 e)) e
      = Attn.out (x0 (ix1 0)) (head x1 b h t) (fun j => head x2 b h j) (fun j => head x3 b h j) (fun e => x4 (ix2 0 e)) t e := by
    unfold Attn.out
    with_reducible rfl
  refine hout.trans ?_
  unfold AttendRun.attention
  exact congr (congr (congr (congr (congrArg (fun q K V t => Attn.out (x0 (ix1 0)) q K V (fun e => x4 (ix2 0 e)) t) hq) (hk x2)) (hk x3)) et) ee

end AttendRef

end
-- ==== Proof.AttendClaim.lean ====
/- The attention's claims: the precondition read entry by entry, and the two runs with equal results. -/
module

public import proofs.«01_k».proof.Defs
public import proofs.«01_k».proof.Proof.AttendRef
public import proofs.«01_k».proof.Proof.Gen.ReferenceIdeal.Run
public import proofs.«01_k».proof.Proof.Gen.Kernel.Frame
public import proofs.«01_k».proof.Proof.Gen.KernelIdeal.Frame
public import Idealize.ShloMosaic.Lib.Quiescent
public import Idealize.ShloMosaic.Adequacy

@[expose] public section

set_option maxRecDepth 16384

noncomputable section

namespace AttendClaim

open Idealize.ShloMosaic Idealize.ShloMosaic.TcCoe Idealize.SL.Sem

/-! ## The precondition -/

/-- The predicate's side conditions. -/
instance facts_finite : Cert.Pre_finite.Facts where
  bitsLt_bf16_f32 := by decide
  bcast_S_S16512x1024 := by decide

theorem and_one (p q : Bool) : IntOp.andi (BitVec.ofBool p) (BitVec.ofBool q) = 1#1 ↔ p = true ∧ q = true := by
  cases p <;> cases q <;> decide

theorem inf_word : Ideal.ofBits .f32 0x7F800000#32 = ⊤ := by simp [Ideal.ofBits, Ideal.ieee]

theorem fin_of_abs_lt (x : EReal) (h : max x (-x) < ⊤) : Attn.Fin' x := by
  refine ⟨fun e => ?_, fun e => ?_⟩ <;> rw [e] at h <;> simp at h

theorem finite_entry (lam : Cert.Pre_finite.S1.Idx → EReal) (q k v : Cert.Pre_finite.S16512x1024.Idx → EReal) (w : Cert.Pre_finite.S1x128.Idx → EReal)
    (y : Cert.Pre_finite.S16512x1024.Idx) (h : Cert.Pre_finite.fn (F := Ideal) lam q k v w y = 1#1) : Attn.Fin' (q y) ∧ Attn.Fin' (k y) := by
  have e : IntOp.andi (BitVec.ofBool (decide (max (q y) (-(q y)) < Ideal.ofBits .f32 0x7F800000#32)))
      (BitVec.ofBool (decide (max (k y) (-(k y)) < Ideal.ofBits .f32 0x7F800000#32))) = 1#1 := h
  rw [and_one, inf_word, decide_eq_true_eq, decide_eq_true_eq] at e
  exact ⟨fin_of_abs_lt _ e.1, fin_of_abs_lt _ e.2⟩

theorem finite_args (m : (ℓ : Loc Cert.KernelIdeal.nD Cert.KernelIdeal.τ Cert.KernelIdeal.sig) → Buf (Elt Ideal) ℓ) (h : Cert.Pre_KernelIdeal_finite m)
    (c : Dev Cert.KernelIdeal.nD) (y : Cert.KernelIdeal.S16512x1024.Idx) :
    Attn.Fin' (m ((c : Thread Cert.KernelIdeal.nD Cert.KernelIdeal.τ).loc Cert.KernelIdeal.main_arg1) y)
      ∧ Attn.Fin' (m ((c : Thread Cert.KernelIdeal.nD Cert.KernelIdeal.τ).loc Cert.KernelIdeal.main_arg2) y) :=
  finite_entry _ _ _ _ _ y (congrFun (h c) y)

/-! ## The claims -/

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)
theorem frame_reference_finite : Cert.quiescent_ReferenceIdeal_pre_finite := fun m ρ _ => frame_reference m ρ trivial

/-- The kernel's array and the reference's result are the same attention of the same arguments. -/
theorem algebraic : Cert.algebraic_KernelIdeal_ReferenceIdeal_pre_finite := fun m ρ m' ρ' hpre hag =>
  ⟨fun c => AttendRun.GA m c,
    (θ_run Cert.KernelIdeal.defs _ _).mono (fun r h c => ⟨(h c).1.trans (AttendRun.final m c (fun y => (finite_args m hpre c y).1) fun y => (finite_args m hpre c y).2), (h c).2⟩)
      (Cert.KernelIdeal.Value.run_blocks m ρ),
    (θ_run Cert.ReferenceIdeal.defs _ _).mono (fun r h c => ⟨(h c).1.trans (by
        rw [Cert.ReferenceIdeal.Read.val_main_v51_eq, (hag c).1, (hag c).2.1, (hag c).2.2.1, (hag c).2.2.2.1, (hag c).2.2.2.2]
        exact funext fun y => AttendRef.result _ _ _ _ _ y), (h c).2⟩)
      (Cert.ReferenceIdeal.Value.run (F := Ideal) m' ρ')⟩

end AttendClaim

end
-- ==== Proof.TrunkSpec.lean ====
/- The row functions of the trunk step's dense parts over the ideal reals: products with a weight, the gated activation, layer normalisation, the
   feed-forward block and its split into chunks of hidden units. -/
module

public import Idealize.ShloMosaic.PureOps.Ideal
public import Idealize.ShloMosaic.Lib.Pointwise

@[expose] public section

noncomputable section

namespace Trunk

open Idealize.ShloMosaic

/-- The residual scale, one half, the row width and the layer norm's small constant, as the rounded words both programs hold. -/
abbrev alpha : EReal := Ideal.ofBits .f32 0x3FB504F3#32
abbrev half : EReal := Ideal.ofBits .f32 0x3F000000#32
abbrev width : EReal := Ideal.ofBits .f32 0x44800000#32
abbrev eps : EReal := Ideal.ofBits .f32 0x3727C5AC#32

/-- A row times a column. -/
def dot {n : ℕ} (x w : Fin n → EReal) : EReal := ∑ k, x k * w k

def silu (x : EReal) : EReal := x * Ideal.logistic x

/-- A row's mean. -/
def mean (x : Fin 1024 → EReal) : EReal := Ideal.div (∑ k, x k) width

/-- A row's mean squared deviation. -/
def var (x : Fin 1024 → EReal) : EReal := Ideal.div (∑ k, (x k - mean x) * (x k - mean x)) width

/-- Layer normalisation of a row, at lane `e`. -/
def norm (x g b : Fin 1024 → EReal) (e : Fin 1024) : EReal := (x e - mean x) * Ideal.rsqrt (var x + eps) * g e + b e

/-- Hidden unit `f` of the feed-forward block: the gate column is `f`, the value column `2816 + f`. -/
def act (x : Fin 1024 → EReal) (w : Fin 1024 → Fin 5632 → EReal) (f : Fin 2816) : EReal :=
  silu (dot x fun k => w k ⟨f.val, by have := f.isLt; omega⟩) * dot x fun k => w k ⟨2816 + f.val, by have := f.isLt; omega⟩

/-- The contribution of the 256 hidden units from `256 · c`. -/
def part (x : Fin 1024 → EReal) (w : Fin 1024 → Fin 5632 → EReal) (d : Fin 2816 → Fin 1024 → EReal) (e : Fin 1024) (c : ℕ) (hc : c < 11) : EReal :=
  ∑ f : Fin 256, act x w ⟨256 * c + f.val, by have := f.isLt; omega⟩ * d ⟨256 * c + f.val, by have := f.isLt; omega⟩ e

/-- The contributions of the first `n + 1` chunks, added in the order of the chunks. -/
def upTo (x : Fin 1024 → EReal) (w : Fin 1024 → Fin 5632 → EReal) (d : Fin 2816 → Fin 1024 → EReal) (e : Fin 1024) : (n : ℕ) → n < 11 → EReal
  | 0, h => part x w d e 0 h
  | n + 1, h => upTo x w d e n (by omega) + part x w d e (n + 1) h

/-- All hidden units at once. -/
def down (x : Fin 1024 → EReal) (w : Fin 1024 → Fin 5632 → EReal) (d : Fin 2816 → Fin 1024 → EReal) (e : Fin 1024) : EReal :=
  ∑ f, act x w f * d f e

/-- A sum over the first `256 · (n + 1)` numbers is the sum over the first `256 · n` and the next 256. -/
theorem sum_chunk (n : ℕ) (g : Fin (256 * (n + 1)) → EReal) :
    ∑ f, g f = ∑ f : Fin (256 * n), g ⟨f.val, by have := f.isLt; omega⟩ + ∑ f : Fin 256, g ⟨256 * n + f.val, by have := f.isLt; omega⟩ :=
  Fin.sum_univ_add (a := 256 * n) (b := 256) g

theorem upTo_eq (x : Fin 1024 → EReal) (w : Fin 1024 → Fin 5632 → EReal) (d : Fin 2816 → Fin 1024 → EReal) (e : Fin 1024) : ∀ (n : ℕ) (h : n < 11),
    upTo x w d e n h = ∑ f : Fin (256 * (n + 1)), act x w ⟨f.val, by have := f.isLt; omega⟩ * d ⟨f.val, by have := f.isLt; omega⟩ e
  | 0, h => by
      unfold upTo part
      refine Finset.sum_congr rfl fun (f : Fin 256) _ => ?_
      have e0 : (⟨256 * 0 + f.val, by have := f.isLt; omega⟩ : Fin 2816) = ⟨f.val, by have := f.isLt; omega⟩ := Fin.ext (by simp)
      rw [e0]
  | n + 1, h => by
      rw [sum_chunk (n + 1) fun f => act x w ⟨f.val, by have := f.isLt; omega⟩ * d ⟨f.val, by have := f.isLt; omega⟩ e]
      exact congrArg₂ (· + ·) (upTo_eq x w d e n (by omega)) rfl

/-- The chunks together are the whole. -/
theorem upTo_last (x : Fin 1024 → EReal) (w : Fin 1024 → Fin 5632 → EReal) (d : Fin 2816 → Fin 1024 → EReal) (e : Fin 1024) :
    upTo x w d e 10 (by omega) = down x w d e := upTo_eq x w d e 10 (by omega)

/-- The feed-forward block's residual row. -/
def resid (x : Fin 1024 → EReal) (w : Fin 1024 → Fin 5632 → EReal) (d : Fin 2816 → Fin 1024 → EReal) (e : Fin 1024) : EReal :=
  alpha * x e + half * down x w d e

/-- The feed-forward block's row. -/
def ffn (x : Fin 1024 → EReal) (w : Fin 1024 → Fin 5632 → EReal) (d : Fin 2816 → Fin 1024 → EReal) (g b : Fin 1024 → EReal) (e : Fin 1024) : EReal :=
  norm (resid x w d) g b e

end Trunk

end
-- ==== Proof.FfnPay.lean ====
/- The feed-forward kernel's stored values at a row and lane: a chunk of hidden units added to the running sum, and the normalised residual. -/
module

public import proofs.«01_k».proof.Proof.TrunkSpec
public import proofs.«01_k».proof.Proof.Gen.FfnIdeal.Skeleton

@[expose] public section

set_option maxRecDepth 65536

noncomputable section

namespace FfnRun

open Idealize.ShloMosaic Cert.FfnIdeal Cert.FfnIdeal.Gen

/-- One chunk's product at a row and lane. -/
def chunk (v : S688x1024.Idx → EReal) (a b : S1024x256.Idx → EReal) (d : S256x1024.Idx → EReal) (r : Fin 688) (e : Fin 1024) : EReal :=
  ∑ f : Fin 256, (Trunk.silu (Trunk.dot (fun k => v (ix2 r k)) fun k => a (ix2 k f)) * Trunk.dot (fun k => v (ix2 r k)) fun k => b (ix2 k f)) * d (ix2 f e)

theorem first_apply (v : Vec Ideal S688x1024 .f32) (a b : Vec Ideal S1024x256 .bf16) (d : Vec Ideal S256x1024 .bf16) (r : Fin 688) (e : Fin 1024) :
    k0_pay3 (F := Ideal) v a b d (ix2 r e) = chunk v a b d r e := by
  unfold k0_pay3 k0_pay2
  dsimp only
  rw [shapeCast_self]
  pointwise
  unfold chunk Trunk.silu Trunk.dot
  with_reducible rfl

theorem next_apply (v : FVec Ideal S688x1024 .bf16) (a b : Vec Ideal S1024x256 .bf16) (d : Vec Ideal S256x1024 .bf16) (acc : Vec Ideal S688x1024 .f32)
    (r : Fin 688) (e : Fin 1024) : k0_pay5 (F := Ideal) v a b d acc (ix2 r e) = acc (ix2 r e) + chunk v a b d r e := by
  unfold k0_pay5
  rw [shapeCast_self]
  pointwise
  unfold chunk Trunk.silu Trunk.dot
  with_reducible rfl

theorem last_apply (v s : Vec Ideal S688x1024 .f32) (g b : Vec Ideal S1x1024 .f32) (r : Fin 688) (e : Fin 1024) :
    k0_pay1 (F := Ideal) (k0_pay17 v s g) (k0_pay18 b) (ix2 r e)
      = Trunk.norm (fun k => Trunk.alpha * v (ix2 r k) + Trunk.half * s (ix2 r k)) (fun k => g (ix2 0 k)) (fun k => b (ix2 0 k)) e := by
  unfold k0_pay1 k0_pay17 k0_pay18
  pointwise
  unfold Trunk.norm Trunk.var Trunk.mean
  with_reducible rfl

end FfnRun

end
-- ==== Proof.FfnKernel.lean ====
/- What one launch point of the feed-forward kernel leaves in its output block: the feed-forward block of its rows. -/
module

public import proofs.«01_k».proof.Proof.FfnPay
public import proofs.«01_k».proof.Proof.Gen.FfnIdeal.Frame
public import Idealize.ShloMosaic.Lib.Pipeline.ValueKit

@[expose] public section

set_option maxRecDepth 65536

noncomputable section

namespace FfnRun

open Idealize.ShloMosaic Cert.FfnIdeal Cert.FfnIdeal.Gen Idealize.ShloMosaic.TcCoe Idealize.SL.Sem

/-- What the launch point stores at a row and lane, from the point's blocks. -/
def G (x0 : Vec Ideal S688x1024 .f32) (x1 : Vec Ideal S1024x5632 .bf16) (x2 : Vec Ideal S2816x1024 .bf16) (x3 x4 : Vec Ideal S1x1024 .f32) : Vec Ideal S688x1024 .f32 := fun y =>
  Trunk.ffn (fun k => x0 (ix2 (y 0) k)) (fun k f => x1 (ix2 k f)) (fun f e => x2 (ix2 f e)) (fun k => x3 (ix2 0 k)) (fun k => x4 (ix2 0 k)) (y 1)

variable (c : Dev nD) (arg1 : Memref sig .tc .vmem S688x1024 .f32) (harg1 : arg1.IsWhole) (arg2 : Memref sig .tc .vmem S1024x5632 .bf16) (harg2 : arg2.IsWhole)
    (arg3 : Memref sig .tc .vmem S2816x1024 .bf16) (harg3 : arg3.IsWhole) (arg4 : Memref sig .tc .vmem S1x1024 .f32) (harg4 : arg4.IsWhole)
    (arg5 : Memref sig .tc .vmem S1x1024 .f32) (harg5 : arg5.IsWhole) (arg7 : Memref sig .tc .vmem S688x1024 .f32)
    (x0 : Vec Ideal S688x1024 .f32) (x1 : Vec Ideal S1024x5632 .bf16) (x2 : Vec Ideal S2816x1024 .bf16) (x3 x4 : Vec Ideal S1x1024 .f32)

/-- A load of a staged array reads its entries. -/
theorem readAt_unread {κ : Kind} {sp : Space} {e : EltTy} {S : Shape} (a : Memref sig κ sp S e) (ha : a.IsWhole) (x : S.Idx → Elt Ideal e) (r : Rect S) (y) :
    View.readAt (Elt Ideal) a.view r.toLoadRect (ha.unread x) y = x (r.emb y) :=
  congrFun (ha.read_unread x) _

/-- A buffer holds the first `n + 1` chunks of every row. -/
def Held (n : ℕ) (hn : n < 11) (acc : Vec Ideal S688x1024 .f32) : Prop := ∀ r e,
  acc (ix2 r e) = Trunk.upTo (fun k => x0 (ix2 r k)) (fun k f => x1 (ix2 k f)) (fun f e => x2 (ix2 f e)) e n hn

/-- The 256 weight columns from `o`, and the 256 weight rows from `o`. -/
abbrev cols (o : ℕ) (inb : ∀ a, (![0, o] : Fin 2 → ℕ) a + S1024x256.size a ≤ S1024x5632.size a) : Vec Ideal S1024x256 .bf16 :=
  View.readAt (Elt Ideal) arg2.view (Rect.unit (s := S1024x5632) ![0, o] S1024x256.size inb).toLoadRect (harg2.unread x1)
abbrev rows (o : ℕ) (inb : ∀ a, (![o, 0] : Fin 2 → ℕ) a + S256x1024.size a ≤ S2816x1024.size a) : Vec Ideal S256x1024 .bf16 :=
  View.readAt (Elt Ideal) arg3.view (Rect.unit (s := S2816x1024) ![o, 0] S256x1024.size inb).toLoadRect (harg3.unread x2)

theorem cols_apply (o : ℕ) (inb) (k : Fin 1024) (f : Fin 256) (h : o + f.val < 5632) : cols arg2 harg2 x1 o inb (ix2 k f) = x1 (ix2 k ⟨o + f.val, h⟩) :=
  (readAt_unread arg2 harg2 x1 _ _).trans (congrArg x1 (funext fun a => Fin.ext (match a with
    | ⟨0, _⟩ => by show 0 + 1 * k.val = k.val; omega
    | ⟨1, _⟩ => by show o + 1 * f.val = o + f.val; omega)))

theorem rows_apply (o : ℕ) (inb) (f : Fin 256) (e : Fin 1024) (h : o + f.val < 2816) : rows arg3 harg3 x2 o inb (ix2 f e) = x2 (ix2 ⟨o + f.val, h⟩ e) :=
  (readAt_unread arg3 harg3 x2 _ _).trans (congrArg x2 (funext fun a => Fin.ext (match a with
    | ⟨0, _⟩ => by show o + 1 * f.val = o + f.val; omega
    | ⟨1, _⟩ => by show 0 + 1 * e.val = e.val; omega)))

/-- The rows the body loads. -/
abbrev block : Vec Ideal S688x1024 .f32 :=
  View.readAt (Elt Ideal) arg1.view (Rect.unit (s := S688x1024) ![0, 0] S688x1024.size inb_S688x1024_S688x1024_0_0).toLoadRect (harg1.unread x0)

theorem block_apply (r : Fin 688) (k : Fin 1024) : block arg1 harg1 x0 (ix2 r k) = x0 (ix2 r k) :=
  (readAt_unread arg1 harg1 x0 _ _).trans (congrArg x0 (funext fun a => Fin.ext (match a with
    | ⟨0, _⟩ => by show 0 + 1 * r.val = r.val; omega
    | ⟨1, _⟩ => by show 0 + 1 * k.val = k.val; omega)))

/-- A chunk of the loaded weights is the chunk of the block's hidden units. -/
theorem chunk_eq (n : ℕ) (hn : n < 11) (o p : ℕ) (ho : o = 256 * n) (hp : p = 2816 + 256 * n) (ia ib id) (r : Fin 688) (e : Fin 1024) :
    chunk (block arg1 harg1 x0) (cols arg2 harg2 x1 o ia) (cols arg2 harg2 x1 p ib) (rows arg3 harg3 x2 o id) r e
      = Trunk.part (fun k => x0 (ix2 r k)) (fun k f => x1 (ix2 k f)) (fun f e => x2 (ix2 f e)) e n hn := by
  subst ho hp
  unfold chunk Trunk.part Trunk.act Trunk.dot
  refine Finset.sum_congr rfl fun f _ => ?_
  have hf := f.isLt
  simp only [block_apply]
  rw [rows_apply arg3 harg3 x2 _ id f e (by omega)]
  congr 2
  · refine congrArg _ (Finset.sum_congr rfl fun k _ => ?_)
    rw [cols_apply arg2 harg2 x1 _ ia k f (by omega)]
  · refine Finset.sum_congr rfl fun k _ => ?_
    rw [cols_apply arg2 harg2 x1 _ ib k f (by omega)]
    exact congrArg (fun i => _ * x1 (ix2 k i)) (Fin.ext (Nat.add_assoc _ _ _))

/-- One more chunk. -/
theorem step (n : ℕ) (hn : n + 1 < 11) (o p : ℕ) (ho : o = 256 * (n + 1)) (hp : p = 2816 + 256 * (n + 1)) (ia ib id) (acc : Vec Ideal S688x1024 .f32)
    (h : Held x0 x1 x2 n (by omega) acc) :
    Held x0 x1 x2 (n + 1) hn (k0_pay5 (F := Ideal) (k0_pay2 (block arg1 harg1 x0)) (cols arg2 harg2 x1 o ia) (cols arg2 harg2 x1 p ib) (rows arg3 harg3 x2 o id) acc) :=
  fun r e => (next_apply _ _ _ _ _ r e).trans (congrArg₂ (· + ·) (h r e) (chunk_eq arg1 harg1 arg2 harg2 arg3 harg3 x0 x1 x2 (n + 1) hn o p ho hp ia ib id r e))

/-! The running sum, read back after each store. -/

theorem held0 : Held x0 x1 x2 0 (by omega) (kernelRun0_A.sl.v25 (F := Ideal) c arg1 harg1 arg2 harg2 arg3 harg3 arg7 x0 x1 x2) := by
  unfold kernelRun0_A.sl.v25 kernelRun0_A.sl.HS0_1
  rw [View.readCov_cons_unit_lit' _ _ _ _ _ (by decide) (by decide)]
  exact fun r e => (first_apply _ _ _ _ r e).trans (chunk_eq arg1 harg1 arg2 harg2 arg3 harg3 x0 x1 x2 0 (by omega) 0 2816 rfl rfl _ _ _ r e)

theorem held1 : Held x0 x1 x2 1 (by omega) (kernelRun0_A.sl.v40 (F := Ideal) c arg1 harg1 arg2 harg2 arg3 harg3 arg7 x0 x1 x2) := by
  unfold kernelRun0_A.sl.v40 kernelRun0_A.sl.HS0_2
  rw [View.readCov_cons_unit_lit' _ _ _ _ _ (by decide) (by decide)]
  exact step arg1 harg1 arg2 harg2 arg3 harg3 x0 x1 x2 0 (by omega) 256 3072 rfl rfl inb_S1024x5632_S1024x256_0_256 inb_S1024x5632_S1024x256_0_3072
    inb_S2816x1024_S256x1024_256_0 _ (held0 c arg1 harg1 arg2 harg2 arg3 harg3 arg7 x0 x1 x2)

theorem held2 : Held x0 x1 x2 2 (by omega) (kernelRun0_A.sl.v55 (F := Ideal) c arg1 harg1 arg2 harg2 arg3 harg3 arg7 x0 x1 x2) := by
  unfold kernelRun0_A.sl.v55 kernelRun0_A.sl.HS0_3
  rw [View.readCov_cons_unit_lit' _ _ _ _ _ (by decide) (by decide)]
  exact step arg1 harg1 arg2 harg2 arg3 harg3 x0 x1 x2 1 (by omega) 512 3328 rfl rfl inb_S1024x5632_S1024x256_0_512 inb_S1024x5632_S1024x256_0_3328
    inb_S2816x1024_S256x1024_512_0 _ (held1 c arg1 harg1 arg2 harg2 arg3 harg3 arg7 x0 x1 x2)

theorem held3 : Held x0 x1 x2 3 (by omega) (kernelRun0_A.sl.v70 (F := Ideal) c arg1 harg1 arg2 harg2 arg3 harg3 arg7 x0 x1 x2) := by
  unfold kernelRun0_A.sl.v70 kernelRun0_A.sl.HS0_4
  rw [View.readCov_cons_unit_lit' _ _ _ _ _ (by decide) (by decide)]
  exact step arg1 harg1 arg2 harg2 arg3 harg3 x0 x1 x2 2 (by omega) 768 3584 rfl rfl inb_S1024x5632_S1024x256_0_768 inb_S1024x5632_S1024x256_0_3584
    inb_S2816x1024_S256x1024_768_0 _ (held2 c arg1 harg1 arg2 harg2 arg3 harg3 arg7 x0 x1 x2)

theorem held4 : Held x0 x1 x2 4 (by omega) (kernelRun0_A.sl.v85 (F := Ideal) c arg1 harg1 arg2 harg2 arg3 harg3 arg7 x0 x1 x2) := by
  unfold kernelRun0_A.sl.v85 kernelRun0_A.sl.HS0_5
  rw [View.readCov_cons_unit_lit' _ _ _ _ _ (by decide) (by decide)]
  exact step arg1 harg1 arg2 harg2 arg3 harg3 x0 x1 x2 3 (by omega) 1024 3840 rfl rfl inb_S1024x5632_S1024x256_0_1024 inb_S1024x5632_S1024x256_0_3840
    inb_S2816x1024_S256x1024_1024_0 _ (held3 c arg1 harg1 arg2 harg2 arg3 harg3 arg7 x0 x1 x2)

theorem held5 : Held x0 x1 x2 5 (by omega) (kernelRun0_A.sl.v100 (F := Ideal) c arg1 harg1 arg2 harg2 arg3 harg3 arg7 x0 x1 x2) := by
  unfold kernelRun0_A.sl.v100 kernelRun0_A.sl.HS0_6
  rw [View.readCov_cons_unit_lit' _ _ _ _ _ (by decide) (by decide)]
  exact step arg1 harg1 arg2 harg2 arg3 harg3 x0 x1 x2 4 (by omega) 1280 4096 rfl rfl inb_S1024x5632_S1024x256_0_1280 inb_S1024x5632_S1024x256_0_4096
    inb_S2816x1024_S256x1024_1280_0 _ (held4 c arg1 harg1 arg2 harg2 arg3 harg3 arg7 x0 x1 x2)

theorem held6 : Held x0 x1 x2 6 (by omega) (kernelRun0_A.sl.v115 (F := Ideal) c arg1 harg1 arg2 harg2 arg3 harg3 arg7 x0 x1 x2) := by
  unfold kernelRun0_A.sl.v115 kernelRun0_A.sl.HS0_7
  rw [View.readCov_cons_unit_lit' _ _ _ _ _ (by decide) (by decide)]
  exact step arg1 harg1 arg2 harg2 arg3 harg3 x0 x1 x2 5 (by omega) 1536 4352 rfl rfl inb_S1024x5632_S1024x256_0_1536 inb_S1024x5632_S1024x256_0_4352
    inb_S2816x1024_S256x1024_1536_0 _ (held5 c arg1 harg1 arg2 harg2 arg3 harg3 arg7 x0 x1 x2)

theorem held7 : Held x0 x1 x2 7 (by omega) (kernelRun0_A.sl.v130 (F := Ideal) c arg1 harg1 arg2 harg2 arg3 harg3 arg7 x0 x1 x2) := by
  unfold kernelRun0_A.sl.v130 kernelRun0_A.sl.HS0_8
  rw [View.readCov_cons_unit_lit' _ _ _ _ _ (by decide) (by decide)]
  exact step arg1 harg1 arg2 harg2 arg3 harg3 x0 x1 x2 6 (by omega) 1792 4608 rfl rfl inb_S1024x5632_S1024x256_0_1792 inb_S1024x5632_S1024x256_0_4608
    inb_S2816x1024_S256x1024_1792_0 _ (held6 c arg1 harg1 arg2 harg2 arg3 harg3 arg7 x0 x1 x2)

theorem held8 : Held x0 x1 x2 8 (by omega) (kernelRun0_A.sl.v145 (F := Ideal) c arg1 harg1 arg2 harg2 arg3 harg3 arg7 x0 x1 x2) := by
  unfold kernelRun0_A.sl.v145 kernelRun0_A.sl.HS0_9
  rw [View.readCov_cons_unit_lit' _ _ _ _ _ (by decide) (by decide)]
  exact step arg1 harg1 arg2 harg2 arg3 harg3 x0 x1 x2 7 (by omega) 2048 4864 rfl rfl inb_S1024x5632_S1024x256_0_2048 inb_S1024x5632_S1024x256_0_4864
    inb_S2816x1024_S256x1024_2048_0 _ (held7 c arg1 harg1 arg2 harg2 arg3 harg3 arg7 x0 x1 x2)

theorem held9 : Held x0 x1 x2 9 (by omega) (kernelRun0_A.sl.v160 (F := Ideal) c arg1 harg1 arg2 harg2 arg3 harg3 arg7 x0 x1 x2) := by
  unfold kernelRun0_A.sl.v160 kernelRun0_A.sl.HS0_10
  rw [View.readCov_cons_unit_lit' _ _ _ _ _ (by decide) (by decide)]
  exact step arg1 harg1 arg2 harg2 arg3 harg3 x0 x1 x2 8 (by omega) 2304 5120 rfl rfl inb_S1024x5632_S1024x256_0_2304 inb_S1024x5632_S1024x256_0_5120
    inb_S2816x1024_S256x1024_2304_0 _ (held8 c arg1 harg1 arg2 harg2 arg3 harg3 arg7 x0 x1 x2)

theorem held10 : Held x0 x1 x2 10 (by omega) (kernelRun0_A.sl.v167 (F := Ideal) c arg1 harg1 arg2 harg2 arg3 harg3 arg7 x0 x1 x2) := by
  unfold kernelRun0_A.sl.v167 kernelRun0_A.sl.HS0_11
  rw [View.readCov_cons_unit_lit' _ _ _ _ _ (by decide) (by decide)]
  exact step arg1 harg1 arg2 harg2 arg3 harg3 x0 x1 x2 9 (by omega) 2560 5376 rfl rfl inb_S1024x5632_S1024x256_0_2560 inb_S1024x5632_S1024x256_0_5376
    inb_S2816x1024_S256x1024_2560_0 _ (held9 c arg1 harg1 arg2 harg2 arg3 harg3 arg7 x0 x1 x2)

theorem lane_apply (a : Memref sig .tc .vmem S1x1024 .f32) (ha : a.IsWhole) (x : Vec Ideal S1x1024 .f32) (k : Fin 1024) :
    View.readAt (Elt Ideal) a.view (Rect.unit (s := S1x1024) ![0, 0] S1x1024.size inb_S1x1024_S1x1024_0_0).toLoadRect (ha.unread x) (ix2 0 k) = x (ix2 0 k) :=
  (readAt_unread a ha x _ _).trans (congrArg x (funext fun b => Fin.ext (match b with
    | ⟨0, _⟩ => rfl
    | ⟨1, _⟩ => by show 0 + 1 * k.val = k.val; omega)))

/-- The stored block. -/
theorem stored (y : S688x1024.Idx) :
    k0_pay1 (F := Ideal) (kernelRun0_A.sl.r_7 c arg1 harg1 arg2 harg2 arg3 harg3 arg4 harg4 arg7 x0 x1 x2 x3) (kernelRun0_A.sl.r_8 c arg5 harg5 x4) y = G x0 x1 x2 x3 x4 y := by
  obtain ⟨r, e, rfl⟩ : ∃ (r : Fin 688) (e : Fin 1024), y = ix2 r e := ⟨y 0, y 1, funext fun a => match a with | ⟨0, _⟩ => rfl | ⟨1, _⟩ => rfl⟩
  refine (last_apply (block arg1 harg1 x0) (kernelRun0_A.sl.v167 (F := Ideal) c arg1 harg1 arg2 harg2 arg3 harg3 arg7 x0 x1 x2) _ _ r e).trans ?_
  have hh := held10 c arg1 harg1 arg2 harg2 arg3 harg3 arg7 x0 x1 x2
  unfold Held at hh
  simp only [hh, Trunk.upTo_last, block_apply]
  exact congrArg₂ (fun g b => Trunk.norm _ g b e) (funext fun k => lane_apply arg4 harg4 x3 k) (funext fun k => lane_apply arg5 harg5 x4 k)

theorem out_apply (i : grid0.Coords) (arg6 : Memref sig .tc .vmem S688x1024 .f32) (harg6 : arg6.IsWhole) (harg7 : arg7.IsWhole) (y : S688x1024.Idx) :
    out0_A_5 (F := Ideal) c i arg1 harg1 arg2 harg2 arg3 harg3 arg4 harg4 arg5 harg5 arg6 harg6 arg7 harg7 x0 x1 x2 x3 x4 y = G x0 x1 x2 x3 x4 y := by
  unfold out0_A_5 kernelRun0_A
  rw [View.read_writes_junk_eq_canon]
  refine (congrFun (View.canon_cons_unit_lit' (S := S688x1024) inb_S688x1024_S688x1024_0_0 _ [] (by decide)) y).trans ?_
  exact stored c arg1 harg1 arg2 harg2 arg3 harg3 arg4 harg4 arg5 harg5 arg7 x0 x1 x2 x3 x4 y

end FfnRun

end
-- ==== Proof.FfnArray.lean ====
/- The feed-forward kernel's result array: every launch point writes its rows of the feed-forward block. -/
module

public import proofs.«01_k».proof.Proof.FfnKernel
public import proofs.«01_k».proof.Proof.Gen.FfnIdeal.Value

@[expose] public section

set_option maxRecDepth 65536

noncomputable section

namespace FfnRun

open Idealize.ShloMosaic Cert.FfnIdeal Cert.FfnIdeal.Gen Idealize.ShloMosaic.TcCoe Idealize.SL.Sem
open Idealize.ShloMosaic.Pipeline (Dat)

/-- The feed-forward block, as one function of the five arrays. -/
def block_of (x0 : S16512x1024.Idx → EReal) (x1 : S1024x5632.Idx → EReal) (x2 : S2816x1024.Idx → EReal) (x3 x4 : S1x1024.Idx → EReal) (y : S16512x1024.Idx) : EReal :=
  Trunk.ffn (fun k => x0 (ix2 (y 0) k)) (fun k f => x1 (ix2 k f)) (fun f e => x2 (ix2 f e)) (fun k => x3 (ix2 0 k)) (fun k => x4 (ix2 0 k)) (y 1)

variable (m : (ℓ : Loc nD τ sig) → Buf (Elt Ideal) ℓ)

theorem index_facts : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = t.val ∧ win0_5.index t 1 = 0)
    ∧ win0_5.xsize (grid0.coords t) 0 = 688 ∧ win0_5.xsize (grid0.coords t) 1 = 1024 := by
  decide +kernel

theorem blk_lt (t : Fin cfg0.N) : t.val < 24 := by have := t.isLt; have hN : cfg0.N = 24 := N_0; omega

/-- The array row under a block's row. -/
abbrev under (t : Fin cfg0.N) (r : Fin 688) : Fin 16512 := ⟨t.val * 688 + r.val, by have h := blk_lt t; have := r.isLt; omega⟩

theorem iblk0_apply (c : Dev nD) (t : Fin cfg0.N) (r : Fin 688) (k : Fin 1024) :
    iblk m c 0 t (ix2 r k : S688x1024.Idx) = m ((c : Thread nD τ).loc main_arg0) (ix2 (under t r) k : S16512x1024.Idx) := by
  refine congrArg (m ((c : Thread nD τ).loc main_arg0)) (funext fun a => Fin.ext ?_)
  have e := (index_facts t).1
  match a with
  | ⟨0, _⟩ => show win0_0.index t 0 * 688 + 1 * r.val = t.val * 688 + r.val; rw [e.1, Nat.one_mul]
  | ⟨1, _⟩ => show win0_0.index t 1 * 1024 + 1 * k.val = k.val; rw [e.2]; omega

theorem iblk1_apply (c : Dev nD) (t : Fin cfg0.N) (k : Fin 1024) (f : Fin 5632) :
    iblk m c 1 t (ix2 k f : S1024x5632.Idx) = m ((c : Thread nD τ).loc main_arg1) (ix2 k f : S1024x5632.Idx) := by
  refine congrArg (m ((c : Thread nD τ).loc main_arg1)) (funext fun a => Fin.ext ?_)
  have e := (index_facts t).2.1
  match a with
  | ⟨0, _⟩ => show win0_1.index t 0 * 1024 + 1 * k.val = k.val; rw [e.1]; omega
  | ⟨1, _⟩ => show win0_1.index t 1 * 5632 + 1 * f.val = f.val; rw [e.2]; omega

theorem iblk2_apply (c : Dev nD) (t : Fin cfg0.N) (f : Fin 2816) (k : Fin 1024) :
    iblk m c 2 t (ix2 f k : S2816x1024.Idx) = m ((c : Thread nD τ).loc main_arg2) (ix2 f k : S2816x1024.Idx) := by
  refine congrArg (m ((c : Thread nD τ).loc main_arg2)) (funext fun a => Fin.ext ?_)
  have e := (index_facts t).2.2.1
  match a with
  | ⟨0, _⟩ => show win0_2.index t 0 * 2816 + 1 * f.val = f.val; rw [e.1]; omega
  | ⟨1, _⟩ => show win0_2.index t 1 * 1024 + 1 * k.val = k.val; rw [e.2]; omega

theorem iblk3_apply (c : Dev nD) (t : Fin cfg0.N) (k : Fin 1024) :
    iblk m c 3 t (ix2 0 k : S1x1024.Idx) = m ((c : Thread nD τ).loc main_arg3) (ix2 0 k : S1x1024.Idx) := by
  refine congrArg (m ((c : Thread nD τ).loc main_arg3)) (funext fun a => Fin.ext ?_)
  have e := (index_facts t).2.2.2.1
  match a with
  | ⟨0, _⟩ => show win0_3.index t 0 * 1 + 1 * 0 = 0; rw [e.1]
  | ⟨1, _⟩ => show win0_3.index t 1 * 1024 + 1 * k.val = k.val; rw [e.2]; omega

theorem iblk4_apply (c : Dev nD) (t : Fin cfg0.N) (k : Fin 1024) :
    iblk m c 4 t (ix2 0 k : S1x1024.Idx) = m ((c : Thread nD τ).loc main_arg4) (ix2 0 k : S1x1024.Idx) := by
  refine congrArg (m ((c : Thread nD τ).loc main_arg4)) (funext fun a => Fin.ext ?_)
  have e := (index_facts t).2.2.2.2.1
  match a with
  | ⟨0, _⟩ => show win0_4.index t 0 * 1 + 1 * 0 = 0; rw [e.1]
  | ⟨1, _⟩ => show win0_4.index t 1 * 1024 + 1 * k.val = k.val; rw [e.2]; omega

/-- The result array. -/
abbrev GA (c : Dev nD) : Buf (Elt Ideal) ((c : Thread nD τ).loc main_v0) :=
  block_of (m ((c : Thread nD τ).loc main_arg0)) (m ((c : Thread nD τ).loc main_arg1)) (m ((c : Thread nD τ).loc main_arg2))
    (m ((c : Thread nD τ).loc main_arg3)) (m ((c : Thread nD τ).loc main_arg4))

theorem mem_blk (t : Fin cfg0.N) (i : S16512x1024.Idx) (h0 : (i 0).val / 688 = t.val) : i ∈ ((cfg0.win 5).blk t).view.set := by
  show i ∈ ((View.whole main_v0).slice (win0_5.rect t)).set
  rw [View.set_slice_whole, Rect.mem_set_unit]
  have e := (index_facts t).2.2.2.2.2
  have h1 : (i 1).val < 1024 := (i 1).isLt
  intro a
  match a with
  | ⟨0, _⟩ =>
    show win0_5.index t 0 * 688 ≤ (i 0 : ℕ) ∧ (i 0 : ℕ) < win0_5.index t 0 * 688 + win0_5.xsize (grid0.coords t) 0
    rw [e.1.1, e.2.1]; omega
  | ⟨1, _⟩ =>
    show win0_5.index t 1 * 1024 ≤ (i 1 : ℕ) ∧ (i 1 : ℕ) < win0_5.index t 1 * 1024 + win0_5.xsize (grid0.coords t) 1
    rw [e.1.2, e.2.2]; omega

/-- What a point writes back is its block of the result. -/
theorem flushed_eq (c : Dev nD) (t : Fin cfg0.N) : (dats m 0 c).flushed 5 t = ((cfg0.win 5).blk t).view.read (Elt Ideal) (GA m c) := by
  rw [Value.flushed5_A]
  have key : ∀ y : S688x1024.Idx, out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) (iblk m c 0 t) (iblk m c 1 t)
      (iblk m c 2 t) (iblk m c 3 t) (iblk m c 4 t) y = GA m c (ix2 (under t (y 0)) (y 1)) := fun y => by
    rw [out_apply]
    obtain ⟨r, e, rfl⟩ : ∃ (r : Fin 688) (e : Fin 1024), y = ix2 r e := ⟨y 0, y 1, funext fun a => match a with | ⟨0, _⟩ => rfl | ⟨1, _⟩ => rfl⟩
    unfold G
    show Trunk.ffn (fun k => iblk m c 0 t (ix2 r k : S688x1024.Idx)) _ _ _ _ e = _
    show _ = block_of _ _ _ _ _ _
    unfold block_of
    simp only [iblk0_apply, iblk1_apply, iblk2_apply, iblk3_apply, iblk4_apply]
    rfl
  funext y
  refine (key y).trans (congrArg (GA m c) (funext fun a => Fin.ext ?_))
  have e := (index_facts t).2.2.2.2.2.1
  match a with
  | ⟨0, _⟩ => show t.val * 688 + (y 0).val = win0_5.index t 0 * 688 + 1 * (y 0).val; rw [e.1, Nat.one_mul]
  | ⟨1, _⟩ => show (y 1).val = win0_5.index t 1 * 1024 + 1 * (y 1).val; rw [e.2]; omega

/-- **The result array is the feed-forward block.** -/
theorem final (c : Dev nD) : (dats m 0 c).arrAt 5 cfg0.N = GA m c :=
  (dats m 0 c).arrAt_eq_of_cover 5 (GA m c) (fun t _ => flushed_eq m c t) fun i => by
    have h0 : (i 0).val < 16512 := (i 0).isLt
    have hN : cfg0.N = 24 := N_0
    exact ⟨⟨(i 0).val / 688, by omega⟩, flush0_5 _, mem_blk _ i rfl⟩

end FfnRun
end
-- ==== Proof.FfnRef.lean ====
/- The reference feed-forward block at a row and lane. -/
module

public import proofs.«01_k».proof.Proof.TrunkSpec
public import proofs.«01_k».proof.Proof.Gen.FfnReferenceIdeal.Read
public import Idealize.ShloMosaic.Lib.IdealHost

@[expose] public section

set_option maxRecDepth 16384

noncomputable section

namespace FfnRef

open Idealize.ShloMosaic Cert.FfnReferenceIdeal Cert.FfnReferenceIdeal.Gen Cert.FfnReferenceIdeal.Read

variable (x0 : S16512x1024.Idx → EReal) (x1 : S1024x5632.Idx → EReal) (x2 : S2816x1024.Idx → EReal) (x3 x4 : S1x1024.Idx → EReal)
  (r : Fin 16512)

/-- The row, and the two weights. -/
abbrev row : Fin 1024 → EReal := fun k => x0 (ix2 r k)
abbrev wide : Fin 1024 → Fin 5632 → EReal := fun k f => x1 (ix2 k f)
abbrev tall : Fin 2816 → Fin 1024 → EReal := fun f e => x2 (ix2 f e)

theorem dot_apply (f : Fin 5632) : val_main_v1 (F := Ideal) x0 x1 (ix2 r f) = Trunk.dot (row x0 r) fun k => wide x1 k f := by
  rw [val_main_v1_apply]
  unfold Trunk.dot
  refine Finset.sum_congr rfl fun k _ => ?_
  rw [val_main_v0_apply]
  exact congrArg₂ (fun a b => x0 a * x1 b) (funext fun a => match a with | ⟨0, _⟩ => rfl | ⟨1, _⟩ => rfl) (funext fun a => match a with | ⟨0, _⟩ => rfl | ⟨1, _⟩ => rfl)

theorem gate_apply (f : Fin 2816) : val_main_v2 (F := Ideal) x0 x1 (ix2 r f) = Trunk.dot (row x0 r) fun k => wide x1 k ⟨f.val, by have := f.isLt; omega⟩ := by
  rw [val_main_v2_apply, ← dot_apply]
  exact congrArg _ (funext fun a => match a with | ⟨0, _⟩ => rfl | ⟨1, _⟩ => rfl)

theorem up_apply (f : Fin 2816) : val_main_v3 (F := Ideal) x0 x1 (ix2 r f) = Trunk.dot (row x0 r) fun k => wide x1 k ⟨2816 + f.val, by have := f.isLt; omega⟩ := by
  rw [val_main_v3_apply, ← dot_apply]
  exact congrArg _ (funext fun a => match a with | ⟨0, _⟩ => rfl | ⟨1, _⟩ => rfl)

theorem act_apply (f : Fin 2816) : val_main_v5 (F := Ideal) x0 x1 (ix2 r f) = Trunk.act (row x0 r) (wide x1) f := by
  rw [val_main_v5_apply, val_main_v4_apply, val_main_call0_v5_apply, val_main_call0_v4_apply, val_main_call0_cst_0_apply, val_main_call0_v3_apply,
    val_main_call0_v2_apply, val_main_call0_cst_apply, val_main_call0_v1_apply, val_main_call0_v0_apply, gate_apply, up_apply]
  unfold Trunk.act Trunk.silu Ideal.logistic
  generalize Trunk.dot _ _ = g
  generalize Trunk.dot _ _ = u
  show g * Ideal.div (Ideal.ofBits .f32 0x3F800000#32) (Ideal.ofBits .f32 0x3F800000#32 + Ideal.exp (-g)) * u = _
  rw [Ideal.ofBits_one_f32]

theorem down_apply (e : Fin 1024) : val_main_v7 (F := Ideal) x0 x1 x2 (ix2 r e) = Trunk.down (row x0 r) (wide x1) (tall x2) e := by
  rw [val_main_v7_apply]
  unfold Trunk.down
  refine Finset.sum_congr rfl fun f _ => ?_
  rw [val_main_v6_apply, ← act_apply]
  exact congrArg₂ (fun a b => val_main_v5 (F := Ideal) x0 x1 a * x2 b) (funext fun a => match a with | ⟨0, _⟩ => rfl | ⟨1, _⟩ => rfl) (funext fun a => match a with | ⟨0, _⟩ => rfl | ⟨1, _⟩ => rfl)

theorem resid_apply (e : Fin 1024) : val_main_v12 (F := Ideal) x0 x1 x2 (ix2 r e) = Trunk.resid (row x0 r) (wide x1) (tall x2) e := by
  rw [val_main_v12_apply, val_main_v9_apply, val_main_v8_apply, val_main_cst_apply, val_main_v11_apply, val_main_v10_apply, val_main_cst_0_apply, down_apply]
  rfl

abbrev res : Fin 1024 → EReal := Trunk.resid (row x0 r) (wide x1) (tall x2)

theorem mean_apply : val_main_v18 (F := Ideal) x0 x1 x2 (ix2 r 0) = Trunk.mean (res x0 x1 x2 r) := by
  have hs : val_main_v16 (F := Ideal) x0 x1 x2 (ix2 r 0) = ∑ k, res x0 x1 x2 r k := by
    rw [val_main_v16_apply, val_main_v15_apply, val_main_cst_1_apply]
    show Ideal.ofBits .f32 0x00000000#32 + _ = _
    rw [Ideal.ofBits_zero_f32, zero_add]
    refine Finset.sum_congr rfl fun k _ => ?_
    refine Eq.trans (b := val_main_v12 (F := Ideal) x0 x1 x2 (ix2 r k)) ?_ (resid_apply x0 x1 x2 r k)
    exact congrArg _ (funext fun a => match a with | ⟨0, _⟩ => rfl | ⟨1, _⟩ => rfl)
  rw [val_main_v18_apply, val_main_v17_apply, val_main_cst_2_apply, hs]
  rfl

theorem dev_apply (e : Fin 1024) : val_main_v20 (F := Ideal) x0 x1 x2 (ix2 r e) = res x0 x1 x2 r e - Trunk.mean (res x0 x1 x2 r) := by
  rw [val_main_v20_apply, resid_apply, val_main_v19_apply, ← mean_apply]
  exact congrArg (fun i => _ - val_main_v18 (F := Ideal) x0 x1 x2 i) (funext fun a => match a with | ⟨0, _⟩ => rfl | ⟨1, _⟩ => rfl)

theorem var_apply : val_main_v25 (F := Ideal) x0 x1 x2 (ix2 r 0) = Trunk.var (res x0 x1 x2 r) := by
  have hs : val_main_v23 (F := Ideal) x0 x1 x2 (ix2 r 0)
      = ∑ k, (res x0 x1 x2 r k - Trunk.mean (res x0 x1 x2 r)) * (res x0 x1 x2 r k - Trunk.mean (res x0 x1 x2 r)) := by
    rw [val_main_v23_apply, val_main_v22_apply, val_main_cst_3_apply]
    show Ideal.ofBits .f32 0x00000000#32 + _ = _
    rw [Ideal.ofBits_zero_f32, zero_add]
    refine Finset.sum_congr rfl fun k _ => ?_
    rw [← dev_apply]
    refine (val_main_v21_apply _ _ _ _).trans ?_
    exact congrArg (fun i => val_main_v20 (F := Ideal) x0 x1 x2 i * val_main_v20 (F := Ideal) x0 x1 x2 i) (funext fun a => match a with | ⟨0, _⟩ => rfl | ⟨1, _⟩ => rfl)
  rw [val_main_v25_apply, val_main_v24_apply, val_main_cst_4_apply, hs]
  rfl

theorem lane_apply (e : Fin 1024) : val_main_v32 (F := Ideal) x3 (ix2 r e) = x3 (ix2 0 e) := by
  rw [val_main_v32_apply, val_main_v31_apply, val_main_v13_apply]
  exact congrArg x3 (funext fun a => Fin.ext (match a with
    | ⟨0, _⟩ => rfl
    | ⟨1, _⟩ => by show e.val % 1024 = e.val; have := e.isLt; omega))

theorem lane_apply' (e : Fin 1024) : val_main_v35 (F := Ideal) x4 (ix2 r e) = x4 (ix2 0 e) := by
  rw [val_main_v35_apply, val_main_v34_apply, val_main_v14_apply]
  exact congrArg x4 (funext fun a => Fin.ext (match a with
    | ⟨0, _⟩ => rfl
    | ⟨1, _⟩ => by show e.val % 1024 = e.val; have := e.isLt; omega))

theorem scale_apply (e : Fin 1024) : val_main_v29 (F := Ideal) x0 x1 x2 (ix2 r e) = Ideal.rsqrt (Trunk.var (res x0 x1 x2 r) + Trunk.eps) := by
  have h : val_main_v28 (F := Ideal) x0 x1 x2 (ix2 r 0) = Ideal.rsqrt (Trunk.var (res x0 x1 x2 r) + Trunk.eps) := by
    rw [val_main_v28_apply, val_main_v27_apply, val_main_v26_apply, val_main_cst_5_apply, var_apply]
    rfl
  rw [val_main_v29_apply, ← h]
  exact congrArg _ (funext fun a => match a with | ⟨0, _⟩ => rfl | ⟨1, _⟩ => rfl)

/-- **The reference's result** is the feed-forward block of the row. -/
theorem result (y : S16512x1024.Idx) :
    val_main_v36 (F := Ideal) x0 x1 x2 x3 x4 y = Trunk.ffn (row x0 (y 0)) (wide x1) (tall x2) (fun k => x3 (ix2 0 k)) (fun k => x4 (ix2 0 k)) (y 1) := by
  obtain ⟨r, e, rfl⟩ : ∃ (r : Fin 16512) (e : Fin 1024), y = ix2 r e := ⟨y 0, y 1, funext fun a => match a with | ⟨0, _⟩ => rfl | ⟨1, _⟩ => rfl⟩
  rw [val_main_v36_apply, val_main_v33_apply, val_main_v30_apply, dev_apply, scale_apply, lane_apply, lane_apply']
  rfl

end FfnRef

end
-- ==== Proof.FfnClaim.lean ====
/- The feed-forward block's claims: the two runs have equal results. -/
module

public import proofs.«01_k».proof.Defs
public import proofs.«01_k».proof.Proof.FfnArray
public import proofs.«01_k».proof.Proof.FfnRef
public import proofs.«01_k».proof.Proof.Gen.FfnReferenceIdeal.Run
public import proofs.«01_k».proof.Proof.Gen.Ffn.Frame
public import Idealize.ShloMosaic.Lib.Quiescent
public import Idealize.ShloMosaic.Adequacy

@[expose] public section

set_option maxRecDepth 16384

noncomputable section

namespace FfnClaim

open Idealize.ShloMosaic Idealize.ShloMosaic.TcCoe Idealize.SL.Sem

theorem frame_kernel : Cert.quiescent_Ffn := fun m ρ _ => Cert.Ffn.Gen.frame m ρ
theorem frame_ideal : Cert.quiescent_FfnIdeal := fun m ρ _ => Cert.FfnIdeal.Gen.frame m ρ
theorem frame_reference : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

theorem algebraic : Cert.algebraic_FfnIdeal_FfnReferenceIdeal := fun m ρ m' ρ' _ hag =>
  ⟨fun c => FfnRun.GA m c,
    (θ_run Cert.FfnIdeal.defs _ _).mono (fun r h c => ⟨(h c).1.trans (FfnRun.final m c), (h c).2⟩) (Cert.FfnIdeal.Value.run_blocks m ρ),
    (θ_run Cert.FfnReferenceIdeal.defs _ _).mono (fun r h c => ⟨(h c).1.trans (by
        rw [Cert.FfnReferenceIdeal.Read.val_main_v36_eq, (hag c).1, (hag c).2.1, (hag c).2.2.1, (hag c).2.2.2.1, (hag c).2.2.2.2]
        exact funext fun y => FfnRef.result _ _ _ _ _ y), (h c).2⟩)
      (Cert.FfnReferenceIdeal.Value.run (F := Ideal) m' ρ')⟩

end FfnClaim

end
-- ==== Proof.MergeSpec.lean ====
/- The row function of the trunk step's merge: three gated branches, the output product, the residual and the layer norm. -/
module

public import proofs.«01_k».proof.Proof.TrunkSpec

@[expose] public section

noncomputable section

namespace Trunk

open Idealize.ShloMosaic

/-- An index of two coordinates is their pair. -/
theorem eq_ix2 {n k : ℕ} (i : (⟨2, ![n, k]⟩ : Shape).Idx) (a : Fin n) (b : Fin k) (ha : i 0 = a) (hb : i 1 = b) : i = ix2 a b :=
  funext fun x => match x with | ⟨0, _⟩ => ha | ⟨1, _⟩ => hb

/-- One lane of the gates. -/
def gate (x : Fin 1024 → EReal) (w : Fin 1024 → Fin 3072 → EReal) (b : Fin 3072 → EReal) (l : Fin 3072) : EReal :=
  Ideal.logistic (dot x (fun k => w k l) + b l)

/-- The first branch's lanes are the first 1024, then the second's and the third's. -/
abbrev lane0 (e : Fin 1024) : Fin 3072 := ⟨e.val, by have := e.isLt; omega⟩
abbrev lane1 (e : Fin 1024) : Fin 3072 := ⟨1024 + e.val, by have := e.isLt; omega⟩
abbrev lane2 (e : Fin 1024) : Fin 3072 := ⟨2048 + e.val, by have := e.isLt; omega⟩

/-- The three branches, each times its gate. -/
def branches (x : Fin 1024 → EReal) (ys : Fin 2048 → EReal) (yo yc : Fin 1024 → EReal) (w : Fin 1024 → Fin 3072 → EReal) (b : Fin 3072 → EReal)
    (ws : Fin 2048 → Fin 1024 → EReal) (wd wc : Fin 1024 → Fin 1024 → EReal) (e : Fin 1024) : EReal :=
  gate x w b (lane0 e) * dot ys (fun k => ws k e) + gate x w b (lane1 e) * dot yo (fun k => wd k e) + gate x w b (lane2 e) * dot yc (fun k => wc k e)

/-- The residual row. -/
def mixed (x : Fin 1024 → EReal) (s : Fin 1024 → EReal) (wo : Fin 1024 → Fin 1024 → EReal) (e : Fin 1024) : EReal :=
  alpha * x e + dot s (fun k => wo k e)

/-- The merge's row. -/
def merge (x : Fin 1024 → EReal) (ys : Fin 2048 → EReal) (yo yc : Fin 1024 → EReal) (w : Fin 1024 → Fin 3072 → EReal) (b : Fin 3072 → EReal)
    (ws : Fin 2048 → Fin 1024 → EReal) (wd wc wo : Fin 1024 → Fin 1024 → EReal) (g h : Fin 1024 → EReal) (e : Fin 1024) : EReal :=
  norm (mixed x (branches x ys yo yc w b ws wd wc) wo) g h e

end Trunk

end
-- ==== Proof.MergePay.lean ====
/- The merge kernel's stored values at a row and lane. -/
module

public import proofs.«01_k».proof.Proof.MergeSpec
public import proofs.«01_k».proof.Proof.Gen.MergeIdeal.Skeleton

@[expose] public section

set_option maxRecDepth 65536

noncomputable section

namespace MergeRun

open Idealize.ShloMosaic Cert.MergeIdeal Cert.MergeIdeal.Gen

/-- The first two branches. -/
theorem two_apply (v : Vec Ideal S384x1024 .f32) (w0 : Vec Ideal S1024x1024 .bf16) (b0 : Vec Ideal S1x1024 .f32) (ys : Vec Ideal S384x2048 .bf16)
    (ws : Vec Ideal S2048x1024 .bf16) (w1 : Vec Ideal S1024x1024 .bf16) (b1 : Vec Ideal S1x1024 .f32) (yo : Vec Ideal S384x1024 .bf16)
    (wd : Vec Ideal S1024x1024 .bf16) (r : Fin 384) (e : Fin 1024) :
    k0_pay3 (F := Ideal) v w0 b0 ys ws w1 b1 yo wd (ix2 r e)
      = Ideal.logistic (Trunk.dot (fun k => v (ix2 r k)) (fun k => w0 (ix2 k e)) + b0 (ix2 0 e)) * Trunk.dot (fun k => ys (ix2 r k)) (fun k => ws (ix2 k e))
        + Ideal.logistic (Trunk.dot (fun k => v (ix2 r k)) (fun k => w1 (ix2 k e)) + b1 (ix2 0 e)) * Trunk.dot (fun k => yo (ix2 r k)) (fun k => wd (ix2 k e)) := by
  unfold k0_pay3 k0_pay2
  pointwise
  unfold Trunk.dot
  with_reducible rfl

/-- The third gate. -/
theorem third_apply (v : Vec Ideal S384x1024 .f32) (w2 : Vec Ideal S1024x1024 .bf16) (b2 : Vec Ideal S1x1024 .f32) (r : Fin 384) (e : Fin 1024) :
    k0_pay4 (F := Ideal) v w2 b2 (ix2 r e) = Ideal.logistic (Trunk.dot (fun k => v (ix2 r k)) (fun k => w2 (ix2 k e)) + b2 (ix2 0 e)) := by
  unfold k0_pay4 k0_pay2
  pointwise
  unfold Trunk.dot
  with_reducible rfl

/-- The stored value, from the first two branches `u` and the third gate `s`. -/
theorem last_apply (v : Vec Ideal S384x1024 .f32) (u s : FVec Ideal S384x1024 .f32) (yc : Vec Ideal S384x1024 .bf16) (wc wo : Vec Ideal S1024x1024 .bf16)
    (g b : Vec Ideal S1x1024 .f32) (r : Fin 384) (e : Fin 1024) :
    k0_pay1 (F := Ideal) v u s yc wc wo g b (ix2 r e)
      = Trunk.norm (Trunk.mixed (fun k => v (ix2 r k)) (fun k => u (ix2 r k) + s (ix2 r k) * Trunk.dot (fun j => yc (ix2 r j)) (fun j => wc (ix2 j k)))
          (fun k e => wo (ix2 k e))) (fun k => g (ix2 0 k)) (fun k => b (ix2 0 k)) e := by
  unfold k0_pay1
  pointwise
  unfold Trunk.norm Trunk.var Trunk.mean Trunk.mixed Trunk.dot
  with_reducible rfl

end MergeRun

end
-- ==== Proof.MergeArray.lean ====
/- The merge kernel's result array: every launch point writes its rows of the merge. -/
module

public import proofs.«01_k».proof.Proof.MergePay
public import proofs.«01_k».proof.Proof.Gen.MergeIdeal.Value
public import Idealize.ShloMosaic.Lib.Pipeline.ValueKit

@[expose] public section

set_option maxRecDepth 65536

noncomputable section

namespace MergeRun

open Idealize.ShloMosaic Cert.MergeIdeal Cert.MergeIdeal.Gen Idealize.ShloMosaic.TcCoe Idealize.SL.Sem
open Idealize.ShloMosaic.Pipeline (Dat)
open Trunk (eq_ix2)

/-! ## A block's rows -/

/-- The merge of one block's rows. -/
def G (x0 : Vec Ideal S384x1024 .f32) (x1 : Vec Ideal S384x2048 .bf16) (x2 x3 : Vec Ideal S384x1024 .bf16) (x4 : Vec Ideal S1024x3072 .bf16)
    (x5 : Vec Ideal S1x3072 .f32) (x6 : Vec Ideal S2048x1024 .bf16) (x7 x8 x9 : Vec Ideal S1024x1024 .bf16) (x10 x11 : Vec Ideal S1x1024 .f32)
    (r : Fin 384) (e : Fin 1024) : EReal :=
  Trunk.merge (fun k => x0 (ix2 r k)) (fun k => x1 (ix2 r k)) (fun k => x2 (ix2 r k)) (fun k => x3 (ix2 r k)) (fun k f => x4 (ix2 k f))
    (fun f => x5 (ix2 0 f)) (fun k f => x6 (ix2 k f)) (fun k f => x7 (ix2 k f)) (fun k f => x8 (ix2 k f)) (fun k f => x9 (ix2 k f))
    (fun k => x10 (ix2 0 k)) (fun k => x11 (ix2 0 k)) e

/-- The three column blocks of the gates' weight and of their bias. -/
theorem w0_eq (x4 : Vec Ideal S1024x3072 .bf16) : View.ld x4 r0_1 = fun i : S1024x1024.Idx => x4 (ix2 (i 0) (Trunk.lane0 (i 1))) :=
  funext fun i => congrArg x4 (eq_ix2 _ _ _ (Fin.ext (by show 0 + 1 * (i 0).val = (i 0).val; omega)) (Fin.ext (by show 0 + 1 * (i 1).val = (i 1).val; omega)))
theorem w1_eq (x4 : Vec Ideal S1024x3072 .bf16) : View.ld x4 r0_5 = fun i : S1024x1024.Idx => x4 (ix2 (i 0) (Trunk.lane1 (i 1))) :=
  funext fun i => congrArg x4 (eq_ix2 _ _ _ (Fin.ext (by show 0 + 1 * (i 0).val = (i 0).val; omega)) (Fin.ext (by show 1024 + 1 * (i 1).val = 1024 + (i 1).val; omega)))
theorem w2_eq (x4 : Vec Ideal S1024x3072 .bf16) : View.ld x4 r0_8 = fun i : S1024x1024.Idx => x4 (ix2 (i 0) (Trunk.lane2 (i 1))) :=
  funext fun i => congrArg x4 (eq_ix2 _ _ _ (Fin.ext (by show 0 + 1 * (i 0).val = (i 0).val; omega)) (Fin.ext (by show 2048 + 1 * (i 1).val = 2048 + (i 1).val; omega)))
theorem b0_eq (x5 : Vec Ideal S1x3072 .f32) : View.ld x5 r0_2 = fun i : S1x1024.Idx => x5 (ix2 (i 0) (Trunk.lane0 (i 1))) :=
  funext fun i => congrArg x5 (eq_ix2 _ _ _ (Fin.ext (by show 0 + 1 * (i 0).val = (i 0).val; omega)) (Fin.ext (by show 0 + 1 * (i 1).val = (i 1).val; omega)))
theorem b1_eq (x5 : Vec Ideal S1x3072 .f32) : View.ld x5 r0_6 = fun i : S1x1024.Idx => x5 (ix2 (i 0) (Trunk.lane1 (i 1))) :=
  funext fun i => congrArg x5 (eq_ix2 _ _ _ (Fin.ext (by show 0 + 1 * (i 0).val = (i 0).val; omega)) (Fin.ext (by show 1024 + 1 * (i 1).val = 1024 + (i 1).val; omega)))
theorem b2_eq (x5 : Vec Ideal S1x3072 .f32) : View.ld x5 r0_9 = fun i : S1x1024.Idx => x5 (ix2 (i 0) (Trunk.lane2 (i 1))) :=
  funext fun i => congrArg x5 (eq_ix2 _ _ _ (Fin.ext (by show 0 + 1 * (i 0).val = (i 0).val; omega)) (Fin.ext (by show 2048 + 1 * (i 1).val = 2048 + (i 1).val; omega)))

theorem out_apply (x0 : Vec Ideal S384x1024 .f32) (x1 : Vec Ideal S384x2048 .bf16) (x2 x3 : Vec Ideal S384x1024 .bf16) (x4 : Vec Ideal S1024x3072 .bf16)
    (x5 : Vec Ideal S1x3072 .f32) (x6 : Vec Ideal S2048x1024 .bf16) (x7 x8 x9 : Vec Ideal S1024x1024 .bf16) (x10 x11 : Vec Ideal S1x1024 .f32)
    (r : Fin 384) (e : Fin 1024) :
    out0_12 (F := Ideal) x0 x1 x2 x3 x4 x5 x6 x7 x8 x9 x10 x11 (ix2 r e) = G x0 x1 x2 x3 x4 x5 x6 x7 x8 x9 x10 x11 r e := by
  unfold out0_12
  rw [View.canon_cons_unit_lit' _ _ _ (by decide)]
  rw [View.ld_unit_lit' _ x0 (by decide), View.ld_unit_lit' _ x1 (by decide), View.ld_unit_lit' _ x2 (by decide), View.ld_unit_lit' _ x3 (by decide),
    View.ld_unit_lit' _ x6 (by decide), View.ld_unit_lit' _ x7 (by decide), View.ld_unit_lit' _ x8 (by decide), View.ld_unit_lit' _ x9 (by decide),
    View.ld_unit_lit' _ x10 (by decide), View.ld_unit_lit' _ x11 (by decide)]
  rw [w0_eq, w1_eq, w2_eq, b0_eq, b1_eq, b2_eq, last_apply]
  simp only [two_apply, third_apply]
  rfl

/-! ## From blocks to the array -/

/-- The merge, as one function of the arrays. -/
def merge_of (x0 : S16512x1024.Idx → EReal) (x1 : S16512x2048.Idx → EReal) (x2 x3 : S16512x1024.Idx → EReal) (x4 : S1024x3072.Idx → EReal)
    (x5 : S1x3072.Idx → EReal) (x6 : S2048x1024.Idx → EReal) (x7 x8 x9 : S1024x1024.Idx → EReal) (x10 x11 : S1x1024.Idx → EReal) (y : S16512x1024.Idx) : EReal :=
  Trunk.merge (fun k => x0 (ix2 (y 0) k)) (fun k => x1 (ix2 (y 0) k)) (fun k => x2 (ix2 (y 0) k)) (fun k => x3 (ix2 (y 0) k)) (fun k f => x4 (ix2 k f))
    (fun f => x5 (ix2 0 f)) (fun k f => x6 (ix2 k f)) (fun k f => x7 (ix2 k f)) (fun k f => x8 (ix2 k f)) (fun k f => x9 (ix2 k f))
    (fun k => x10 (ix2 0 k)) (fun k => x11 (ix2 0 k)) (y 1)

variable (m : (ℓ : Loc nD τ sig) → Buf (Elt Ideal) ℓ)

theorem row_facts : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_12.index t 0 = t.val ∧ win0_12.index t 1 = 0) ∧ win0_12.xsize (grid0.coords t) 0 = 384 ∧ win0_12.xsize (grid0.coords t) 1 = 1024 := by
  decide +kernel

theorem whole_facts : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) ∧ (win0_11.index t 0 = 0 ∧ win0_11.index t 1 = 0) := by
  decide +kernel

theorem blk_lt (t : Fin cfg0.N) : t.val < 43 := by have := t.isLt; have hN : cfg0.N = 43 := N_0; omega

/-- The array row under a block's row. -/
abbrev under (t : Fin cfg0.N) (r : Fin 384) : Fin 16512 := ⟨t.val * 384 + r.val, by have h := blk_lt t; have := r.isLt; omega⟩

/-- A block row's array row, and a whole window's coordinate, from the window's block index. -/
theorem at_row {i n : ℕ} (t : Fin cfg0.N) (r : Fin 384) (hi : i = t.val) (h : i * 384 + 1 * r.val < n) (hn : n = 16512) :
    (⟨i * 384 + 1 * r.val, h⟩ : Fin n) = (under t r).cast hn.symm := Fin.ext (by show i * 384 + 1 * r.val = t.val * 384 + r.val; rw [hi, Nat.one_mul])
theorem at_whole {i n : ℕ} (k : Fin n) (hi : i = 0) (h : i * n + 1 * k.val < n) : (⟨i * n + 1 * k.val, h⟩ : Fin n) = k :=
  Fin.ext (by show i * n + 1 * k.val = k.val; rw [hi, Nat.zero_mul, Nat.zero_add, Nat.one_mul])

theorem iblk0_apply (c : Dev nD) (t : Fin cfg0.N) (r : Fin 384) (k : Fin 1024) :
    iblk m c 0 t (ix2 r k : S384x1024.Idx) = m ((c : Thread nD τ).loc main_arg0) (ix2 (under t r) k : S16512x1024.Idx) :=
  congrArg (m ((c : Thread nD τ).loc main_arg0)) (eq_ix2 _ _ _ (at_row t r (row_facts t).1.1 _ rfl) (at_whole k (row_facts t).1.2 _))
theorem iblk1_apply (c : Dev nD) (t : Fin cfg0.N) (r : Fin 384) (k : Fin 2048) :
    iblk m c 1 t (ix2 r k : S384x2048.Idx) = m ((c : Thread nD τ).loc main_arg1) (ix2 (under t r) k : S16512x2048.Idx) :=
  congrArg (m ((c : Thread nD τ).loc main_arg1)) (eq_ix2 _ _ _ (at_row t r (row_facts t).2.1.1 _ rfl) (at_whole k (row_facts t).2.1.2 _))
theorem iblk2_apply (c : Dev nD) (t : Fin cfg0.N) (r : Fin 384) (k : Fin 1024) :
    iblk m c 2 t (ix2 r k : S384x1024.Idx) = m ((c : Thread nD τ).loc main_arg2) (ix2 (under t r) k : S16512x1024.Idx) :=
  congrArg (m ((c : Thread nD τ).loc main_arg2)) (eq_ix2 _ _ _ (at_row t r (row_facts t).2.2.1.1 _ rfl) (at_whole k (row_facts t).2.2.1.2 _))
theorem iblk3_apply (c : Dev nD) (t : Fin cfg0.N) (r : Fin 384) (k : Fin 1024) :
    iblk m c 3 t (ix2 r k : S384x1024.Idx) = m ((c : Thread nD τ).loc main_arg3) (ix2 (under t r) k : S16512x1024.Idx) :=
  congrArg (m ((c : Thread nD τ).loc main_arg3)) (eq_ix2 _ _ _ (at_row t r (row_facts t).2.2.2.1.1 _ rfl) (at_whole k (row_facts t).2.2.2.1.2 _))

theorem iblk4_eq (c : Dev nD) (t : Fin cfg0.N) (k : Fin 1024) (f : Fin 3072) :
    iblk m c 4 t (ix2 k f : S1024x3072.Idx) = m ((c : Thread nD τ).loc main_arg4) (ix2 k f : S1024x3072.Idx) :=
  congrArg (m ((c : Thread nD τ).loc main_arg4)) (eq_ix2 _ _ _ (at_whole k (whole_facts t).1.1 _) (at_whole f (whole_facts t).1.2 _))
theorem iblk5_eq (c : Dev nD) (t : Fin cfg0.N) (k : Fin 1) (f : Fin 3072) :
    iblk m c 5 t (ix2 k f : S1x3072.Idx) = m ((c : Thread nD τ).loc main_arg5) (ix2 k f : S1x3072.Idx) :=
  congrArg (m ((c : Thread nD τ).loc main_arg5)) (eq_ix2 _ _ _ (at_whole k (whole_facts t).2.1.1 _) (at_whole f (whole_facts t).2.1.2 _))
theorem iblk6_eq (c : Dev nD) (t : Fin cfg0.N) (k : Fin 2048) (f : Fin 1024) :
    iblk m c 6 t (ix2 k f : S2048x1024.Idx) = m ((c : Thread nD τ).loc main_arg6) (ix2 k f : S2048x1024.Idx) :=
  congrArg (m ((c : Thread nD τ).loc main_arg6)) (eq_ix2 _ _ _ (at_whole k (whole_facts t).2.2.1.1 _) (at_whole f (whole_facts t).2.2.1.2 _))
theorem iblk7_eq (c : Dev nD) (t : Fin cfg0.N) (k f : Fin 1024) :
    iblk m c 7 t (ix2 k f : S1024x1024.Idx) = m ((c : Thread nD τ).loc main_arg7) (ix2 k f : S1024x1024.Idx) :=
  congrArg (m ((c : Thread nD τ).loc main_arg7)) (eq_ix2 _ _ _ (at_whole k (whole_facts t).2.2.2.1.1 _) (at_whole f (whole_facts t).2.2.2.1.2 _))
theorem iblk8_eq (c : Dev nD) (t : Fin cfg0.N) (k f : Fin 1024) :
    iblk m c 8 t (ix2 k f : S1024x1024.Idx) = m ((c : Thread nD τ).loc main_arg8) (ix2 k f : S1024x1024.Idx) :=
  congrArg (m ((c : Thread nD τ).loc main_arg8)) (eq_ix2 _ _ _ (at_whole k (whole_facts t).2.2.2.2.1.1 _) (at_whole f (whole_facts t).2.2.2.2.1.2 _))
theorem iblk9_eq (c : Dev nD) (t : Fin cfg0.N) (k f : Fin 1024) :
    iblk m c 9 t (ix2 k f : S1024x1024.Idx) = m ((c : Thread nD τ).loc main_arg9) (ix2 k f : S1024x1024.Idx) :=
  congrArg (m ((c : Thread nD τ).loc main_arg9)) (eq_ix2 _ _ _ (at_whole k (whole_facts t).2.2.2.2.2.1.1 _) (at_whole f (whole_facts t).2.2.2.2.2.1.2 _))
theorem iblk10_eq (c : Dev nD) (t : Fin cfg0.N) (k : Fin 1) (f : Fin 1024) :
    iblk m c 10 t (ix2 k f : S1x1024.Idx) = m ((c : Thread nD τ).loc main_arg10) (ix2 k f : S1x1024.Idx) :=
  congrArg (m ((c : Thread nD τ).loc main_arg10)) (eq_ix2 _ _ _ (at_whole k (whole_facts t).2.2.2.2.2.2.1.1 _) (at_whole f (whole_facts t).2.2.2.2.2.2.1.2 _))
theorem iblk11_eq (c : Dev nD) (t : Fin cfg0.N) (k : Fin 1) (f : Fin 1024) :
    iblk m c 11 t (ix2 k f : S1x1024.Idx) = m ((c : Thread nD τ).loc main_arg11) (ix2 k f : S1x1024.Idx) :=
  congrArg (m ((c : Thread nD τ).loc main_arg11)) (eq_ix2 _ _ _ (at_whole k (whole_facts t).2.2.2.2.2.2.2.1 _) (at_whole f (whole_facts t).2.2.2.2.2.2.2.2 _))

/-- The result array. -/
abbrev GA (c : Dev nD) : Buf (Elt Ideal) ((c : Thread nD τ).loc main_v0) :=
  merge_of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11))

theorem mem_blk (t : Fin cfg0.N) (i : S16512x1024.Idx) (h0 : (i 0).val / 384 = t.val) : i ∈ ((cfg0.win 12).blk t).view.set := by
  show i ∈ ((View.whole main_v0).slice (win0_12.rect t)).set
  rw [View.set_slice_whole, Rect.mem_set_unit]
  have e := (row_facts t).2.2.2.2
  have h1 : (i 1).val < 1024 := (i 1).isLt
  intro a
  match a with
  | ⟨0, _⟩ =>
    show win0_12.index t 0 * 384 ≤ (i 0 : ℕ) ∧ (i 0 : ℕ) < win0_12.index t 0 * 384 + win0_12.xsize (grid0.coords t) 0
    rw [e.1.1, e.2.1]; omega
  | ⟨1, _⟩ =>
    show win0_12.index t 1 * 1024 ≤ (i 1 : ℕ) ∧ (i 1 : ℕ) < win0_12.index t 1 * 1024 + win0_12.xsize (grid0.coords t) 1
    rw [e.1.2, e.2.2]; omega

/-- What a point writes back is its block of the result. -/
theorem flushed_eq (c : Dev nD) (t : Fin cfg0.N) : (dats m 0 c).flushed 12 t = ((cfg0.win 12).blk t).view.read (Elt Ideal) (GA m c) := by
  rw [Value.flushed12]
  have key : ∀ (r : Fin 384) (e : Fin 1024), out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r e) = GA m c (ix2 (under t r) e) := fun r e => by
    rw [out_apply]
    show G _ _ _ _ _ _ _ _ _ _ _ _ _ _ = merge_of _ _ _ _ _ _ _ _ _ _ _ _ _
    unfold G merge_of
    simp only [iblk0_apply, iblk1_apply, iblk2_apply, iblk3_apply, iblk4_eq, iblk5_eq, iblk6_eq, iblk7_eq, iblk8_eq, iblk9_eq, iblk10_eq, iblk11_eq]
    rfl
  funext y
  obtain ⟨r, e, rfl⟩ : ∃ (r : Fin 384) (e : Fin 1024), y = ix2 r e := ⟨y 0, y 1, eq_ix2 _ _ _ rfl rfl⟩
  refine (key r e).trans (congrArg (GA m c) (eq_ix2 _ _ _ ?_ ?_).symm)
  · exact at_row t r (row_facts t).2.2.2.2.1.1 _ rfl
  · exact at_whole e (row_facts t).2.2.2.2.1.2 _

/-- **The result array is the merge.** -/
theorem final (c : Dev nD) : (dats m 0 c).arrAt 12 cfg0.N = GA m c :=
  (dats m 0 c).arrAt_eq_of_cover 12 (GA m c) (fun t _ => flushed_eq m c t) fun i => by
    have h0 : (i 0).val < 16512 := (i 0).isLt
    have hN : cfg0.N = 43 := N_0
    exact ⟨⟨(i 0).val / 384, by omega⟩, flush0_12 _, mem_blk _ i rfl⟩

end MergeRun
end
-- ==== Proof.MergeRef.lean ====
/- The reference merge at a row and lane. -/
module

public import proofs.«01_k».proof.Proof.MergeSpec
public import proofs.«01_k».proof.Proof.Gen.MergeReferenceIdeal.Read
public import Idealize.ShloMosaic.Lib.IdealHost

@[expose] public section

set_option maxRecDepth 16384

noncomputable section

namespace MergeRef

open Idealize.ShloMosaic Cert.MergeReferenceIdeal Cert.MergeReferenceIdeal.Gen Cert.MergeReferenceIdeal.Read
open Trunk (eq_ix2)

variable (x0 : S16512x1024.Idx → EReal) (x1 : S16512x2048.Idx → EReal) (x2 x3 : S16512x1024.Idx → EReal) (x4 : S1024x3072.Idx → EReal)
  (x5 : S1x3072.Idx → EReal) (x6 : S2048x1024.Idx → EReal) (x7 x8 x9 : S1024x1024.Idx → EReal) (x10 x11 : S1x1024.Idx → EReal) (r : Fin 16512)

/-- The row of each input, and the weights. -/
abbrev row : Fin 1024 → EReal := fun k => x0 (ix2 r k)
abbrev row2 : Fin 2048 → EReal := fun k => x1 (ix2 r k)
abbrev wide : Fin 1024 → Fin 3072 → EReal := fun k f => x4 (ix2 k f)
abbrev bias : Fin 3072 → EReal := fun f => x5 (ix2 0 f)
abbrev tall : Fin 2048 → Fin 1024 → EReal := fun k f => x6 (ix2 k f)
abbrev square : Fin 1024 → Fin 1024 → EReal := fun k f => x7 (ix2 k f)

theorem bias_apply (l : Fin 3072) : val_main_v4 (F := Ideal) x5 (ix2 r l) = bias x5 l := by
  rw [val_main_v4_apply, val_main_v3_apply, val_main_v2_apply]
  exact congrArg x5 (eq_ix2 _ _ _ rfl (Fin.ext (by show l.val % 3072 = l.val; have := l.isLt; omega)))

theorem gate_apply (l : Fin 3072) : val_main_v11 (F := Ideal) x0 x4 x5 (ix2 r l) = Trunk.gate (row x0 r) (wide x4) (bias x5) l := by
  have hd : val_main_v1 (F := Ideal) x0 x4 (ix2 r l) = Trunk.dot (row x0 r) fun k => wide x4 k l := by
    rw [val_main_v1_apply]
    unfold Trunk.dot
    refine Finset.sum_congr rfl fun k _ => ?_
    rw [val_main_v0_apply]
    exact congrArg₂ (fun a b => x0 a * x4 b) (eq_ix2 _ _ _ rfl rfl) (eq_ix2 _ _ _ rfl rfl)
  rw [val_main_v11_apply, val_main_v10_apply, val_main_cst_0_apply, val_main_v9_apply, val_main_v8_apply, val_main_cst_apply, val_main_v7_apply,
    val_main_v6_apply, val_main_v5_apply, hd, bias_apply]
  unfold Trunk.gate Ideal.logistic
  generalize Trunk.dot _ _ = g
  show Ideal.div (Ideal.ofBits .f32 0x3F800000#32) (Ideal.ofBits .f32 0x3F800000#32 + Ideal.exp (-(g + bias x5 l))) = _
  rw [Ideal.ofBits_one_f32]

theorem dot2_apply (e : Fin 1024) : val_main_v17 (F := Ideal) x1 x6 (ix2 r e) = Trunk.dot (row2 x1 r) fun k => tall x6 k e := by
  rw [val_main_v17_apply]
  unfold Trunk.dot
  refine Finset.sum_congr rfl fun k _ => ?_
  rw [val_main_v15_apply, val_main_v16_apply]
  exact congrArg₂ (fun a b => x1 a * x6 b) (eq_ix2 _ _ _ rfl rfl) (eq_ix2 _ _ _ rfl rfl)

theorem dotO_apply (e : Fin 1024) : val_main_v21 (F := Ideal) x2 x7 (ix2 r e) = Trunk.dot (row x2 r) fun k => square x7 k e := by
  rw [val_main_v21_apply]
  unfold Trunk.dot
  refine Finset.sum_congr rfl fun k _ => ?_
  rw [val_main_v19_apply, val_main_v20_apply]
  exact congrArg₂ (fun a b => x2 a * x7 b) (eq_ix2 _ _ _ rfl rfl) (eq_ix2 _ _ _ rfl rfl)

theorem dotC_apply (e : Fin 1024) : val_main_v26 (F := Ideal) x3 x8 (ix2 r e) = Trunk.dot (row x3 r) fun k => square x8 k e := by
  rw [val_main_v26_apply]
  unfold Trunk.dot
  refine Finset.sum_congr rfl fun k _ => ?_
  rw [val_main_v24_apply, val_main_v25_apply]
  exact congrArg₂ (fun a b => x3 a * x8 b) (eq_ix2 _ _ _ rfl rfl) (eq_ix2 _ _ _ rfl rfl)

/-- The three gated branches of the row. -/
abbrev brs : Fin 1024 → EReal := Trunk.branches (row x0 r) (row2 x1 r) (row x2 r) (row x3 r) (wide x4) (bias x5) (tall x6) (square x7) (square x8)

theorem branches_apply (e : Fin 1024) : val_main_v28 (F := Ideal) x0 x1 x2 x3 x4 x5 x6 x7 x8 (ix2 r e) = brs x0 x1 x2 x3 x4 x5 x6 x7 x8 r e := by
  have h0 : val_main_v12 (F := Ideal) x0 x4 x5 (ix2 r e) = Trunk.gate (row x0 r) (wide x4) (bias x5) (Trunk.lane0 e) := by
    rw [val_main_v12_apply, ← gate_apply]
    exact congrArg _ (eq_ix2 _ _ _ rfl rfl)
  have h1 : val_main_v13 (F := Ideal) x0 x4 x5 (ix2 r e) = Trunk.gate (row x0 r) (wide x4) (bias x5) (Trunk.lane1 e) := by
    rw [val_main_v13_apply, ← gate_apply]
    exact congrArg _ (eq_ix2 _ _ _ rfl rfl)
  have h2 : val_main_v14 (F := Ideal) x0 x4 x5 (ix2 r e) = Trunk.gate (row x0 r) (wide x4) (bias x5) (Trunk.lane2 e) := by
    rw [val_main_v14_apply, ← gate_apply]
    exact congrArg _ (eq_ix2 _ _ _ rfl rfl)
  rw [val_main_v28_apply, val_main_v27_apply, val_main_v23_apply, val_main_v22_apply, val_main_v18_apply, h0, h1, h2, dot2_apply, dotO_apply, dotC_apply]
  rfl

/-- The residual of the row. -/
abbrev res : Fin 1024 → EReal := Trunk.mixed (row x0 r) (brs x0 x1 x2 x3 x4 x5 x6 x7 x8 r) (square x9)

theorem resid_apply (e : Fin 1024) : val_main_v33 (F := Ideal) x0 x1 x2 x3 x4 x5 x6 x7 x8 x9 (ix2 r e) = res x0 x1 x2 x3 x4 x5 x6 x7 x8 x9 r e := by
  have hd : val_main_v30 (F := Ideal) x0 x1 x2 x3 x4 x5 x6 x7 x8 x9 (ix2 r e) = Trunk.dot (brs x0 x1 x2 x3 x4 x5 x6 x7 x8 r) fun k => square x9 k e := by
    rw [val_main_v30_apply]
    unfold Trunk.dot
    refine Finset.sum_congr rfl fun k _ => ?_
    rw [val_main_v29_apply, ← branches_apply]
    exact congrArg₂ (fun a b => val_main_v28 (F := Ideal) x0 x1 x2 x3 x4 x5 x6 x7 x8 a * x9 b) (eq_ix2 _ _ _ rfl rfl) (eq_ix2 _ _ _ rfl rfl)
  rw [val_main_v33_apply, val_main_v32_apply, val_main_v31_apply, val_main_cst_1_apply, hd]
  rfl

theorem mean_apply : val_main_v39 (F := Ideal) x0 x1 x2 x3 x4 x5 x6 x7 x8 x9 (ix2 r 0) = Trunk.mean (res x0 x1 x2 x3 x4 x5 x6 x7 x8 x9 r) := by
  have hs : val_main_v37 (F := Ideal) x0 x1 x2 x3 x4 x5 x6 x7 x8 x9 (ix2 r 0) = ∑ k, res x0 x1 x2 x3 x4 x5 x6 x7 x8 x9 r k := by
    rw [val_main_v37_apply, val_main_v36_apply, val_main_cst_2_apply]
    show Ideal.ofBits .f32 0x00000000#32 + _ = _
    rw [Ideal.ofBits_zero_f32, zero_add]
    refine Finset.sum_congr rfl fun k _ => ?_
    refine Eq.trans (b := val_main_v33 (F := Ideal) x0 x1 x2 x3 x4 x5 x6 x7 x8 x9 (ix2 r k)) ?_ (resid_apply x0 x1 x2 x3 x4 x5 x6 x7 x8 x9 r k)
    exact congrArg _ (eq_ix2 _ _ _ rfl rfl)
  rw [val_main_v39_apply, val_main_v38_apply, val_main_cst_3_apply, hs]
  rfl

theorem dev_apply (e : Fin 1024) : val_main_v41 (F := Ideal) x0 x1 x2 x3 x4 x5 x6 x7 x8 x9 (ix2 r e)
    = res x0 x1 x2 x3 x4 x5 x6 x7 x8 x9 r e - Trunk.mean (res x0 x1 x2 x3 x4 x5 x6 x7 x8 x9 r) := by
  rw [val_main_v41_apply, resid_apply, val_main_v40_apply, ← mean_apply]
  exact congrArg (fun i => _ - val_main_v39 (F := Ideal) x0 x1 x2 x3 x4 x5 x6 x7 x8 x9 i) (eq_ix2 _ _ _ rfl rfl)

theorem var_apply : val_main_v46 (F := Ideal) x0 x1 x2 x3 x4 x5 x6 x7 x8 x9 (ix2 r 0) = Trunk.var (res x0 x1 x2 x3 x4 x5 x6 x7 x8 x9 r) := by
  have hs : val_main_v44 (F := Ideal) x0 x1 x2 x3 x4 x5 x6 x7 x8 x9 (ix2 r 0)
      = ∑ k, (res x0 x1 x2 x3 x4 x5 x6 x7 x8 x9 r k - Trunk.mean (res x0 x1 x2 x3 x4 x5 x6 x7 x8 x9 r))
          * (res x0 x1 x2 x3 x4 x5 x6 x7 x8 x9 r k - Trunk.mean (res x0 x1 x2 x3 x4 x5 x6 x7 x8 x9 r)) := by
    rw [val_main_v44_apply, val_main_v43_apply, val_main_cst_4_apply]
    show Ideal.ofBits .f32 0x00000000#32 + _ = _
    rw [Ideal.ofBits_zero_f32, zero_add]
    refine Finset.sum_congr rfl fun k _ => ?_
    rw [← dev_apply]
    refine (val_main_v42_apply _ _ _ _ _ _ _ _ _ _ _).trans ?_
    exact congrArg (fun i => val_main_v41 (F := Ideal) x0 x1 x2 x3 x4 x5 x6 x7 x8 x9 i * val_main_v41 (F := Ideal) x0 x1 x2 x3 x4 x5 x6 x7 x8 x9 i)
      (eq_ix2 _ _ _ rfl rfl)
  rw [val_main_v46_apply, val_main_v45_apply, val_main_cst_5_apply, hs]
  rfl

theorem lane_apply (e : Fin 1024) : val_main_v53 (F := Ideal) x10 (ix2 r e) = x10 (ix2 0 e) := by
  rw [val_main_v53_apply, val_main_v52_apply, val_main_v34_apply]
  exact congrArg x10 (eq_ix2 _ _ _ rfl (Fin.ext (by show e.val % 1024 = e.val; have := e.isLt; omega)))

theorem lane_apply' (e : Fin 1024) : val_main_v56 (F := Ideal) x11 (ix2 r e) = x11 (ix2 0 e) := by
  rw [val_main_v56_apply, val_main_v55_apply, val_main_v35_apply]
  exact congrArg x11 (eq_ix2 _ _ _ rfl (Fin.ext (by show e.val % 1024 = e.val; have := e.isLt; omega)))

theorem scale_apply (e : Fin 1024) : val_main_v50 (F := Ideal) x0 x1 x2 x3 x4 x5 x6 x7 x8 x9 (ix2 r e)
    = Ideal.rsqrt (Trunk.var (res x0 x1 x2 x3 x4 x5 x6 x7 x8 x9 r) + Trunk.eps) := by
  have h : val_main_v49 (F := Ideal) x0 x1 x2 x3 x4 x5 x6 x7 x8 x9 (ix2 r 0) = Ideal.rsqrt (Trunk.var (res x0 x1 x2 x3 x4 x5 x6 x7 x8 x9 r) + Trunk.eps) := by
    rw [val_main_v49_apply, val_main_v48_apply, val_main_v47_apply, val_main_cst_6_apply, var_apply]
    rfl
  rw [val_main_v50_apply, ← h]
  exact congrArg _ (eq_ix2 _ _ _ rfl rfl)

/-- **The reference's result** is the merge of the rows. -/
theorem result (y : S16512x1024.Idx) : val_main_v57 (F := Ideal) x0 x1 x2 x3 x4 x5 x6 x7 x8 x9 x10 x11 y
    = Trunk.merge (row x0 (y 0)) (row2 x1 (y 0)) (row x2 (y 0)) (row x3 (y 0)) (wide x4) (bias x5) (tall x6) (square x7) (square x8) (square x9)
        (fun k => x10 (ix2 0 k)) (fun k => x11 (ix2 0 k)) (y 1) := by
  obtain ⟨r, e, rfl⟩ : ∃ (r : Fin 16512) (e : Fin 1024), y = ix2 r e := ⟨y 0, y 1, eq_ix2 _ _ _ rfl rfl⟩
  rw [val_main_v57_apply, val_main_v54_apply, val_main_v51_apply, dev_apply, scale_apply, lane_apply, lane_apply']
  rfl

end MergeRef

end
-- ==== Proof.MergeClaim.lean ====
/- The merge's claims: the two runs have equal results. -/
module

public import proofs.«01_k».proof.Defs
public import proofs.«01_k».proof.Proof.MergeArray
public import proofs.«01_k».proof.Proof.MergeRef
public import proofs.«01_k».proof.Proof.Gen.MergeReferenceIdeal.Run
public import proofs.«01_k».proof.Proof.Gen.Merge.Frame
public import Idealize.ShloMosaic.Lib.Quiescent
public import Idealize.ShloMosaic.Adequacy

@[expose] public section

set_option maxRecDepth 16384

noncomputable section

namespace MergeClaim

open Idealize.ShloMosaic Idealize.ShloMosaic.TcCoe Idealize.SL.Sem

theorem frame_kernel : Cert.quiescent_Merge := fun m ρ _ => Cert.Merge.Gen.frame m ρ
theorem frame_ideal : Cert.quiescent_MergeIdeal := fun m ρ _ => Cert.MergeIdeal.Gen.frame m ρ
theorem frame_reference : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

theorem algebraic : Cert.algebraic_MergeIdeal_MergeReferenceIdeal := fun m ρ m' ρ' _ hag =>
  ⟨fun c => MergeRun.GA m c,
    (θ_run Cert.MergeIdeal.defs _ _).mono (fun r h c => ⟨(h c).1.trans (MergeRun.final m c), (h c).2⟩) (Cert.MergeIdeal.Value.run_blocks m ρ),
    (θ_run Cert.MergeReferenceIdeal.defs _ _).mono (fun r h c => ⟨(h c).1.trans (by
        rw [Cert.MergeReferenceIdeal.Read.val_main_v57_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]
        exact funext fun y => MergeRef.result _ _ _ _ _ _ _ _ _ _ _ _ y), (h c).2⟩)
      (Cert.MergeReferenceIdeal.Value.run (F := Ideal) m' ρ')⟩

end MergeClaim

end
-- ==== Proof.ProjSsdSpec.lean ====
/- The row functions of the SSD mixer's projections: two plain products and the softplus of the third. -/
module

public import proofs.«01_k».proof.Proof.MergeSpec

@[expose] public section

noncomputable section

namespace Trunk

open Idealize.ShloMosaic

/-- `log (1 + exp y)`, spelt with its argument's absolute value. -/
def softplus (y : EReal) : EReal := max y 0 + Ideal.log1p (Ideal.exp (-(max y (-y))))

end Trunk

end
-- ==== Proof.ProjSsdPay.lean ====
/- The SSD projection kernel's stored values at a row and lane, and its three output buffers. -/
module

public import proofs.«01_k».proof.Proof.ProjSsdSpec
public import proofs.«01_k».proof.Proof.Gen.ProjSsdIdeal.Frame
public import Idealize.ShloMosaic.Lib.Pipeline.ValueKit
public import Idealize.ShloMosaic.Lib.IdealHost

@[expose] public section

set_option maxRecDepth 65536

noncomputable section

namespace ProjSsdRun

open Idealize.ShloMosaic Cert.ProjSsdIdeal Cert.ProjSsdIdeal.Gen
open Trunk (eq_ix2)

/-- A block of 512 columns' product. -/
theorem product_apply (v : Vec Ideal S688x1024 .f32) (w : Vec Ideal S1024x512 .bf16) (r : Fin 688) (e : Fin 512) :
    k0_pay2 (F := Ideal) v w (ix2 r e) = Trunk.dot (fun k => v (ix2 r k)) fun k => w (ix2 k e) := by
  unfold k0_pay2 k0_pay1
  pointwise
  unfold Trunk.dot
  with_reducible rfl

/-- The step sizes. -/
theorem step_apply (v : Vec Ideal S688x1024 .f32) (w : Vec Ideal S1024x512 .bf16) (b : Vec Ideal S1x512 .f32) (r : Fin 688) (e : Fin 512) :
    k0_pay12 (F := Ideal) (k0_pay1 v) w b (ix2 r e) = Trunk.softplus (Trunk.dot (fun k => v (ix2 r k)) (fun k => w (ix2 k e)) + b (ix2 0 e)) := by
  unfold k0_pay12 k0_pay1
  pointwise
  unfold Trunk.softplus Trunk.dot
  generalize (∑ k, v (ix2 r k) * w (ix2 k e)) + b (ix2 0 e) = y
  rw [zero_sub]
  rfl

/-- The whole product of a block's row with a weight. -/
def whole {n : ℕ} (x : Vec Ideal S688x1024 .f32) (w : (⟨2, ![1024, n]⟩ : Shape).Idx → EReal) (y : (⟨2, ![688, n]⟩ : Shape).Idx) : EReal :=
  Trunk.dot (fun k => x (ix2 (y 0) k)) fun k => w (ix2 k (y 1))

/-- A stored block of 512 columns from column `o` is the whole product there. -/
theorem piece_z (x : Vec Ideal S688x1024 .f32) (w : Vec Ideal S1024x2048 .bf16) (o : ℕ)
    (hw : ∀ a, (![0, o] : Fin 2 → ℕ) a + S1024x512.size a ≤ S1024x2048.size a) (ho : ∀ a, (![0, o] : Fin 2 → ℕ) a + S688x512.size a ≤ S688x2048.size a)
    (i : S688x512.Idx) :
    k0_pay2 (F := Ideal) x (View.ld w (Rect.unit (s := S1024x2048) ![0, o] S1024x512.size hw)) i
      = whole x w ((Rect.unit (s := S688x2048) ![0, o] S688x512.size ho).emb i) := by
  obtain ⟨r, e, rfl⟩ : ∃ (r : Fin 688) (e : Fin 512), i = ix2 r e := ⟨i 0, i 1, eq_ix2 _ _ _ rfl rfl⟩
  rw [product_apply]
  unfold whole
  refine congrArg₂ Trunk.dot (funext fun k => congrArg x (eq_ix2 _ _ _ (Fin.ext (by show r.val = 0 + 1 * r.val; omega)) rfl)) (funext fun k => ?_)
  exact congrArg w (eq_ix2 _ _ _ (Fin.ext (by show 0 + 1 * k.val = k.val; omega)) rfl)

theorem piece_xbc (x : Vec Ideal S688x1024 .f32) (w : Vec Ideal S1024x3072 .bf16) (o : ℕ)
    (hw : ∀ a, (![0, o] : Fin 2 → ℕ) a + S1024x512.size a ≤ S1024x3072.size a) (ho : ∀ a, (![0, o] : Fin 2 → ℕ) a + S688x512.size a ≤ S688x3072.size a)
    (i : S688x512.Idx) :
    k0_pay2 (F := Ideal) x (View.ld w (Rect.unit (s := S1024x3072) ![0, o] S1024x512.size hw)) i
      = whole x w ((Rect.unit (s := S688x3072) ![0, o] S688x512.size ho).emb i) := by
  obtain ⟨r, e, rfl⟩ : ∃ (r : Fin 688) (e : Fin 512), i = ix2 r e := ⟨i 0, i 1, eq_ix2 _ _ _ rfl rfl⟩
  rw [product_apply]
  unfold whole
  refine congrArg₂ Trunk.dot (funext fun k => congrArg x (eq_ix2 _ _ _ (Fin.ext (by show r.val = 0 + 1 * r.val; omega)) rfl)) (funext fun k => ?_)
  exact congrArg w (eq_ix2 _ _ _ (Fin.ext (by show 0 + 1 * k.val = k.val; omega)) rfl)

variable (x0 : Vec Ideal S688x1024 .f32) (x1 : Vec Ideal S1024x2048 .bf16) (x2 : Vec Ideal S1024x3072 .bf16) (x3 : Vec Ideal S1024x512 .bf16)
  (x4 : Vec Ideal S1x512 .f32)

/-- The first output buffer: four pieces. -/
theorem out_z (y : S688x2048.Idx) : out0_5 (F := Ideal) x0 x1 x2 x3 x4 y = whole x0 x1 y := by
  unfold out0_5
  rw [View.ld_unit_lit' _ x0 (by decide)]
  refine View.canon_apply_of_pieces (Val := Elt Ideal) (whole x0 x1) _ ?_ y (cover0_5 _ _ _ _ y)
  simp only [List.forall_mem_cons, List.not_mem_nil, false_implies, implies_true, and_true]
  exact ⟨piece_z x0 x1 _ _ _, piece_z x0 x1 _ _ _, piece_z x0 x1 _ _ _, piece_z x0 x1 _ _ _⟩

/-- The second: six. -/
theorem out_xbc (y : S688x3072.Idx) : out0_6 (F := Ideal) x0 x1 x2 x3 x4 y = whole x0 x2 y := by
  unfold out0_6 k0_pay13
  rw [View.ld_unit_lit' _ x0 (by decide)]
  refine View.canon_apply_of_pieces (Val := Elt Ideal) (whole x0 x2) _ ?_ y (cover0_6 _ _ _ _ _ _ y)
  simp only [List.forall_mem_cons, List.not_mem_nil, false_implies, implies_true, and_true]
  exact ⟨piece_xbc x0 x2 _ _ _, piece_xbc x0 x2 _ _ _, piece_xbc x0 x2 _ _ _, piece_xbc x0 x2 _ _ _, piece_xbc x0 x2 _ _ _, piece_xbc x0 x2 _ _ _⟩

/-- The third: one. -/
theorem out_dt (y : S688x512.Idx) : out0_7 (F := Ideal) x0 x1 x2 x3 x4 y = Trunk.softplus (whole x0 x3 y + x4 (ix2 0 (y 1))) := by
  unfold out0_7 k0_pay13
  rw [View.canon_cons_unit_lit' _ _ _ (by decide), View.ld_unit_lit' _ x0 (by decide), View.ld_unit_lit' _ x3 (by decide), View.ld_unit_lit' _ x4 (by decide)]
  obtain ⟨r, e, rfl⟩ : ∃ (r : Fin 688) (e : Fin 512), y = ix2 r e := ⟨y 0, y 1, eq_ix2 _ _ _ rfl rfl⟩
  exact step_apply _ _ _ _ _

end ProjSsdRun

end
-- ==== Proof.ProjSsdArray.lean ====
/- The SSD projection kernel's three result arrays: every launch point writes its rows of each. -/
module

public import proofs.«01_k».proof.Proof.ProjSsdPay
public import proofs.«01_k».proof.Proof.Gen.ProjSsdIdeal.Value

@[expose] public section

set_option maxRecDepth 65536

noncomputable section

namespace ProjSsdRun

open Idealize.ShloMosaic Cert.ProjSsdIdeal Cert.ProjSsdIdeal.Gen Idealize.ShloMosaic.TcCoe Idealize.SL.Sem
open Idealize.ShloMosaic.Pipeline (Dat)
open Trunk (eq_ix2)

/-- All rows times a weight. -/
def rows {n : ℕ} (x : S16512x1024.Idx → EReal) (w : (⟨2, ![1024, n]⟩ : Shape).Idx → EReal) (y : (⟨2, ![16512, n]⟩ : Shape).Idx) : EReal :=
  Trunk.dot (fun k => x (ix2 (y 0) k)) fun k => w (ix2 k (y 1))

variable (m : (ℓ : Loc nD τ sig) → Buf (Elt Ideal) ℓ)

theorem row_facts : ∀ t : Fin grid0.N, (win0_0.index t 0 = t.val ∧ win0_0.index t 1 = 0)
    ∧ ((win0_5.index t 0 = t.val ∧ win0_5.index t 1 = 0) ∧ win0_5.xsize (grid0.coords t) 0 = 688 ∧ win0_5.xsize (grid0.coords t) 1 = 2048)
    ∧ ((win0_6.index t 0 = t.val ∧ win0_6.index t 1 = 0) ∧ win0_6.xsize (grid0.coords t) 0 = 688 ∧ win0_6.xsize (grid0.coords t) 1 = 3072)
    ∧ ((win0_7.index t 0 = t.val ∧ win0_7.index t 1 = 0) ∧ win0_7.xsize (grid0.coords t) 0 = 688 ∧ win0_7.xsize (grid0.coords t) 1 = 512) := by
  decide +kernel

theorem whole_facts : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) := by
  decide +kernel

theorem blk_lt (t : Fin cfg0.N) : t.val < 24 := by have := t.isLt; have hN : cfg0.N = 24 := N_0; omega

/-- The array row under a block's row. -/
abbrev under (t : Fin cfg0.N) (r : Fin 688) : Fin 16512 := ⟨t.val * 688 + r.val, by have h := blk_lt t; have := r.isLt; omega⟩

/-- A block row's array row, and a whole window's coordinate, from the window's block index. -/
theorem at_row {i n : ℕ} (t : Fin cfg0.N) (r : Fin 688) (hi : i = t.val) (h : i * 688 + 1 * r.val < n) (hn : n = 16512) :
    (⟨i * 688 + 1 * r.val, h⟩ : Fin n) = (under t r).cast hn.symm := Fin.ext (by show i * 688 + 1 * r.val = t.val * 688 + r.val; rw [hi, Nat.one_mul])
theorem at_whole {i n : ℕ} (k : Fin n) (hi : i = 0) (h : i * n + 1 * k.val < n) : (⟨i * n + 1 * k.val, h⟩ : Fin n) = k :=
  Fin.ext (by show i * n + 1 * k.val = k.val; rw [hi, Nat.zero_mul, Nat.zero_add, Nat.one_mul])

theorem iblk0_apply (c : Dev nD) (t : Fin cfg0.N) (r : Fin 688) (k : Fin 1024) :
    iblk m c 0 t (ix2 r k : S688x1024.Idx) = m ((c : Thread nD τ).loc main_arg0) (ix2 (under t r) k : S16512x1024.Idx) :=
  congrArg (m ((c : Thread nD τ).loc main_arg0)) (eq_ix2 _ _ _ (at_row t r (row_facts t).1.1 _ rfl) (at_whole k (row_facts t).1.2 _))
theorem iblk1_apply (c : Dev nD) (t : Fin cfg0.N) (k : Fin 1024) (f : Fin 2048) :
    iblk m c 1 t (ix2 k f : S1024x2048.Idx) = m ((c : Thread nD τ).loc main_arg1) (ix2 k f : S1024x2048.Idx) :=
  congrArg (m ((c : Thread nD τ).loc main_arg1)) (eq_ix2 _ _ _ (at_whole k (whole_facts t).1.1 _) (at_whole f (whole_facts t).1.2 _))
theorem iblk2_apply (c : Dev nD) (t : Fin cfg0.N) (k : Fin 1024) (f : Fin 3072) :
    iblk m c 2 t (ix2 k f : S1024x3072.Idx) = m ((c : Thread nD τ).loc main_arg2) (ix2 k f : S1024x3072.Idx) :=
  congrArg (m ((c : Thread nD τ).loc main_arg2)) (eq_ix2 _ _ _ (at_whole k (whole_facts t).2.1.1 _) (at_whole f (whole_facts t).2.1.2 _))
theorem iblk3_apply (c : Dev nD) (t : Fin cfg0.N) (k : Fin 1024) (f : Fin 512) :
    iblk m c 3 t (ix2 k f : S1024x512.Idx) = m ((c : Thread nD τ).loc main_arg3) (ix2 k f : S1024x512.Idx) :=
  congrArg (m ((c : Thread nD τ).loc main_arg3)) (eq_ix2 _ _ _ (at_whole k (whole_facts t).2.2.1.1 _) (at_whole f (whole_facts t).2.2.1.2 _))
theorem iblk4_apply (c : Dev nD) (t : Fin cfg0.N) (k : Fin 1) (f : Fin 512) :
    iblk m c 4 t (ix2 k f : S1x512.Idx) = m ((c : Thread nD τ).loc main_arg4) (ix2 k f : S1x512.Idx) :=
  congrArg (m ((c : Thread nD τ).loc main_arg4)) (eq_ix2 _ _ _ (at_whole k (whole_facts t).2.2.2.1 _) (at_whole f (whole_facts t).2.2.2.2 _))

/-- The three result arrays. -/
abbrev GZ (c : Dev nD) : Buf (Elt Ideal) ((c : Thread nD τ).loc main_v0_0) := fun y =>
  rows (m ((c : Thread nD τ).loc main_arg0)) (m ((c : Thread nD τ).loc main_arg1)) y
abbrev GX (c : Dev nD) : Buf (Elt Ideal) ((c : Thread nD τ).loc main_v0_1) := fun y =>
  rows (m ((c : Thread nD τ).loc main_arg0)) (m ((c : Thread nD τ).loc main_arg2)) y
abbrev GD (c : Dev nD) : Buf (Elt Ideal) ((c : Thread nD τ).loc main_v0_2) := fun y =>
  Trunk.softplus ((rows (m ((c : Thread nD τ).loc main_arg0)) (m ((c : Thread nD τ).loc main_arg3)) y : EReal) + m ((c : Thread nD τ).loc main_arg4) (ix2 0 (y 1) : S1x512.Idx))

theorem mem_z (t : Fin cfg0.N) (i : S16512x2048.Idx) (h0 : (i 0).val / 688 = t.val) : i ∈ ((cfg0.win 5).blk t).view.set := by
  show i ∈ ((View.whole main_v0_0).slice (win0_5.rect t)).set
  rw [View.set_slice_whole, Rect.mem_set_unit]
  have e := (row_facts t).2.1
  have h1 : (i 1).val < 2048 := (i 1).isLt
  intro a
  match a with
  | ⟨0, _⟩ =>
    show win0_5.index t 0 * 688 ≤ (i 0 : ℕ) ∧ (i 0 : ℕ) < win0_5.index t 0 * 688 + win0_5.xsize (grid0.coords t) 0
    rw [e.1.1, e.2.1]; omega
  | ⟨1, _⟩ =>
    show win0_5.index t 1 * 2048 ≤ (i 1 : ℕ) ∧ (i 1 : ℕ) < win0_5.index t 1 * 2048 + win0_5.xsize (grid0.coords t) 1
    rw [e.1.2, e.2.2]; omega

theorem mem_xbc (t : Fin cfg0.N) (i : S16512x3072.Idx) (h0 : (i 0).val / 688 = t.val) : i ∈ ((cfg0.win 6).blk t).view.set := by
  show i ∈ ((View.whole main_v0_1).slice (win0_6.rect t)).set
  rw [View.set_slice_whole, Rect.mem_set_unit]
  have e := (row_facts t).2.2.1
  have h1 : (i 1).val < 3072 := (i 1).isLt
  intro a
  match a with
  | ⟨0, _⟩ =>
    show win0_6.index t 0 * 688 ≤ (i 0 : ℕ) ∧ (i 0 : ℕ) < win0_6.index t 0 * 688 + win0_6.xsize (grid0.coords t) 0
    rw [e.1.1, e.2.1]; omega
  | ⟨1, _⟩ =>
    show win0_6.index t 1 * 3072 ≤ (i 1 : ℕ) ∧ (i 1 : ℕ) < win0_6.index t 1 * 3072 + win0_6.xsize (grid0.coords t) 1
    rw [e.1.2, e.2.2]; omega

theorem mem_dt (t : Fin cfg0.N) (i : S16512x512.Idx) (h0 : (i 0).val / 688 = t.val) : i ∈ ((cfg0.win 7).blk t).view.set := by
  show i ∈ ((View.whole main_v0_2).slice (win0_7.rect t)).set
  rw [View.set_slice_whole, Rect.mem_set_unit]
  have e := (row_facts t).2.2.2
  have h1 : (i 1).val < 512 := (i 1).isLt
  intro a
  match a with
  | ⟨0, _⟩ =>
    show win0_7.index t 0 * 688 ≤ (i 0 : ℕ) ∧ (i 0 : ℕ) < win0_7.index t 0 * 688 + win0_7.xsize (grid0.coords t) 0
    rw [e.1.1, e.2.1]; omega
  | ⟨1, _⟩ =>
    show win0_7.index t 1 * 512 ≤ (i 1 : ℕ) ∧ (i 1 : ℕ) < win0_7.index t 1 * 512 + win0_7.xsize (grid0.coords t) 1
    rw [e.1.2, e.2.2]; omega

/-- What a point writes back to each array is its block of it. -/
theorem flushed_z (c : Dev nD) (t : Fin cfg0.N) : (dats m 0 c).flushed 5 t = ((cfg0.win 5).blk t).view.read (Elt Ideal) (GZ m c) := by
  rw [Value.flushed5]
  have key : ∀ (r : Fin 688) (e : Fin 2048), out0_5 (F := Ideal) (iblk m c 0 t) (iblk m c 1 t) (iblk m c 2 t) (iblk m c 3 t) (iblk m c 4 t) (ix2 r e)
      = GZ m c (ix2 (under t r) e) := fun r e => by
    rw [out_z]
    exact congrArg₂ Trunk.dot (funext fun k => iblk0_apply m c t r k) (funext fun k => iblk1_apply m c t k e)
  funext y
  obtain ⟨r, e, rfl⟩ : ∃ (r : Fin 688) (e : Fin 2048), y = ix2 r e := ⟨y 0, y 1, eq_ix2 _ _ _ rfl rfl⟩
  exact (key r e).trans (congrArg (GZ m c) (eq_ix2 _ _ _ (at_row t r (row_facts t).2.1.1.1 _ rfl) (at_whole e (row_facts t).2.1.1.2 _)).symm)

theorem flushed_xbc (c : Dev nD) (t : Fin cfg0.N) : (dats m 0 c).flushed 6 t = ((cfg0.win 6).blk t).view.read (Elt Ideal) (GX m c) := by
  rw [Value.flushed6]
  have key : ∀ (r : Fin 688) (e : Fin 3072), out0_6 (F := Ideal) (iblk m c 0 t) (iblk m c 1 t) (iblk m c 2 t) (iblk m c 3 t) (iblk m c 4 t) (ix2 r e)
      = GX m c (ix2 (under t r) e) := fun r e => by
    rw [out_xbc]
    exact congrArg₂ Trunk.dot (funext fun k => iblk0_apply m c t r k) (funext fun k => iblk2_apply m c t k e)
  funext y
  obtain ⟨r, e, rfl⟩ : ∃ (r : Fin 688) (e : Fin 3072), y = ix2 r e := ⟨y 0, y 1, eq_ix2 _ _ _ rfl rfl⟩
  exact (key r e).trans (congrArg (GX m c) (eq_ix2 _ _ _ (at_row t r (row_facts t).2.2.1.1.1 _ rfl) (at_whole e (row_facts t).2.2.1.1.2 _)).symm)

theorem flushed_dt (c : Dev nD) (t : Fin cfg0.N) : (dats m 0 c).flushed 7 t = ((cfg0.win 7).blk t).view.read (Elt Ideal) (GD m c) := by
  rw [Value.flushed7]
  have key : ∀ (r : Fin 688) (e : Fin 512), out0_7 (F := Ideal) (iblk m c 0 t) (iblk m c 1 t) (iblk m c 2 t) (iblk m c 3 t) (iblk m c 4 t) (ix2 r e)
      = GD m c (ix2 (under t r) e) := fun r e => by
    rw [out_dt]
    exact congrArg Trunk.softplus (congrArg₂ (· + ·) (congrArg₂ Trunk.dot (funext fun k => iblk0_apply m c t r k) (funext fun k => iblk3_apply m c t k e))
      (iblk4_apply m c t 0 e))
  funext y
  obtain ⟨r, e, rfl⟩ : ∃ (r : Fin 688) (e : Fin 512), y = ix2 r e := ⟨y 0, y 1, eq_ix2 _ _ _ rfl rfl⟩
  exact (key r e).trans (congrArg (GD m c) (eq_ix2 _ _ _ (at_row t r (row_facts t).2.2.2.1.1 _ rfl) (at_whole e (row_facts t).2.2.2.1.2 _)).symm)

/-- The launch point whose block holds a row. -/
theorem point (i : Fin 16512) : i.val / 688 < cfg0.N := by have := i.isLt; have hN : cfg0.N = 24 := N_0; omega

/-- **The result arrays.** -/
theorem final_z (c : Dev nD) : (dats m 0 c).arrAt 5 cfg0.N = GZ m c :=
  (dats m 0 c).arrAt_eq_of_cover 5 (GZ m c) (fun t _ => flushed_z m c t) fun i => ⟨⟨(i 0).val / 688, point (i 0)⟩, flush0_5 _, mem_z _ i rfl⟩
theorem final_xbc (c : Dev nD) : (dats m 0 c).arrAt 6 cfg0.N = GX m c :=
  (dats m 0 c).arrAt_eq_of_cover 6 (GX m c) (fun t _ => flushed_xbc m c t) fun i => ⟨⟨(i 0).val / 688, point (i 0)⟩, flush0_6 _, mem_xbc _ i rfl⟩
theorem final_dt (c : Dev nD) : (dats m 0 c).arrAt 7 cfg0.N = GD m c :=
  (dats m 0 c).arrAt_eq_of_cover 7 (GD m c) (fun t _ => flushed_dt m c t) fun i => ⟨⟨(i 0).val / 688, point (i 0)⟩, flush0_7 _, mem_dt _ i rfl⟩

end ProjSsdRun
end
-- ==== Proof.ProjSsdRef.lean ====
/- The reference projections of the SSD mixer at a row and lane. -/
module

public import proofs.«01_k».proof.Proof.ProjSsdSpec
public import proofs.«01_k».proof.Proof.Gen.ProjSsdReferenceIdeal.Read
public import Idealize.ShloMosaic.Lib.IdealHost

@[expose] public section

set_option maxRecDepth 16384

noncomputable section

namespace ProjSsdRef

open Idealize.ShloMosaic Cert.ProjSsdReferenceIdeal Cert.ProjSsdReferenceIdeal.Gen Cert.ProjSsdReferenceIdeal.Read
open Trunk (eq_ix2)

variable (x0 : S16512x1024.Idx → EReal) (x1 : S1024x2048.Idx → EReal) (x2 : S1024x3072.Idx → EReal) (x3 : S1024x512.Idx → EReal) (x4 : S1x512.Idx → EReal)

theorem z_apply (y : S16512x2048.Idx) : val_main_v1 (F := Ideal) x0 x1 y = Trunk.dot (fun k => x0 (ix2 (y 0) k)) fun k => x1 (ix2 k (y 1)) := by
  rw [val_main_v1_apply]
  unfold Trunk.dot
  refine Finset.sum_congr rfl fun k _ => ?_
  rw [val_main_v0_apply]
  exact congrArg₂ (fun a b => x0 a * x1 b) (eq_ix2 _ _ _ rfl rfl) (eq_ix2 _ _ _ rfl rfl)

theorem xbc_apply (y : S16512x3072.Idx) : val_main_v3 (F := Ideal) x0 x2 y = Trunk.dot (fun k => x0 (ix2 (y 0) k)) fun k => x2 (ix2 k (y 1)) := by
  rw [val_main_v3_apply]
  unfold Trunk.dot
  refine Finset.sum_congr rfl fun k _ => ?_
  rw [val_main_v2_apply]
  exact congrArg₂ (fun a b => x0 a * x2 b) (eq_ix2 _ _ _ rfl rfl) (eq_ix2 _ _ _ rfl rfl)

/-- The reference's softplus guards against a number differing from itself, which no extended real does. -/
theorem guarded (y : EReal) : Scalar.select (FloatOps.cmpf (F := Ideal) (φ := .f32) .une (y - 0) (y - 0)) (y + 0)
    (max y 0 + Ideal.log1p (Ideal.exp (-(max (y - 0) (-(y - 0)))))) = Trunk.softplus y := by
  unfold Trunk.softplus
  rw [sub_zero]
  have h : FloatOps.cmpf (F := Ideal) (φ := .f32) .une y y = 0#1 := by
    show Ideal.cmp .une y y = 0#1
    unfold Ideal.cmp
    simp
  rw [h]
  rfl

theorem dt_lane (r : Fin 16512) (e : Fin 512) : val_main_v10 (F := Ideal) x0 x3 x4 (ix2 r e)
    = Trunk.softplus (Trunk.dot (fun k => x0 (ix2 r k)) (fun k => x3 (ix2 k e)) + x4 (ix2 0 e)) := by
  have hd : val_main_v5 (F := Ideal) x0 x3 (ix2 r e) = Trunk.dot (fun k => x0 (ix2 r k)) fun k => x3 (ix2 k e) := by
    rw [val_main_v5_apply]
    unfold Trunk.dot
    refine Finset.sum_congr rfl fun k _ => ?_
    rw [val_main_v4_apply]
    exact congrArg₂ (fun a b => x0 a * x3 b) (eq_ix2 _ _ _ rfl rfl) (eq_ix2 _ _ _ rfl rfl)
  have hb : val_main_v8 (F := Ideal) x4 (ix2 r e) = x4 (ix2 0 e) := by
    rw [val_main_v8_apply, val_main_v7_apply, val_main_v6_apply]
    exact congrArg x4 (eq_ix2 _ _ _ rfl (Fin.ext (by show e.val % 512 = e.val; have := e.isLt; omega)))
  have h9 : val_main_v9 (F := Ideal) x0 x3 x4 (ix2 r e) = Trunk.dot (fun k => x0 (ix2 r k)) (fun k => x3 (ix2 k e)) + x4 (ix2 0 e) := by
    rw [val_main_v9_apply, hd, hb]
    rfl
  rw [← guarded, val_main_v10_apply, val_main_call0_v4_apply, val_main_call0_v6_apply, val_main_call0_v11_apply, val_main_call0_v10_apply,
    val_main_call0_v9_apply, val_main_call0_v8_apply, val_main_call0_v7_apply, val_main_call0_v1_apply, val_main_call0_v3_apply, val_main_call0_v5_apply,
    val_main_call0_v2_apply, val_main_call0_v0_apply, h9]
  generalize Trunk.dot _ _ + x4 (ix2 0 e) = g
  show Scalar.select (FloatOps.cmpf (F := Ideal) (φ := .f32) .une (g - Ideal.ofBits .f32 0x00000000#32) (g - Ideal.ofBits .f32 0x00000000#32))
    (g + Ideal.ofBits .f32 0x00000000#32) (max g (Ideal.ofBits .f32 0x00000000#32)
      + Ideal.log1p (Ideal.exp (-(max (g - Ideal.ofBits .f32 0x00000000#32) (-(g - Ideal.ofBits .f32 0x00000000#32)))))) = _
  rw [Ideal.ofBits_zero_f32]

theorem dt_apply (y : S16512x512.Idx) : val_main_v10 (F := Ideal) x0 x3 x4 y
    = Trunk.softplus (Trunk.dot (fun k => x0 (ix2 (y 0) k)) (fun k => x3 (ix2 k (y 1))) + x4 (ix2 0 (y 1))) := by
  obtain ⟨r, e, rfl⟩ : ∃ (r : Fin 16512) (e : Fin 512), y = ix2 r e := ⟨y 0, y 1, eq_ix2 _ _ _ rfl rfl⟩
  exact dt_lane x0 x3 x4 r e

end ProjSsdRef

end
-- ==== Proof.ProjSsdClaim.lean ====
/- The SSD projections's claims: the two runs have equal results. -/
module

public import proofs.«01_k».proof.Defs
public import proofs.«01_k».proof.Proof.ProjSsdArray
public import proofs.«01_k».proof.Proof.ProjSsdRef
public import proofs.«01_k».proof.Proof.Gen.ProjSsdReferenceIdeal.Run
public import proofs.«01_k».proof.Proof.Gen.ProjSsd.Frame
public import Idealize.ShloMosaic.Lib.Quiescent
public import Idealize.ShloMosaic.Adequacy

@[expose] public section

set_option maxRecDepth 16384

noncomputable section

namespace ProjSsdClaim

open Idealize.ShloMosaic Idealize.ShloMosaic.TcCoe Idealize.SL.Sem

theorem frame_kernel : Cert.quiescent_ProjSsd := fun m ρ _ => Cert.ProjSsd.Gen.frame m ρ
theorem frame_ideal : Cert.quiescent_ProjSsdIdeal := fun m ρ _ => Cert.ProjSsdIdeal.Gen.frame m ρ
theorem frame_reference : Cert.quiescent_ProjSsdReferenceIdeal := fun m ρ _ =>
  (θ_run Cert.ProjSsdReferenceIdeal.defs _ _).mono (fun r h => ⟨fun c => (h c).2.2.2, Idealize.ShloMosaic.sem_eq_zero_of_no_sems (by decide) r.2⟩)
    (Cert.ProjSsdReferenceIdeal.Value.run (F := Ideal) m ρ)

theorem algebraic : Cert.algebraic_ProjSsdIdeal_ProjSsdReferenceIdeal := fun m ρ m' ρ' _ hag =>
  ⟨fun c => ProjSsdRun.GZ m c, fun c => ProjSsdRun.GX m c, fun c => ProjSsdRun.GD m c,
    (θ_run Cert.ProjSsdIdeal.defs _ _).mono (fun r h c => ⟨(h c).1.trans (ProjSsdRun.final_z m c), (h c).2.1.trans (ProjSsdRun.final_xbc m c),
      (h c).2.2.1.trans (ProjSsdRun.final_dt m c), (h c).2.2.2⟩) (Cert.ProjSsdIdeal.Value.run_blocks m ρ),
    (θ_run Cert.ProjSsdReferenceIdeal.defs _ _).mono (fun r h c => ⟨(h c).1.trans (by
        rw [Cert.ProjSsdReferenceIdeal.Read.val_main_v1_eq, (hag c).1, (hag c).2.1]
        exact funext fun y => ProjSsdRef.z_apply _ _ y), (h c).2.1.trans (by
        rw [Cert.ProjSsdReferenceIdeal.Read.val_main_v3_eq, (hag c).1, (hag c).2.2.1]
        exact funext fun y => ProjSsdRef.xbc_apply _ _ y), (h c).2.2.1.trans (by
        rw [Cert.ProjSsdReferenceIdeal.Read.val_main_v10_eq, (hag c).1, (hag c).2.2.2.1, (hag c).2.2.2.2]
        exact funext fun y => ProjSsdRef.dt_apply _ _ _ y), (h c).2.2.2⟩)
      (Cert.ProjSsdReferenceIdeal.Value.run (F := Ideal) m' ρ')⟩

end ProjSsdClaim

end
-- ==== Proof.ProjMixSpec.lean ====
/- The row functions of the mixers' projections: the rotary angle and its rotation of a head's first lanes, and the gated product. -/
module

public import proofs.«01_k».proof.Proof.MergeSpec

@[expose] public section

noncomputable section

namespace Trunk

open Idealize.ShloMosaic

/-- The angle of lane pair `d` at position `p`: the position times `theta ^ (-d * 2 / 16)`, spelt as both programs compute it. -/
def angle (p d : ℕ) : EReal :=
  FloatOps.mulf (F := Ideal) (φ := .f32) (FloatOps.sitofp .f32 (BitVec.ofNat 32 p))
    (FloatOps.hostPowf (F := Ideal) (φ := .f32) (FloatOps.ofBits .f32 0x48F42400#32)
      (FloatOps.hostDivf (F := Ideal) (φ := .f32) (FloatOps.mulf (F := Ideal) (φ := .f32)
        (FloatOps.hostNegf (F := Ideal) (φ := .f32) (FloatOps.sitofp .f32 (BitVec.ofNat 32 d))) (FloatOps.ofBits .f32 0x40000000#32))
        (FloatOps.ofBits .f32 0x41800000#32)))

def cosAt (p d : ℕ) : EReal := FloatOps.hostUnary (F := Ideal) (φ := .f32) .cos (angle p d)
def sinAt (p d : ℕ) : EReal := FloatOps.hostUnary (F := Ideal) (φ := .f32) .sin (angle p d)

/-- The query's scale, one eighth. -/
abbrev eighth : EReal := Ideal.ofBits .f32 0x3E000000#32

/-- A row's rotation at position `p`, at lane `n`: in each head part of 64 lanes the first 8 lanes turn against the next 8. -/
def rope (p : ℕ) (x : ℕ → EReal) (n : ℕ) : EReal :=
  if n % 64 < 8 then x n * cosAt p (n % 64) - x (n + 8) * sinAt p (n % 64)
  else if n % 64 < 16 then x n * cosAt p (n % 64 - 8) + x (n - 8) * sinAt p (n % 64 - 8)
  else x n

/-- A lane of a group of 128 times a factor, plus the lanes 8 ahead and 8 behind in the group times theirs. -/
def turn (x : ℕ → EReal) (c u d : EReal) (n : ℕ) : EReal :=
  x n * c + x (n / 128 * 128 + (n % 128 + 8) % 128) * u + x (n / 128 * 128 + (n % 128 + 120) % 128) * d

/-- The factors, by lane: the cosine (one past lane 16), minus the sine for the lane ahead, the sine for the lane behind. -/
def cosTab (p n : ℕ) : EReal := if n % 64 < 8 then cosAt p (n % 64) else if n % 64 < 16 then cosAt p (n % 64 - 8) else 1
def upTab (p n : ℕ) : EReal := if n % 64 < 8 then -sinAt p (n % 64) else 0
def downTab (p n : ℕ) : EReal := if n % 64 < 8 then 0 else if n % 64 < 16 then sinAt p (n % 64 - 8) else 0

/-- With those factors the turn is the rotation. -/
theorem turn_eq_rope (p : ℕ) (x : ℕ → EReal) (n : ℕ) : turn x (cosTab p n) (upTab p n) (downTab p n) n = rope p x n := by
  unfold turn cosTab upTab downTab rope
  by_cases h : n % 64 < 8
  · rw [if_pos h, if_pos h, if_pos h, if_pos h, mul_zero, add_zero, mul_neg, ← sub_eq_add_neg]
    have e : n / 128 * 128 + (n % 128 + 8) % 128 = n + 8 := by omega
    rw [e]
  · rw [if_neg h, if_neg h, if_neg h, if_neg h, mul_zero, add_zero]
    by_cases h' : n % 64 < 16
    · rw [if_pos h', if_pos h', if_pos h']
      have e : n / 128 * 128 + (n % 128 + 120) % 128 = n - 8 := by omega
      rw [e]
    · rw [if_neg h', if_neg h', if_neg h', mul_one, mul_zero, add_zero]

/-- The factors repeat every 64 lanes. -/
theorem cosTab_mod (p n : ℕ) : cosTab p (n % 128) = cosTab p n := by
  have e : n % 128 % 64 = n % 64 := by omega
  unfold cosTab
  rw [e]
theorem upTab_mod (p n : ℕ) : upTab p (n % 128) = upTab p n := by
  have e : n % 128 % 64 = n % 64 := by omega
  unfold upTab
  rw [e]
theorem downTab_mod (p n : ℕ) : downTab p (n % 128) = downTab p n := by
  have e : n % 128 % 64 = n % 64 := by omega
  unfold downTab
  rw [e]

/-- A row of all rows times a weight. -/
def lanes (x : (⟨2, ![16512, 1024]⟩ : Shape).Idx → EReal) (w : (⟨2, ![1024, 1024]⟩ : Shape).Idx → EReal) (i : Fin 16512) (n : ℕ) : EReal :=
  dot (fun k => x (ix2 i k)) fun k => w (ix2 k ⟨n % 1024, Nat.mod_lt _ (by decide)⟩)

end Trunk

end
-- ==== Proof.ProjMixPay.lean ====
/- The mixers' projection kernel's stored values at a row and lane, and its four output buffers. -/
module

public import proofs.«01_k».proof.Proof.ProjMixSpec
public import proofs.«01_k».proof.Proof.Gen.ProjMixIdeal.Frame
public import Idealize.ShloMosaic.Lib.Pipeline.ValueKit
public import Idealize.ShloMosaic.Lib.IdealHost

@[expose] public section

set_option maxRecDepth 65536

noncomputable section

namespace ProjMixRun

open Idealize.ShloMosaic Cert.ProjMixIdeal Cert.ProjMixIdeal.Gen
open Trunk (eq_ix2)

/-- A block's row times a weight's column. -/
def whole (x : Vec Ideal S688x1024 .f32) (w : Vec Ideal S1024x1024 .bf16) (r : Fin 688) (n : ℕ) : EReal :=
  Trunk.dot (fun k => x (ix2 r k)) fun k => w (ix2 k ⟨n % 1024, Nat.mod_lt _ (by decide)⟩)

/-- A block of 256 columns' product. -/
theorem product_apply (v : Vec Ideal S688x1024 .f32) (w : Vec Ideal S1024x256 .bf16) (r : Fin 688) (e : Fin 256) :
    k0_pay29 (F := Ideal) (k0_pay5 v) w (ix2 r e) = Trunk.dot (fun k => v (ix2 r k)) fun k => w (ix2 k e) := by
  unfold k0_pay29 k0_pay5
  pointwise
  unfold Trunk.dot
  with_reducible rfl

/-- The product of a block of 256 columns from column `o` is the whole product there. -/
theorem product_at (x : Vec Ideal S688x1024 .f32) (w : Vec Ideal S1024x1024 .bf16) (o : ℕ)
    (hw : ∀ a, (![0, o] : Fin 2 → ℕ) a + S1024x256.size a ≤ S1024x1024.size a) (r : Fin 688) (e : Fin 256) :
    k0_pay29 (F := Ideal) (k0_pay5 x) (View.ld w (Rect.unit (s := S1024x1024) ![0, o] S1024x256.size hw)) (ix2 r e) = whole x w r (o + e.val) := by
  rw [product_apply]
  unfold whole
  refine congrArg₂ Trunk.dot rfl (funext fun k => congrArg w (eq_ix2 _ _ _ (Fin.ext (by show 0 + 1 * k.val = k.val; omega)) (Fin.ext ?_)))
  have h1 : o + 256 ≤ 1024 := hw 1
  have := e.isLt
  show o + 1 * e.val = (o + e.val) % 1024
  omega

/-- The gated product. -/
theorem gated_apply (v : Vec Ideal S688x1024 .f32) (w z : Vec Ideal S1024x256 .bf16) (r : Fin 688) (e : Fin 256) :
    k0_pay17 (F := Ideal) (k0_pay5 v) w z (ix2 r e)
      = k0_pay29 (F := Ideal) (k0_pay5 v) w (ix2 r e) * Ideal.logistic (k0_pay29 (F := Ideal) (k0_pay5 v) z (ix2 r e)) := rfl

/-- The turned first and second half of a product of 256 columns. -/
theorem low_apply (a : FVec Ideal S688x256 .f32) (c u d : FVec Ideal S688x128 .f32) (r : Fin 688) (e : Fin 128) :
    k0_pay32 (F := Ideal) c u d a (ix2 r e) = (a (ix2 r ⟨e.val, by have := e.isLt; omega⟩) : EReal) * c (ix2 r e)
      + a (ix2 r ⟨(e.val + 8) % 128, by omega⟩) * u (ix2 r e) + a (ix2 r ⟨(e.val + 120) % 128, by omega⟩) * d (ix2 r e) := by
  unfold k0_pay32
  pointwise
  have e1 : e.val + 128 - 120 = e.val + 8 := by omega
  have e2 : e.val + 128 - 8 = e.val + 120 := by omega
  simp only [e1, e2]

theorem high_apply (a : FVec Ideal S688x256 .f32) (c u d : FVec Ideal S688x128 .f32) (r : Fin 688) (e : Fin 128) :
    k0_pay34 (F := Ideal) c u d a (ix2 r e) = (a (ix2 r ⟨128 + e.val, by have := e.isLt; omega⟩) : EReal) * c (ix2 r e)
      + a (ix2 r ⟨128 + (e.val + 8) % 128, by omega⟩) * u (ix2 r e) + a (ix2 r ⟨128 + (e.val + 120) % 128, by omega⟩) * d (ix2 r e) := by
  unfold k0_pay34
  pointwise
  have e1 : e.val + 128 - 120 = e.val + 8 := by omega
  have e2 : e.val + 128 - 8 = e.val + 120 := by omega
  simp only [e1, e2]

theorem cos_self (x : Vec Ideal S688x128 .f32) : k0_pay6 (F := Ideal) x = x := by unfold k0_pay6; exact shapeCast_self _ _
theorem up_self (x : Vec Ideal S688x128 .f32) : k0_pay7 (F := Ideal) x = x := by unfold k0_pay7; exact shapeCast_self _ _
theorem down_self (x : Vec Ideal S688x128 .f32) : k0_pay8 (F := Ideal) x = x := by unfold k0_pay8; exact shapeCast_self _ _

/-- The whole product, turned within its groups of 128 lanes by the tables' factors. -/
def turned (x : Vec Ideal S688x1024 .f32) (c u d : Vec Ideal S688x128 .f32) (w : Vec Ideal S1024x1024 .bf16) (r : Fin 688) (n : ℕ) : EReal :=
  Trunk.turn (whole x w r) (c (ix2 r ⟨n % 128, Nat.mod_lt _ (by decide)⟩)) (u (ix2 r ⟨n % 128, Nat.mod_lt _ (by decide)⟩)) (d (ix2 r ⟨n % 128, Nat.mod_lt _ (by decide)⟩)) n

/-- A group's turn, given its three lanes. -/
theorem turned_at (x : Vec Ideal S688x1024 .f32) (c u d : Vec Ideal S688x128 .f32) (w : Vec Ideal S1024x1024 .bf16) (r r' : Fin 688) (o n : ℕ) (e : Fin 128)
    (hr : r' = r) (ho : o % 128 = 0) (hn : n = o + e.val) :
    whole x w r (o + e.val) * c (ix2 r e) + whole x w r (o + (e.val + 8) % 128) * u (ix2 r e) + whole x w r (o + (e.val + 120) % 128) * d (ix2 r e)
      = turned x c u d w r' n := by
  subst hr hn
  unfold turned Trunk.turn
  have h := e.isLt
  have e0 : (⟨(o + e.val) % 128, Nat.mod_lt _ (by decide)⟩ : Fin 128) = e := Fin.ext (by show (o + e.val) % 128 = e.val; omega)
  have e1 : (o + e.val) / 128 * 128 + ((o + e.val) % 128 + 8) % 128 = o + (e.val + 8) % 128 := by omega
  have e2 : (o + e.val) / 128 * 128 + ((o + e.val) % 128 + 120) % 128 = o + (e.val + 120) % 128 := by omega
  rw [e0, e1, e2]

section
variable (x : Vec Ideal S688x1024 .f32) (c u d : Vec Ideal S688x128 .f32) (w z : Vec Ideal S1024x1024 .bf16)

/-- The first half of a block of 256 columns from column `o`, and the second, are the whole product turned there. -/
theorem piece_low (o : ℕ) (hm : o % 128 = 0)
    (hw : ∀ a, (![0, o] : Fin 2 → ℕ) a + S1024x256.size a ≤ S1024x1024.size a) (ho : ∀ a, (![0, o] : Fin 2 → ℕ) a + S688x128.size a ≤ S688x1024.size a)
    (i : S688x128.Idx) :
    k0_pay32 (F := Ideal) (k0_pay6 c) (k0_pay7 u) (k0_pay8 d) (k0_pay29 (k0_pay5 x) (View.ld w (Rect.unit (s := S1024x1024) ![0, o] S1024x256.size hw))) i
      = turned x c u d w ((Rect.unit (s := S688x1024) ![0, o] S688x128.size ho).emb i 0) ((Rect.unit (s := S688x1024) ![0, o] S688x128.size ho).emb i 1).val := by
  obtain ⟨r, e, rfl⟩ : ∃ (r : Fin 688) (e : Fin 128), i = ix2 r e := ⟨i 0, i 1, eq_ix2 _ _ _ rfl rfl⟩
  rw [cos_self, up_self, down_self, low_apply, product_at, product_at, product_at]
  exact turned_at x c u d w r _ o _ e (Fin.ext (by show 0 + 1 * r.val = r.val; omega)) hm (by show o + 1 * e.val = o + e.val; omega)

theorem piece_high (o o' : ℕ) (hm : o % 128 = 0) (he : o' = o + 128)
    (hw : ∀ a, (![0, o] : Fin 2 → ℕ) a + S1024x256.size a ≤ S1024x1024.size a) (ho : ∀ a, (![0, o'] : Fin 2 → ℕ) a + S688x128.size a ≤ S688x1024.size a)
    (i : S688x128.Idx) :
    k0_pay34 (F := Ideal) (k0_pay6 c) (k0_pay7 u) (k0_pay8 d) (k0_pay29 (k0_pay5 x) (View.ld w (Rect.unit (s := S1024x1024) ![0, o] S1024x256.size hw))) i
      = turned x c u d w ((Rect.unit (s := S688x1024) ![0, o'] S688x128.size ho).emb i 0) ((Rect.unit (s := S688x1024) ![0, o'] S688x128.size ho).emb i 1).val := by
  obtain ⟨r, e, rfl⟩ : ∃ (r : Fin 688) (e : Fin 128), i = ix2 r e := ⟨i 0, i 1, eq_ix2 _ _ _ rfl rfl⟩
  rw [cos_self, up_self, down_self, high_apply, product_at, product_at, product_at]
  show whole x w r (o + (128 + e.val)) * _ + whole x w r (o + (128 + (e.val + 8) % 128)) * _ + whole x w r (o + (128 + (e.val + 120) % 128)) * _ = _
  rw [← Nat.add_assoc, ← Nat.add_assoc, ← Nat.add_assoc]
  exact turned_at x c u d w r _ (o + 128) _ e (Fin.ext (by show 0 + 1 * r.val = r.val; omega)) (by omega) (by show o' + 1 * e.val = o + 128 + e.val; omega)

/-- The query's pieces are these times one eighth. -/
theorem scaled_low (a : FVec Ideal S688x1024 .bf16) (b : Vec Ideal S1024x256 .bf16) (p q s : FVec Ideal S688x128 .f32) (i : S688x128.Idx) :
    k0_pay31 (F := Ideal) a p q s b i = k0_pay32 (F := Ideal) p q s (k0_pay29 a b) i * Trunk.eighth := rfl
theorem scaled_high (b : FVec Ideal S688x256 .f32) (p q s : FVec Ideal S688x128 .f32) (i : S688x128.Idx) :
    k0_pay33 (F := Ideal) p q s b i = k0_pay34 (F := Ideal) p q s b i * Trunk.eighth := rfl

theorem piece_low_q (o : ℕ) (hm : o % 128 = 0)
    (hw : ∀ a, (![0, o] : Fin 2 → ℕ) a + S1024x256.size a ≤ S1024x1024.size a) (ho : ∀ a, (![0, o] : Fin 2 → ℕ) a + S688x128.size a ≤ S688x1024.size a)
    (i : S688x128.Idx) :
    k0_pay31 (F := Ideal) (k0_pay5 x) (k0_pay6 c) (k0_pay7 u) (k0_pay8 d) (View.ld w (Rect.unit (s := S1024x1024) ![0, o] S1024x256.size hw)) i
      = turned x c u d w ((Rect.unit (s := S688x1024) ![0, o] S688x128.size ho).emb i 0) ((Rect.unit (s := S688x1024) ![0, o] S688x128.size ho).emb i 1).val
        * Trunk.eighth := (scaled_low _ _ _ _ _ i).trans (congrArg (· * Trunk.eighth) (piece_low x c u d w o hm hw ho i))

theorem piece_high_q (o o' : ℕ) (hm : o % 128 = 0) (he : o' = o + 128)
    (hw : ∀ a, (![0, o] : Fin 2 → ℕ) a + S1024x256.size a ≤ S1024x1024.size a) (ho : ∀ a, (![0, o'] : Fin 2 → ℕ) a + S688x128.size a ≤ S688x1024.size a)
    (i : S688x128.Idx) :
    k0_pay33 (F := Ideal) (k0_pay6 c) (k0_pay7 u) (k0_pay8 d) (k0_pay29 (k0_pay5 x) (View.ld w (Rect.unit (s := S1024x1024) ![0, o] S1024x256.size hw))) i
      = turned x c u d w ((Rect.unit (s := S688x1024) ![0, o'] S688x128.size ho).emb i 0) ((Rect.unit (s := S688x1024) ![0, o'] S688x128.size ho).emb i 1).val
        * Trunk.eighth := (scaled_high _ _ _ _ i).trans (congrArg (· * Trunk.eighth) (piece_high x c u d w o o' hm he hw ho i))

/-- A stored block of 256 columns is the whole product there, and a gated one the gated product. -/
theorem piece_v (o : ℕ)
    (hw : ∀ a, (![0, o] : Fin 2 → ℕ) a + S1024x256.size a ≤ S1024x1024.size a) (ho : ∀ a, (![0, o] : Fin 2 → ℕ) a + S688x256.size a ≤ S688x1024.size a)
    (i : S688x256.Idx) :
    k0_pay29 (F := Ideal) (k0_pay5 x) (View.ld w (Rect.unit (s := S1024x1024) ![0, o] S1024x256.size hw)) i
      = whole x w ((Rect.unit (s := S688x1024) ![0, o] S688x256.size ho).emb i 0) ((Rect.unit (s := S688x1024) ![0, o] S688x256.size ho).emb i 1).val := by
  obtain ⟨r, e, rfl⟩ : ∃ (r : Fin 688) (e : Fin 256), i = ix2 r e := ⟨i 0, i 1, eq_ix2 _ _ _ rfl rfl⟩
  rw [product_at]
  exact congrArg₂ (whole x w) (Fin.ext (by show r.val = 0 + 1 * r.val; omega)) (by show o + e.val = o + 1 * e.val; omega)

theorem piece_u (o : ℕ)
    (hw : ∀ a, (![0, o] : Fin 2 → ℕ) a + S1024x256.size a ≤ S1024x1024.size a) (ho : ∀ a, (![0, o] : Fin 2 → ℕ) a + S688x256.size a ≤ S688x1024.size a)
    (i : S688x256.Idx) :
    k0_pay17 (F := Ideal) (k0_pay5 x) (View.ld w (Rect.unit (s := S1024x1024) ![0, o] S1024x256.size hw)) (View.ld z (Rect.unit (s := S1024x1024) ![0, o] S1024x256.size hw)) i
      = whole x w ((Rect.unit (s := S688x1024) ![0, o] S688x256.size ho).emb i 0) ((Rect.unit (s := S688x1024) ![0, o] S688x256.size ho).emb i 1).val
        * Ideal.logistic (whole x z ((Rect.unit (s := S688x1024) ![0, o] S688x256.size ho).emb i 0) ((Rect.unit (s := S688x1024) ![0, o] S688x256.size ho).emb i 1).val) := by
  rw [← piece_v x w o hw ho i, ← piece_v x z o hw ho i]
  obtain ⟨r, e, rfl⟩ : ∃ (r : Fin 688) (e : Fin 256), i = ix2 r e := ⟨i 0, i 1, eq_ix2 _ _ _ rfl rfl⟩
  exact gated_apply _ _ _ r e
end

variable (x0 : Vec Ideal S688x1024 .f32) (x1 x2 x3 : Vec Ideal S688x128 .f32) (x4 x5 x6 x7 x8 : Vec Ideal S1024x1024 .bf16)

/-- The query's buffer. -/
theorem out_q (y : S688x1024.Idx) : out0_9 (F := Ideal) x0 x1 x2 x3 x4 x5 x6 x7 x8 y = turned x0 x1 x2 x3 x4 (y 0) (y 1).val * Trunk.eighth := by
  unfold out0_9 k0_pay44 k0_pay45 k0_pay46 k0_pay47 k0_pay48
  rw [View.ld_unit_lit' _ x0 (by decide), View.ld_unit_lit' _ x1 (by decide), View.ld_unit_lit' _ x2 (by decide), View.ld_unit_lit' _ x3 (by decide)]
  refine View.canon_apply_of_pieces (Val := Elt Ideal) (fun y => turned x0 x1 x2 x3 x4 (y 0) (y 1).val * Trunk.eighth) _ ?_ y (cover0_9 _ _ _ _ _ _ _ _ y)
  simp only [List.forall_mem_cons, List.not_mem_nil, false_implies, implies_true, and_true]
  exact ⟨piece_high_q x0 x1 x2 x3 x4 768 896 rfl rfl _ _, piece_low_q x0 x1 x2 x3 x4 768 rfl _ _, piece_high_q x0 x1 x2 x3 x4 512 640 rfl rfl _ _, piece_low_q x0 x1 x2 x3 x4 512 rfl _ _,
    piece_high_q x0 x1 x2 x3 x4 256 384 rfl rfl _ _, piece_low_q x0 x1 x2 x3 x4 256 rfl _ _, piece_high_q x0 x1 x2 x3 x4 0 128 rfl rfl _ _, piece_low_q x0 x1 x2 x3 x4 0 rfl _ _⟩

/-- The key's. -/
theorem out_k (y : S688x1024.Idx) : out0_10 (F := Ideal) x0 x1 x2 x3 x4 x5 x6 x7 x8 y = turned x0 x1 x2 x3 x5 (y 0) (y 1).val := by
  unfold out0_10 k0_pay49 k0_pay44 k0_pay45 k0_pay46 k0_pay47
  rw [View.ld_unit_lit' _ x0 (by decide), View.ld_unit_lit' _ x1 (by decide), View.ld_unit_lit' _ x2 (by decide), View.ld_unit_lit' _ x3 (by decide)]
  refine View.canon_apply_of_pieces (Val := Elt Ideal) (fun y => turned x0 x1 x2 x3 x5 (y 0) (y 1).val) _ ?_ y (cover0_10 _ _ _ _ _ _ _ _ y)
  simp only [List.forall_mem_cons, List.not_mem_nil, false_implies, implies_true, and_true]
  exact ⟨piece_high x0 x1 x2 x3 x5 768 896 rfl rfl _ _, piece_low x0 x1 x2 x3 x5 768 rfl _ _, piece_high x0 x1 x2 x3 x5 512 640 rfl rfl _ _, piece_low x0 x1 x2 x3 x5 512 rfl _ _,
    piece_high x0 x1 x2 x3 x5 256 384 rfl rfl _ _, piece_low x0 x1 x2 x3 x5 256 rfl _ _, piece_high x0 x1 x2 x3 x5 0 128 rfl rfl _ _, piece_low x0 x1 x2 x3 x5 0 rfl _ _⟩

/-- The value's. -/
theorem out_v (y : S688x1024.Idx) : out0_11 (F := Ideal) x0 x1 x2 x3 x4 x5 x6 x7 x8 y = whole x0 x6 (y 0) (y 1).val := by
  unfold out0_11 k0_pay44
  rw [View.ld_unit_lit' _ x0 (by decide)]
  refine View.canon_apply_of_pieces (Val := Elt Ideal) (fun y => whole x0 x6 (y 0) (y 1).val) _ ?_ y (cover0_11 _ _ _ _ y)
  simp only [List.forall_mem_cons, List.not_mem_nil, false_implies, implies_true, and_true]
  exact ⟨piece_v x0 x6 768 _ _, piece_v x0 x6 512 _ _, piece_v x0 x6 256 _ _, piece_v x0 x6 0 _ _⟩

/-- The gated one. -/
theorem out_u (y : S688x1024.Idx) : out0_12 (F := Ideal) x0 x1 x2 x3 x4 x5 x6 x7 x8 y = whole x0 x7 (y 0) (y 1).val * Ideal.logistic (whole x0 x8 (y 0) (y 1).val) := by
  unfold out0_12 k0_pay44
  rw [View.ld_unit_lit' _ x0 (by decide)]
  refine View.canon_apply_of_pieces (Val := Elt Ideal) (fun y => whole x0 x7 (y 0) (y 1).val * Ideal.logistic (whole x0 x8 (y 0) (y 1).val)) _ ?_ y (cover0_12 _ _ _ _ y)
  simp only [List.forall_mem_cons, List.not_mem_nil, false_implies, implies_true, and_true]
  exact ⟨piece_u x0 x7 x8 768 _ _, piece_u x0 x7 x8 512 _ _, piece_u x0 x7 x8 256 _ _, piece_u x0 x7 x8 0 _ _⟩

end ProjMixRun

end
-- ==== Proof.ProjMixTable.lean ====
/- The three tables of rotary factors, which the host builds before the launch: by position and lane, the factors of the row functions. -/
module

public import proofs.«01_k».proof.Proof.ProjMixPay
public import proofs.«01_k».proof.Proof.Gen.ProjMixIdeal.Value
public import Idealize.ShloMosaic.Lib.StableHlo.RunRead
public import Idealize.ShloMosaic.Lib.Pipeline.Value

@[expose] public section

set_option maxRecDepth 65536

noncomputable section

namespace ProjMixRun

open Idealize.ShloMosaic Cert.ProjMixIdeal Cert.ProjMixIdeal.Gen Idealize.ShloMosaic.TcCoe Idealize.SL.Sem
open Trunk (eq_ix2)

/-- A table of 64 lanes set twice side by side, at a lane. -/
theorem twice (x : S2064x64.Idx → EReal) (h : Shape.Concatenates (([⟨S2064x64, x⟩, ⟨S2064x64, x⟩] : List ((s : Shape) × (s.Idx → EReal))).map (·.1)) S2064x128 1)
    (i : Fin 2064) (j : Fin 128) :
    concatenate S2064x128 1 [⟨S2064x64, x⟩, ⟨S2064x64, x⟩] h (ix2 i j) = x (ix2 i ⟨j.val % 64, Nat.mod_lt _ (by decide)⟩) := by
  have hj := j.isLt
  by_cases hl : j.val < 64
  · exact concatenate_apply_piece _ _ h _ 0 (by show 0 < 2; decide) S2064x64 x rfl rfl 0 rfl _ (fun b hb => by
      match b with
      | ⟨0, _⟩ => rfl
      | ⟨1, _⟩ => exact absurd rfl hb) (by show 0 + j.val % 64 = j.val; omega)
  · exact concatenate_apply_piece _ _ h _ 1 (by show 1 < 2; decide) S2064x64 x rfl rfl 64 rfl _ (fun b hb => by
      match b with
      | ⟨0, _⟩ => rfl
      | ⟨1, _⟩ => exact absurd rfl hb) (by show 64 + j.val % 64 = j.val; omega)

/-- Tables of 8, 8 and 48 lanes side by side, at a lane of each. -/
theorem join (x y : S2064x8.Idx → EReal) (z : S2064x48.Idx → EReal)
    (h : Shape.Concatenates (([⟨S2064x8, x⟩, ⟨S2064x8, y⟩, ⟨S2064x48, z⟩] : List ((s : Shape) × (s.Idx → EReal))).map (·.1)) S2064x64 1)
    (i : Fin 2064) (j : Fin 64) :
    concatenate S2064x64 1 [⟨S2064x8, x⟩, ⟨S2064x8, y⟩, ⟨S2064x48, z⟩] h (ix2 i j)
      = if h1 : j.val < 8 then x (ix2 i ⟨j.val, h1⟩) else if h2 : j.val < 16 then y (ix2 i ⟨j.val - 8, by omega⟩)
        else z (ix2 i ⟨j.val - 16, by have := j.isLt; omega⟩) := by
  split
  · rename_i h1
    exact concatenate_apply_piece _ _ h _ 0 (by show 0 < 3; decide) S2064x8 x rfl rfl 0 rfl _ (fun b hb => by
      match b with
      | ⟨0, _⟩ => rfl
      | ⟨1, _⟩ => exact absurd rfl hb) (by show 0 + j.val = j.val; omega)
  · rename_i h1
    split
    · rename_i h2
      exact concatenate_apply_piece _ _ h _ 1 (by show 1 < 3; decide) S2064x8 y rfl rfl 8 rfl _ (fun b hb => by
        match b with
        | ⟨0, _⟩ => rfl
        | ⟨1, _⟩ => exact absurd rfl hb) (by show 8 + (j.val - 8) = j.val; omega)
    · rename_i h2
      exact concatenate_apply_piece _ _ h _ 2 (by show 2 < 3; decide) S2064x48 z rfl rfl 16 rfl _ (fun b hb => by
        match b with
        | ⟨0, _⟩ => rfl
        | ⟨1, _⟩ => exact absurd rfl hb) (by show 16 + (j.val - 16) = j.val; omega)

variable (m : (ℓ : Loc nD τ sig) → Buf (Elt Ideal) ℓ)

theorem table_cos (c : Dev nD) (i : Fin 2064) (j : Fin 128) : V m c main_v25 (ix2 i j : S2064x128.Idx) = Trunk.cosTab i.val j.val := by
  unfold V
  after_reads_simp
  rw [twice]
  refine (join _ _ _ _ _ _).trans ?_
  unfold Trunk.cosTab
  dsimp only [Matrix.cons_val]
  after_reads_simp
  split_ifs
  · rfl
  · rfl
  · exact (congrArg₂ (· + ·) Ideal.ofBits_zero_f32 Ideal.ofBits_one_f32).trans (zero_add _)

theorem table_up (c : Dev nD) (i : Fin 2064) (j : Fin 128) : V m c main_v26 (ix2 i j : S2064x128.Idx) = Trunk.upTab i.val j.val := by
  unfold V
  after_reads_simp
  rw [twice]
  refine (join _ _ _ _ _ _).trans ?_
  unfold Trunk.upTab
  dsimp only [Matrix.cons_val]
  after_reads_simp
  split_ifs
  · rfl
  · exact Ideal.ofBits_zero_f32
  · exact Ideal.ofBits_zero_f32

theorem table_down (c : Dev nD) (i : Fin 2064) (j : Fin 128) : V m c main_v27 (ix2 i j : S2064x128.Idx) = Trunk.downTab i.val j.val := by
  unfold V
  after_reads_simp
  rw [twice]
  refine (join _ _ _ _ _ _).trans ?_
  unfold Trunk.downTab
  dsimp only [Matrix.cons_val]
  after_reads_simp
  split_ifs
  · exact Ideal.ofBits_zero_f32
  · rfl
  · exact Ideal.ofBits_zero_f32

end ProjMixRun

end
-- ==== Proof.ProjMixArray.lean ====
/- The mixers' projection kernel's four result arrays: every launch point writes its rows of each. -/
module

public import proofs.«01_k».proof.Proof.ProjMixTable

@[expose] public section

set_option maxRecDepth 65536

noncomputable section

namespace ProjMixRun

open Idealize.ShloMosaic Cert.ProjMixIdeal Cert.ProjMixIdeal.Gen Idealize.ShloMosaic.TcCoe Idealize.SL.Sem
open Idealize.ShloMosaic.Pipeline (Dat)
open Trunk (eq_ix2)

variable (m : (ℓ : Loc nD τ sig) → Buf (Elt Ideal) ℓ)

theorem row_facts : ∀ t : Fin grid0.N, (win0_0.index t 0 = t.val ∧ win0_0.index t 1 = 0)
    ∧ (win0_1.index t 0 = t.val % 3 ∧ win0_1.index t 1 = 0) ∧ (win0_2.index t 0 = t.val % 3 ∧ win0_2.index t 1 = 0) ∧ (win0_3.index t 0 = t.val % 3 ∧ win0_3.index t 1 = 0) := by
  decide +kernel

theorem whole_facts : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0) := by
  decide +kernel

theorem out_facts : ∀ t : Fin grid0.N, ((win0_9.index t 0 = t.val ∧ win0_9.index t 1 = 0) ∧ win0_9.xsize (grid0.coords t) 0 = 688 ∧ win0_9.xsize (grid0.coords t) 1 = 1024)
    ∧ ((win0_10.index t 0 = t.val ∧ win0_10.index t 1 = 0) ∧ win0_10.xsize (grid0.coords t) 0 = 688 ∧ win0_10.xsize (grid0.coords t) 1 = 1024)
    ∧ ((win0_11.index t 0 = t.val ∧ win0_11.index t 1 = 0) ∧ win0_11.xsize (grid0.coords t) 0 = 688 ∧ win0_11.xsize (grid0.coords t) 1 = 1024)
    ∧ ((win0_12.index t 0 = t.val ∧ win0_12.index t 1 = 0) ∧ win0_12.xsize (grid0.coords t) 0 = 688 ∧ win0_12.xsize (grid0.coords t) 1 = 1024) := by
  decide +kernel

theorem blk_lt (t : Fin cfg0.N) : t.val < 24 := by have := t.isLt; have hN : cfg0.N = 24 := N_0; omega

/-- The array row under a block's row, and its position in its sequence. -/
abbrev under (t : Fin cfg0.N) (r : Fin 688) : Fin 16512 := ⟨t.val * 688 + r.val, by have h := blk_lt t; have := r.isLt; omega⟩
abbrev place (t : Fin cfg0.N) (r : Fin 688) : Fin 2064 := ⟨(under t r).val % 2064, Nat.mod_lt _ (by decide)⟩

/-- A block row's array row, a block row's position, and a whole window's coordinate, from the window's block index. -/
theorem at_row {i n : ℕ} (t : Fin cfg0.N) (r : Fin 688) (hi : i = t.val) (h : i * 688 + 1 * r.val < n) (hn : n = 16512) :
    (⟨i * 688 + 1 * r.val, h⟩ : Fin n) = (under t r).cast hn.symm := Fin.ext (by show i * 688 + 1 * r.val = t.val * 688 + r.val; rw [hi, Nat.one_mul])
theorem at_place {i n : ℕ} (t : Fin cfg0.N) (r : Fin 688) (hi : i = t.val % 3) (h : i * 688 + 1 * r.val < n) (hn : n = 2064) :
    (⟨i * 688 + 1 * r.val, h⟩ : Fin n) = (place t r).cast hn.symm :=
  Fin.ext (by show i * 688 + 1 * r.val = (t.val * 688 + r.val) % 2064; have := r.isLt; rw [hi, Nat.one_mul]; omega)
theorem at_whole {i n : ℕ} (k : Fin n) (hi : i = 0) (h : i * n + 1 * k.val < n) : (⟨i * n + 1 * k.val, h⟩ : Fin n) = k :=
  Fin.ext (by show i * n + 1 * k.val = k.val; rw [hi, Nat.zero_mul, Nat.zero_add, Nat.one_mul])

theorem iblk0_apply (c : Dev nD) (t : Fin cfg0.N) (r : Fin 688) (k : Fin 1024) :
    iblk m c 0 t (ix2 r k : S688x1024.Idx) = m ((c : Thread nD τ).loc main_arg0) (ix2 (under t r) k : S16512x1024.Idx) :=
  (congrArg (V m c main_arg0) (eq_ix2 _ _ _ (at_row t r (row_facts t).1.1 _ rfl) (at_whole k (row_facts t).1.2 _))).trans (congrFun (V_main_arg0 m c) _)
theorem iblk1_apply (c : Dev nD) (t : Fin cfg0.N) (r : Fin 688) (k : Fin 128) :
    iblk m c 1 t (ix2 r k : S688x128.Idx) = Trunk.cosTab (place t r).val k.val :=
  (congrArg (V m c main_v25) (eq_ix2 _ _ _ (at_place t r (row_facts t).2.1.1 _ rfl) (at_whole k (row_facts t).2.1.2 _))).trans (table_cos m c _ _)
theorem iblk2_apply (c : Dev nD) (t : Fin cfg0.N) (r : Fin 688) (k : Fin 128) :
    iblk m c 2 t (ix2 r k : S688x128.Idx) = Trunk.upTab (place t r).val k.val :=
  (congrArg (V m c main_v26) (eq_ix2 _ _ _ (at_place t r (row_facts t).2.2.1.1 _ rfl) (at_whole k (row_facts t).2.2.1.2 _))).trans (table_up m c _ _)
theorem iblk3_apply (c : Dev nD) (t : Fin cfg0.N) (r : Fin 688) (k : Fin 128) :
    iblk m c 3 t (ix2 r k : S688x128.Idx) = Trunk.downTab (place t r).val k.val :=
  (congrArg (V m c main_v27) (eq_ix2 _ _ _ (at_place t r (row_facts t).2.2.2.1 _ rfl) (at_whole k (row_facts t).2.2.2.2 _))).trans (table_down m c _ _)
theorem iblk4_apply (c : Dev nD) (t : Fin cfg0.N) (k f : Fin 1024) :
    iblk m c 4 t (ix2 k f : S1024x1024.Idx) = m ((c : Thread nD τ).loc main_arg1) (ix2 k f : S1024x1024.Idx) :=
  (congrArg (V m c main_arg1) (eq_ix2 _ _ _ (at_whole k (whole_facts t).1.1 _) (at_whole f (whole_facts t).1.2 _))).trans (congrFun (V_main_arg1 m c) _)
theorem iblk5_apply (c : Dev nD) (t : Fin cfg0.N) (k f : Fin 1024) :
    iblk m c 5 t (ix2 k f : S1024x1024.Idx) = m ((c : Thread nD τ).loc main_arg2) (ix2 k f : S1024x1024.Idx) :=
  (congrArg (V m c main_arg2) (eq_ix2 _ _ _ (at_whole k (whole_facts t).2.1.1 _) (at_whole f (whole_facts t).2.1.2 _))).trans (congrFun (V_main_arg2 m c) _)
theorem iblk6_apply (c : Dev nD) (t : Fin cfg0.N) (k f : Fin 1024) :
    iblk m c 6 t (ix2 k f : S1024x1024.Idx) = m ((c : Thread nD τ).loc main_arg3) (ix2 k f : S1024x1024.Idx) :=
  (congrArg (V m c main_arg3) (eq_ix2 _ _ _ (at_whole k (whole_facts t).2.2.1.1 _) (at_whole f (whole_facts t).2.2.1.2 _))).trans (congrFun (V_main_arg3 m c) _)
theorem iblk7_apply (c : Dev nD) (t : Fin cfg0.N) (k f : Fin 1024) :
    iblk m c 7 t (ix2 k f : S1024x1024.Idx) = m ((c : Thread nD τ).loc main_arg4) (ix2 k f : S1024x1024.Idx) :=
  (congrArg (V m c main_arg4) (eq_ix2 _ _ _ (at_whole k (whole_facts t).2.2.2.1.1 _) (at_whole f (whole_facts t).2.2.2.1.2 _))).trans (congrFun (V_main_arg4 m c) _)
theorem iblk8_apply (c : Dev nD) (t : Fin cfg0.N) (k f : Fin 1024) :
    iblk m c 8 t (ix2 k f : S1024x1024.Idx) = m ((c : Thread nD τ).loc main_arg5) (ix2 k f : S1024x1024.Idx) :=
  (congrArg (V m c main_arg5) (eq_ix2 _ _ _ (at_whole k (whole_facts t).2.2.2.2.1 _) (at_whole f (whole_facts t).2.2.2.2.2 _))).trans (congrFun (V_main_arg5 m c) _)

/-- A block's whole product is the array rows' product, given the weight's block. -/
theorem whole_eq (c : Dev nD) (t : Fin cfg0.N) (r : Fin 688) (b : Vec Ideal S1024x1024 .bf16) (w : S1024x1024.Idx → EReal) (hb : ∀ k f, b (ix2 k f) = w (ix2 k f)) :
    whole (iblk m c 0 t) b r = Trunk.lanes (m ((c : Thread nD τ).loc main_arg0)) w (under t r) :=
  funext fun n => congrArg₂ Trunk.dot (funext fun k => iblk0_apply m c t r k) (funext fun k => hb k _)

/-- And turned by the tables' blocks it is the rotation at the rows' positions. -/
theorem turned_eq (c : Dev nD) (t : Fin cfg0.N) (r : Fin 688) (n : ℕ) (b : Vec Ideal S1024x1024 .bf16) (w : S1024x1024.Idx → EReal) (hb : ∀ k f, b (ix2 k f) = w (ix2 k f)) :
    turned (iblk m c 0 t) (iblk m c 1 t) (iblk m c 2 t) (iblk m c 3 t) b r n
      = Trunk.rope (place t r).val (Trunk.lanes (m ((c : Thread nD τ).loc main_arg0)) w (under t r)) n := by
  unfold turned
  rw [whole_eq m c t r b w hb, iblk1_apply, iblk2_apply, iblk3_apply]
  show Trunk.turn _ (Trunk.cosTab _ (n % 128)) (Trunk.upTab _ (n % 128)) (Trunk.downTab _ (n % 128)) n = _
  rw [Trunk.cosTab_mod, Trunk.upTab_mod, Trunk.downTab_mod, Trunk.turn_eq_rope]

/-- The four result arrays. -/
abbrev GQ (c : Dev nD) : Buf (Elt Ideal) ((c : Thread nD τ).loc main_v28_0) := fun y =>
  Trunk.rope ((y 0).val % 2064) (Trunk.lanes (m ((c : Thread nD τ).loc main_arg0)) (m ((c : Thread nD τ).loc main_arg1)) (y 0)) (y 1).val * Trunk.eighth
abbrev GK (c : Dev nD) : Buf (Elt Ideal) ((c : Thread nD τ).loc main_v28_1) := fun y =>
  Trunk.rope ((y 0).val % 2064) (Trunk.lanes (m ((c : Thread nD τ).loc main_arg0)) (m ((c : Thread nD τ).loc main_arg2)) (y 0)) (y 1).val
abbrev GV (c : Dev nD) : Buf (Elt Ideal) ((c : Thread nD τ).loc main_v28_2) := fun y =>
  Trunk.lanes (m ((c : Thread nD τ).loc main_arg0)) (m ((c : Thread nD τ).loc main_arg3)) (y 0) (y 1).val
abbrev GU (c : Dev nD) : Buf (Elt Ideal) ((c : Thread nD τ).loc main_v28_3) := fun y =>
  (Trunk.lanes (m ((c : Thread nD τ).loc main_arg0)) (m ((c : Thread nD τ).loc main_arg4)) (y 0) (y 1).val : EReal)
    * Ideal.logistic (Trunk.lanes (m ((c : Thread nD τ).loc main_arg0)) (m ((c : Thread nD τ).loc main_arg5)) (y 0) (y 1).val)

/-- A row and lane lie in the block of a window whose blocks are 688 rows by all lanes. -/
theorem inside (t : Fin cfg0.N) (i : S16512x1024.Idx) (p q a b : ℕ) (h0 : (i 0).val / 688 = t.val) (hp : p = t.val) (hq : q = 0) (ha : a = 688) (hb : b = 1024) :
    (p * 688 ≤ (i 0 : ℕ) ∧ (i 0 : ℕ) < p * 688 + a) ∧ (q * 1024 ≤ (i 1 : ℕ) ∧ (i 1 : ℕ) < q * 1024 + b) := by
  have h1 : (i 1).val < 1024 := (i 1).isLt
  subst hp hq ha hb
  omega

theorem mem_q (t : Fin cfg0.N) (i : S16512x1024.Idx) (h0 : (i 0).val / 688 = t.val) : i ∈ ((cfg0.win 9).blk t).view.set := by
  show i ∈ ((View.whole main_v28_0).slice (win0_9.rect t)).set
  rw [View.set_slice_whole, Rect.mem_set_unit]
  have e := (out_facts t).1
  have h := inside t i _ _ _ _ h0 e.1.1 e.1.2 e.2.1 e.2.2
  intro a
  match a with
  | ⟨0, _⟩ => exact h.1
  | ⟨1, _⟩ => exact h.2

theorem mem_k (t : Fin cfg0.N) (i : S16512x1024.Idx) (h0 : (i 0).val / 688 = t.val) : i ∈ ((cfg0.win 10).blk t).view.set := by
  show i ∈ ((View.whole main_v28_1).slice (win0_10.rect t)).set
  rw [View.set_slice_whole, Rect.mem_set_unit]
  have e := (out_facts t).2.1
  have h := inside t i _ _ _ _ h0 e.1.1 e.1.2 e.2.1 e.2.2
  intro a
  match a with
  | ⟨0, _⟩ => exact h.1
  | ⟨1, _⟩ => exact h.2

theorem mem_v (t : Fin cfg0.N) (i : S16512x1024.Idx) (h0 : (i 0).val / 688 = t.val) : i ∈ ((cfg0.win 11).blk t).view.set := by
  show i ∈ ((View.whole main_v28_2).slice (win0_11.rect t)).set
  rw [View.set_slice_whole, Rect.mem_set_unit]
  have e := (out_facts t).2.2.1
  have h := inside t i _ _ _ _ h0 e.1.1 e.1.2 e.2.1 e.2.2
  intro a
  match a with
  | ⟨0, _⟩ => exact h.1
  | ⟨1, _⟩ => exact h.2

theorem mem_u (t : Fin cfg0.N) (i : S16512x1024.Idx) (h0 : (i 0).val / 688 = t.val) : i ∈ ((cfg0.win 12).blk t).view.set := by
  show i ∈ ((View.whole main_v28_3).slice (win0_12.rect t)).set
  rw [View.set_slice_whole, Rect.mem_set_unit]
  have e := (out_facts t).2.2.2
  have h := inside t i _ _ _ _ h0 e.1.1 e.1.2 e.2.1 e.2.2
  intro a
  match a with
  | ⟨0, _⟩ => exact h.1
  | ⟨1, _⟩ => exact h.2

/-- What a point writes back to each array is its block of it. -/
theorem flushed_q (c : Dev nD) (t : Fin cfg0.N) : (dats m 0 c).flushed 9 t = ((cfg0.win 9).blk t).view.read (Elt Ideal) (GQ m c) := by
  rw [Value.flushed9]
  have key : ∀ (r : Fin 688) (e : Fin 1024), out0_9 (F := Ideal) (iblk m c 0 t) (iblk m c 1 t) (iblk m c 2 t) (iblk m c 3 t) (iblk m c 4 t) (iblk m c 5 t) (iblk m c 6 t) (iblk m c 7 t) (iblk m c 8 t) (ix2 r e)
      = GQ m c (ix2 (under t r) e) := fun r e => by
    rw [out_q]
    exact congrArg (· * Trunk.eighth) (turned_eq m c t r e.val _ _ (iblk4_apply m c t))
  funext y
  obtain ⟨r, e, rfl⟩ : ∃ (r : Fin 688) (e : Fin 1024), y = ix2 r e := ⟨y 0, y 1, eq_ix2 _ _ _ rfl rfl⟩
  exact (key r e).trans (congrArg (GQ m c) (eq_ix2 _ _ _ (at_row t r (out_facts t).1.1.1 _ rfl) (at_whole e (out_facts t).1.1.2 _)).symm)

theorem flushed_k (c : Dev nD) (t : Fin cfg0.N) : (dats m 0 c).flushed 10 t = ((cfg0.win 10).blk t).view.read (Elt Ideal) (GK m c) := by
  rw [Value.flushed10]
  have key : ∀ (r : Fin 688) (e : Fin 1024), out0_10 (F := Ideal) (iblk m c 0 t) (iblk m c 1 t) (iblk m c 2 t) (iblk m c 3 t) (iblk m c 4 t) (iblk m c 5 t) (iblk m c 6 t) (iblk m c 7 t) (iblk m c 8 t) (ix2 r e)
      = GK m c (ix2 (under t r) e) := fun r e => by
    rw [out_k]
    exact turned_eq m c t r e.val _ _ (iblk5_apply m c t)
  funext y
  obtain ⟨r, e, rfl⟩ : ∃ (r : Fin 688) (e : Fin 1024), y = ix2 r e := ⟨y 0, y 1, eq_ix2 _ _ _ rfl rfl⟩
  exact (key r e).trans (congrArg (GK m c) (eq_ix2 _ _ _ (at_row t r (out_facts t).2.1.1.1 _ rfl) (at_whole e (out_facts t).2.1.1.2 _)).symm)

theorem flushed_v (c : Dev nD) (t : Fin cfg0.N) : (dats m 0 c).flushed 11 t = ((cfg0.win 11).blk t).view.read (Elt Ideal) (GV m c) := by
  rw [Value.flushed11]
  have key : ∀ (r : Fin 688) (e : Fin 1024), out0_11 (F := Ideal) (iblk m c 0 t) (iblk m c 1 t) (iblk m c 2 t) (iblk m c 3 t) (iblk m c 4 t) (iblk m c 5 t) (iblk m c 6 t) (iblk m c 7 t) (iblk m c 8 t) (ix2 r e)
      = GV m c (ix2 (under t r) e) := fun r e => by
    rw [out_v]
    exact congrFun (whole_eq m c t r _ _ (iblk6_apply m c t)) e.val
  funext y
  obtain ⟨r, e, rfl⟩ : ∃ (r : Fin 688) (e : Fin 1024), y = ix2 r e := ⟨y 0, y 1, eq_ix2 _ _ _ rfl rfl⟩
  exact (key r e).trans (congrArg (GV m c) (eq_ix2 _ _ _ (at_row t r (out_facts t).2.2.1.1.1 _ rfl) (at_whole e (out_facts t).2.2.1.1.2 _)).symm)

theorem flushed_u (c : Dev nD) (t : Fin cfg0.N) : (dats m 0 c).flushed 12 t = ((cfg0.win 12).blk t).view.read (Elt Ideal) (GU m c) := by
  rw [Value.flushed12]
  have key : ∀ (r : Fin 688) (e : Fin 1024), out0_12 (F := Ideal) (iblk m c 0 t) (iblk m c 1 t) (iblk m c 2 t) (iblk m c 3 t) (iblk m c 4 t) (iblk m c 5 t) (iblk m c 6 t) (iblk m c 7 t) (iblk m c 8 t) (ix2 r e)
      = GU m c (ix2 (under t r) e) := fun r e => by
    rw [out_u]
    exact congrArg₂ (fun a b => a * Ideal.logistic b) (congrFun (whole_eq m c t r _ _ (iblk7_apply m c t)) e.val) (congrFun (whole_eq m c t r _ _ (iblk8_apply m c t)) e.val)
  funext y
  obtain ⟨r, e, rfl⟩ : ∃ (r : Fin 688) (e : Fin 1024), y = ix2 r e := ⟨y 0, y 1, eq_ix2 _ _ _ rfl rfl⟩
  exact (key r e).trans (congrArg (GU m c) (eq_ix2 _ _ _ (at_row t r (out_facts t).2.2.2.1.1 _ rfl) (at_whole e (out_facts t).2.2.2.1.2 _)).symm)

/-- The launch point whose block holds a row. -/
theorem point (i : Fin 16512) : i.val / 688 < cfg0.N := by have := i.isLt; have hN : cfg0.N = 24 := N_0; omega

/-- **The result arrays.** -/
theorem final_q (c : Dev nD) : (dats m 0 c).arrAt 9 cfg0.N = GQ m c :=
  (dats m 0 c).arrAt_eq_of_cover 9 (GQ m c) (fun t _ => flushed_q m c t) fun i => ⟨⟨(i 0).val / 688, point (i 0)⟩, flush0_9 _, mem_q _ i rfl⟩
theorem final_k (c : Dev nD) : (dats m 0 c).arrAt 10 cfg0.N = GK m c :=
  (dats m 0 c).arrAt_eq_of_cover 10 (GK m c) (fun t _ => flushed_k m c t) fun i => ⟨⟨(i 0).val / 688, point (i 0)⟩, flush0_10 _, mem_k _ i rfl⟩
theorem final_v (c : Dev nD) : (dats m 0 c).arrAt 11 cfg0.N = GV m c :=
  (dats m 0 c).arrAt_eq_of_cover 11 (GV m c) (fun t _ => flushed_v m c t) fun i => ⟨⟨(i 0).val / 688, point (i 0)⟩, flush0_11 _, mem_v _ i rfl⟩
theorem final_u (c : Dev nD) : (dats m 0 c).arrAt 12 cfg0.N = GU m c :=
  (dats m 0 c).arrAt_eq_of_cover 12 (GU m c) (fun t _ => flushed_u m c t) fun i => ⟨⟨(i 0).val / 688, point (i 0)⟩, flush0_12 _, mem_u _ i rfl⟩

end ProjMixRun

end
-- ==== Proof.ProjMixRef.lean ====
/- The reference projections of the mixers at a row and lane. -/
module

public import proofs.«01_k».proof.Proof.ProjMixSpec
public import proofs.«01_k».proof.Proof.Gen.ProjMixReferenceIdeal.Read
public import Idealize.ShloMosaic.Lib.Pipeline.Value
public import Idealize.ShloMosaic.Lib.IdealHost

@[expose] public section

set_option maxRecDepth 16384

noncomputable section

namespace ProjMixRef

open Idealize.ShloMosaic Cert.ProjMixReferenceIdeal Cert.ProjMixReferenceIdeal.Gen Cert.ProjMixReferenceIdeal.Read
open Trunk (eq_ix2)

variable (x0 : S16512x1024.Idx → EReal) (x1 x2 x3 x4 x5 : S1024x1024.Idx → EReal)

theorem cos_at (i : S2064x8.Idx) : val_main_v18 (F := Ideal) i = Trunk.cosAt (i 0).val (i 1).val := by
  rw [val_main_v18_apply, val_main_v17_apply, val_main_v15_apply, val_main_v13_apply, val_main_v12_apply, val_main_v0_apply, val_main_v16_apply,
    val_main_v14_apply, val_main_v11_apply, val_main_v10_apply, val_main_cst_1_apply, val_main_v9_apply, val_main_v7_apply, val_main_v5_apply,
    val_main_v6_apply, val_main_cst_apply, val_main_v8_apply, val_main_cst_0_apply]
  rfl

theorem sin_at (i : S2064x8.Idx) : val_main_v20 (F := Ideal) i = Trunk.sinAt (i 0).val (i 1).val := by
  rw [val_main_v20_apply, val_main_v17_apply, val_main_v15_apply, val_main_v13_apply, val_main_v12_apply, val_main_v0_apply, val_main_v16_apply,
    val_main_v14_apply, val_main_v11_apply, val_main_v10_apply, val_main_cst_1_apply, val_main_v9_apply, val_main_v7_apply, val_main_v5_apply,
    val_main_v6_apply, val_main_cst_apply, val_main_v8_apply, val_main_cst_0_apply]
  rfl

/-- The product, at a row and lane. -/
theorem lanes_at (y : S16512x1024.Idx) : val_main_v2 (F := Ideal) x0 x1 y = Trunk.lanes x0 x1 (y 0) (y 1).val := by
  rw [val_main_v2_apply]
  unfold Trunk.lanes Trunk.dot
  refine Finset.sum_congr rfl fun k _ => ?_
  rw [val_main_v1_apply]
  exact congrArg₂ (fun a b => x0 a * x1 b) (eq_ix2 _ _ _ rfl rfl)
    (eq_ix2 _ _ _ rfl (Fin.ext (by show (y 1).val = (y 1).val % 1024; have h : (y 1).val < 1024 := (y 1).isLt; omega)))

/-- Split into sequences, heads and head parts it is the product at the row and lane they make. -/
theorem heads_at (j : S8x2064x8x2x64.Idx) (i : Fin 16512) (n : ℕ) (hi : i.val = (j 0).val * 2064 + (j 1).val)
    (hn : n = (j 2).val * 128 + (j 3).val * 64 + (j 4).val) : val_main_v3 (F := Ideal) x0 x1 j = Trunk.lanes x0 x1 i n := by
  rw [val_main_v3_apply, lanes_at]
  have h2 : (j 2).val < 8 := (j 2).isLt
  have h3 : (j 3).val < 2 := (j 3).isLt
  have h4 : (j 4).val < 64 := (j 4).isLt
  refine congrArg₂ (Trunk.lanes x0 x1) (Fin.ext ?_) ?_
  · show (((((j 0).val * 2064 + (j 1).val) * 8 + (j 2).val) * 2 + (j 3).val) * 64 + (j 4).val) / 1024 = i.val
    omega
  · show (((((j 0).val * 2064 + (j 1).val) * 8 + (j 2).val) * 2 + (j 3).val) * 64 + (j 4).val) % 1024 = n
    omega

/-- An index with another last coordinate. -/
def last {k : ℕ} (j : S8x2064x8x2x64.Idx) (d : Fin k) : (⟨5, ![8, 2064, 8, 2, k]⟩ : Shape).Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => d

theorem last_val {k : ℕ} (j : S8x2064x8x2x64.Idx) (d : Fin k) (b : Fin 5) (hb : b ≠ 4) : (last j d b).val = (j b).val := by
  match b with
  | ⟨0, _⟩ => rfl
  | ⟨1, _⟩ => rfl
  | ⟨2, _⟩ => rfl
  | ⟨3, _⟩ => rfl
  | ⟨4, _⟩ => exact absurd rfl hb

/-- Parts of 8, 8 and 48 lanes side by side, at a lane of each. -/
theorem join (x y : S8x2064x8x2x8.Idx → EReal) (z : S8x2064x8x2x48.Idx → EReal)
    (h : Shape.Concatenates (([⟨S8x2064x8x2x8, x⟩, ⟨S8x2064x8x2x8, y⟩, ⟨S8x2064x8x2x48, z⟩] : List ((s : Shape) × (s.Idx → EReal))).map (·.1)) S8x2064x8x2x64 4)
    (j : S8x2064x8x2x64.Idx) :
    concatenate S8x2064x8x2x64 4 [⟨S8x2064x8x2x8, x⟩, ⟨S8x2064x8x2x8, y⟩, ⟨S8x2064x8x2x48, z⟩] h j
      = if h1 : (j 4).val < 8 then x (last j ⟨(j 4).val, h1⟩) else if h2 : (j 4).val < 16 then y (last j ⟨(j 4).val - 8, by omega⟩)
        else z (last j ⟨(j 4).val - 16, by have h4 : (j 4).val < 64 := (j 4).isLt; omega⟩) := by
  split
  · rename_i h1
    exact concatenate_apply_piece _ _ h _ 0 (by show 0 < 3; decide) S8x2064x8x2x8 x rfl rfl 0 rfl _ (fun b hb => last_val j _ b hb)
      (by show 0 + (j 4).val = (j 4).val; omega)
  · rename_i h1
    split
    · rename_i h2
      exact concatenate_apply_piece _ _ h _ 1 (by show 1 < 3; decide) S8x2064x8x2x8 y rfl rfl 8 rfl _ (fun b hb => last_val j _ b hb)
        (by show 8 + ((j 4).val - 8) = (j 4).val; omega)
    · rename_i h2
      exact concatenate_apply_piece _ _ h _ 2 (by show 2 < 3; decide) S8x2064x8x2x48 z rfl rfl 16 rfl _ (fun b hb => last_val j _ b hb)
        (by show 16 + ((j 4).val - 16) = (j 4).val; omega)

/-- The rotated product's first 8 lanes of a head part, and its next 8. -/
theorem first_at (l : S8x2064x8x2x8.Idx) (i : Fin 16512) (n : ℕ) (hi : i.val = (l 0).val * 2064 + (l 1).val)
    (hn : n = (l 2).val * 128 + (l 3).val * 64 + (l 4).val) : val_main_v28 (F := Ideal) x0 x1 l
      = Trunk.lanes x0 x1 i n * Trunk.cosAt (l 1).val (l 4).val - Trunk.lanes x0 x1 i (n + 8) * Trunk.sinAt (l 1).val (l 4).val := by
  have ea : val_main_v22 (F := Ideal) x0 x1 l = Trunk.lanes x0 x1 i n := by
    rw [val_main_v22_apply]
    exact heads_at x0 x1 (idx_main_v22 l) i n hi hn
  have eb : val_main_v23 (F := Ideal) x0 x1 l = Trunk.lanes x0 x1 i (n + 8) := by
    rw [val_main_v23_apply]
    exact heads_at x0 x1 (idx_main_v23 l) i (n + 8) hi (by show n + 8 = (l 2).val * 128 + (l 3).val * 64 + (8 + (l 4).val); omega)
  have ec : val_main_v24 (F := Ideal) l = Trunk.cosAt (l 1).val (l 4).val := by rw [val_main_v24_apply, val_main_v19_apply, cos_at]
  have ed : val_main_v26 (F := Ideal) l = Trunk.sinAt (l 1).val (l 4).val := by rw [val_main_v26_apply, val_main_v21_apply, sin_at]
  rw [val_main_v28_apply, val_main_v25_apply, val_main_v27_apply, ea, eb, ec, ed]
  rfl

theorem second_at (l : S8x2064x8x2x8.Idx) (i : Fin 16512) (n : ℕ) (hi : i.val = (l 0).val * 2064 + (l 1).val)
    (hn : n = (l 2).val * 128 + (l 3).val * 64 + (8 + (l 4).val)) : val_main_v33 (F := Ideal) x0 x1 l
      = Trunk.lanes x0 x1 i n * Trunk.cosAt (l 1).val (l 4).val + Trunk.lanes x0 x1 i (n - 8) * Trunk.sinAt (l 1).val (l 4).val := by
  have ea : val_main_v22 (F := Ideal) x0 x1 l = Trunk.lanes x0 x1 i (n - 8) := by
    rw [val_main_v22_apply]
    exact heads_at x0 x1 (idx_main_v22 l) i (n - 8) hi (by show n - 8 = (l 2).val * 128 + (l 3).val * 64 + (l 4).val; omega)
  have eb : val_main_v23 (F := Ideal) x0 x1 l = Trunk.lanes x0 x1 i n := by
    rw [val_main_v23_apply]
    exact heads_at x0 x1 (idx_main_v23 l) i n hi hn
  have ec : val_main_v29 (F := Ideal) l = Trunk.cosAt (l 1).val (l 4).val := by rw [val_main_v29_apply, val_main_v19_apply, cos_at]
  have ed : val_main_v31 (F := Ideal) l = Trunk.sinAt (l 1).val (l 4).val := by rw [val_main_v31_apply, val_main_v21_apply, sin_at]
  rw [val_main_v33_apply, val_main_v30_apply, val_main_v32_apply, ea, eb, ec, ed]
  rfl

/-- The rotated product, split into heads: the rotation of the product's row at its position. -/
theorem rotated_at (j : S8x2064x8x2x64.Idx) (i : Fin 16512) (n : ℕ) (hi : i.val = (j 0).val * 2064 + (j 1).val)
    (hn : n = (j 2).val * 128 + (j 3).val * 64 + (j 4).val) : val_main_v35 (F := Ideal) x0 x1 j = Trunk.rope (j 1).val (Trunk.lanes x0 x1 i) n := by
  have h4 : (j 4).val < 64 := (j 4).isLt
  have e : n % 64 = (j 4).val := by omega
  unfold val_main_v35 Trunk.rope
  rw [join, e]
  by_cases h1 : (j 4).val < 8
  · rw [dif_pos h1, if_pos h1]
    exact first_at x0 x1 _ i n hi hn
  · rw [dif_neg h1, if_neg h1]
    by_cases h2 : (j 4).val < 16
    · rw [dif_pos h2, if_pos h2]
      exact second_at x0 x1 _ i n hi (by show n = (j 2).val * 128 + (j 3).val * 64 + (8 + ((j 4).val - 8)); omega)
    · rw [dif_neg h2, if_neg h2, val_main_v34_apply]
      exact heads_at x0 x1 _ i n hi (by show n = (j 2).val * 128 + (j 3).val * 64 + (16 + ((j 4).val - 16)); omega)

/-- The query at a row and lane, and the key. -/
theorem q_apply (y : S16512x1024.Idx) :
    val_main_v87 (F := Ideal) x0 x1 y = Trunk.rope ((y 0).val % 2064) (Trunk.lanes x0 x1 (y 0)) (y 1).val * Trunk.eighth := by
  have h0 : (y 0).val < 16512 := (y 0).isLt
  have h1 : (y 1).val < 1024 := (y 1).isLt
  rw [val_main_v87_apply, val_main_v86_apply, val_main_v85_apply, val_main_v84_apply, val_main_cst_7_apply, rotated_at x0 x1 _ (y 0) (y 1).val
    (by show (y 0).val = ((y 0).val * 1024 + (y 1).val) / 2113536 * 2064 + ((y 0).val * 1024 + (y 1).val) / 1024 % 2064; omega)
    (by show (y 1).val = ((y 0).val * 1024 + (y 1).val) / 128 % 8 * 128 + ((y 0).val * 1024 + (y 1).val) / 64 % 2 * 64 + ((y 0).val * 1024 + (y 1).val) % 64; omega)]
  refine congrArg (fun p => Trunk.rope p (Trunk.lanes x0 x1 (y 0)) (y 1).val * Trunk.eighth) ?_
  show ((y 0).val * 1024 + (y 1).val) / 1024 % 2064 = (y 0).val % 2064
  omega

theorem key_rotated : val_main_v70 (F := Ideal) x0 x2 = val_main_v35 (F := Ideal) x0 x2 := rfl

theorem k_apply (y : S16512x1024.Idx) :
    val_main_v88 (F := Ideal) x0 x2 y = Trunk.rope ((y 0).val % 2064) (Trunk.lanes x0 x2 (y 0)) (y 1).val := by
  have h0 : (y 0).val < 16512 := (y 0).isLt
  have h1 : (y 1).val < 1024 := (y 1).isLt
  rw [val_main_v88_apply, key_rotated, rotated_at x0 x2 _ (y 0) (y 1).val
    (by show (y 0).val = ((y 0).val * 1024 + (y 1).val) / 2113536 * 2064 + ((y 0).val * 1024 + (y 1).val) / 1024 % 2064; omega)
    (by show (y 1).val = ((y 0).val * 1024 + (y 1).val) / 128 % 8 * 128 + ((y 0).val * 1024 + (y 1).val) / 64 % 2 * 64 + ((y 0).val * 1024 + (y 1).val) % 64; omega)]
  refine congrArg (fun p => Trunk.rope p (Trunk.lanes x0 x2 (y 0)) (y 1).val) ?_
  show ((y 0).val * 1024 + (y 1).val) / 1024 % 2064 = (y 0).val % 2064
  omega

/-- The value, and the gated product. -/
theorem v_apply (y : S16512x1024.Idx) : val_main_v72 (F := Ideal) x0 x3 y = Trunk.lanes x0 x3 (y 0) (y 1).val := lanes_at x0 x3 y

theorem u_apply (y : S16512x1024.Idx) :
    val_main_v83 (F := Ideal) x0 x4 x5 y = Trunk.lanes x0 x4 (y 0) (y 1).val * Ideal.logistic (Trunk.lanes x0 x5 (y 0) (y 1).val) := by
  have e4 : val_main_v74 (F := Ideal) x0 x4 y = Trunk.lanes x0 x4 (y 0) (y 1).val := lanes_at x0 x4 y
  have e5 : val_main_v76 (F := Ideal) x0 x5 y = Trunk.lanes x0 x5 (y 0) (y 1).val := lanes_at x0 x5 y
  rw [val_main_v83_apply, val_main_v82_apply, val_main_v81_apply, val_main_v80_apply, val_main_v79_apply, val_main_v78_apply, val_main_v77_apply,
    val_main_cst_5_apply, val_main_cst_6_apply, e4, e5]
  generalize Trunk.lanes x0 x5 (y 0) (y 1).val = g
  show _ * Ideal.div (Ideal.ofBits .f32 0x3F800000#32) (Ideal.ofBits .f32 0x3F800000#32 + Ideal.exp (-g)) = _
  rw [Ideal.ofBits_one_f32]
  rfl

end ProjMixRef

end
-- ==== Proof.ProjMixClaim.lean ====
/- The mixers' projections' claims: the two runs have equal results. -/
module

public import proofs.«01_k».proof.Defs
public import proofs.«01_k».proof.Proof.ProjMixArray
public import proofs.«01_k».proof.Proof.ProjMixRef
public import proofs.«01_k».proof.Proof.Gen.ProjMixReferenceIdeal.Run
public import proofs.«01_k».proof.Proof.Gen.ProjMix.Frame
public import Idealize.ShloMosaic.Lib.Quiescent
public import Idealize.ShloMosaic.Adequacy

@[expose] public section

set_option maxRecDepth 16384

noncomputable section

namespace ProjMixClaim

open Idealize.ShloMosaic Idealize.ShloMosaic.TcCoe Idealize.SL.Sem

theorem frame_kernel : Cert.quiescent_ProjMix := fun m ρ _ => Cert.ProjMix.Gen.frame m ρ
theorem frame_ideal : Cert.quiescent_ProjMixIdeal := fun m ρ _ => Cert.ProjMixIdeal.Gen.frame m ρ
theorem frame_reference : Cert.quiescent_ProjMixReferenceIdeal := fun m ρ _ =>
  (θ_run Cert.ProjMixReferenceIdeal.defs _ _).mono (fun r h => ⟨fun c => (h c).2.2.2.2, Idealize.ShloMosaic.sem_eq_zero_of_no_sems (by decide) r.2⟩)
    (Cert.ProjMixReferenceIdeal.Value.run (F := Ideal) m ρ)

theorem algebraic : Cert.algebraic_ProjMixIdeal_ProjMixReferenceIdeal := fun m ρ m' ρ' _ hag =>
  ⟨fun c => ProjMixRun.GQ m c, fun c => ProjMixRun.GK m c, fun c => ProjMixRun.GV m c, fun c => ProjMixRun.GU m c,
    (θ_run Cert.ProjMixIdeal.defs _ _).mono (fun r h c => ⟨(h c).1.trans (ProjMixRun.final_q m c), (h c).2.1.trans (ProjMixRun.final_k m c),
      (h c).2.2.1.trans (ProjMixRun.final_v m c), (h c).2.2.2.1.trans (ProjMixRun.final_u m c), (h c).2.2.2.2⟩) (Cert.ProjMixIdeal.Value.run_blocks m ρ),
    (θ_run Cert.ProjMixReferenceIdeal.defs _ _).mono (fun r h c => ⟨(h c).1.trans (by
        rw [Cert.ProjMixReferenceIdeal.Read.val_main_v87_eq, (hag c).1, (hag c).2.1]
        exact funext fun y => ProjMixRef.q_apply _ _ y), (h c).2.1.trans (by
        rw [Cert.ProjMixReferenceIdeal.Read.val_main_v88_eq, (hag c).1, (hag c).2.2.1]
        exact funext fun y => ProjMixRef.k_apply _ _ y), (h c).2.2.1.trans (by
        rw [Cert.ProjMixReferenceIdeal.Read.val_main_v72_eq, (hag c).1, (hag c).2.2.2.1]
        exact funext fun y => ProjMixRef.v_apply _ _ y), (h c).2.2.2.1.trans (by
        rw [Cert.ProjMixReferenceIdeal.Read.val_main_v83_eq, (hag c).1, (hag c).2.2.2.2.1, (hag c).2.2.2.2.2]
        exact funext fun y => ProjMixRef.u_apply _ _ _ y), (h c).2.2.2.2⟩)
      (Cert.ProjMixReferenceIdeal.Value.run (F := Ideal) m' ρ')⟩

end ProjMixClaim

end
-- ==== Proof.CcSampleSpec.lean ====
/- The row function of the conformer's convolution on the sample: a window of 31 rows weighted tap by tap, the bias, the layer norm and the gate. -/
module

public import proofs.«01_k».proof.Proof.MergeSpec

@[expose] public section

noncomputable section

namespace Trunk

open Idealize.ShloMosaic

/-- An index of three coordinates is their triple. -/
theorem eq_ix3 {n k l : ℕ} (i : (⟨3, ![n, k, l]⟩ : Shape).Idx) (a : Fin n) (b : Fin k) (c : Fin l) (ha : i 0 = a) (hb : i 1 = b) (hc : i 2 = c) :
    i = ix3 a b c :=
  funext fun x => match x with | ⟨0, _⟩ => ha | ⟨1, _⟩ => hb | ⟨2, _⟩ => hc

/-- A request's rows: 30 of its history, then 8 of its own. -/
def ext (p : Fin 30 → Fin 1024 → EReal) (u : Fin 8 → Fin 1024 → EReal) (j : ℕ) (e : Fin 1024) : EReal :=
  if h : j < 30 then p ⟨j, h⟩ e else if h : j - 30 < 8 then u ⟨j - 30, h⟩ e else 0

/-- The convolution of row `t`: the 31 rows up to it, each weighted lane by lane, and the bias. -/
def conv (x : ℕ → Fin 1024 → EReal) (w : Fin 31 → Fin 1024 → EReal) (b : Fin 1024 → EReal) (t : ℕ) (e : Fin 1024) : EReal :=
  ∑ k : Fin 31, x (k.val + t) e * w k e + b e

/-- The convolution, normalised and gated. -/
def convRow (x : ℕ → Fin 1024 → EReal) (w : Fin 31 → Fin 1024 → EReal) (b g h : Fin 1024 → EReal) (t : ℕ) (e : Fin 1024) : EReal :=
  silu (norm (conv x w b t) g h e)

/-- Terms added to a start one after the other. -/
def taps (b : EReal) (f : ℕ → EReal) : ℕ → EReal
  | 0 => b
  | n + 1 => taps b f n + f n

theorem taps_eq (b : EReal) (f : ℕ → EReal) : ∀ n : ℕ, taps b f n = ∑ k : Fin n, f k.val + b
  | 0 => by simp [taps]
  | n + 1 => by
      rw [Fin.sum_univ_castSucc]
      unfold taps
      rw [taps_eq b f n, add_right_comm]
      rfl

end Trunk

end
-- ==== Proof.CcSamplePay.lean ====
/- The sample convolution kernel's stored value at a row and lane, from the bias, the weight rows and the shifted windows that the body loads. -/
module

public import proofs.«01_k».proof.Proof.CcSampleSpec
public import proofs.«01_k».proof.Proof.Gen.CcSampleIdeal.Skeleton

@[expose] public section

set_option maxRecDepth 65536

noncomputable section

namespace CcSampleRun

open Idealize.ShloMosaic Cert.CcSampleIdeal Cert.CcSampleIdeal.Gen

/-- One tap: a weight row times a window's row. The block's row `r` is row `r % 8` of request `r / 8`. -/
def tap (w : S1x1024.Idx → EReal) (x : S16x8x1024.Idx → EReal) (r : Fin 128) (e : Fin 1024) : EReal :=
  w (ix2 0 e) * x (ix3 ⟨r.val / 8, by have := r.isLt; omega⟩ ⟨r.val % 8, Nat.mod_lt _ (by decide)⟩ e)

theorem first_apply (b w0 : Vec Ideal S1x1024 .f32) (x0 : Vec Ideal S16x8x1024 .f32) (w1 : Vec Ideal S1x1024 .f32) (x1 : Vec Ideal S16x8x1024 .f32)
    (r : Fin 128) (e : Fin 1024) : k0_pay4 (F := Ideal) b w0 x0 w1 x1 (ix2 r e) = b (ix2 0 e) + tap w0 x0 r e + tap w1 x1 r e := by
  unfold k0_pay4
  rw [shapeCast_self _ _, shapeCast_self _ _]
  pointwise
  unfold tap
  with_reducible rfl

theorem next_apply (a : FVec Ideal S128x1024 .f32) (w0 : Vec Ideal S1x1024 .f32) (x0 : Vec Ideal S16x8x1024 .f32) (w1 : Vec Ideal S1x1024 .f32) (x1 : Vec Ideal S16x8x1024 .f32)
    (w2 : Vec Ideal S1x1024 .f32) (x2 : Vec Ideal S16x8x1024 .f32) (w3 : Vec Ideal S1x1024 .f32) (x3 : Vec Ideal S16x8x1024 .f32)
    (w4 : Vec Ideal S1x1024 .f32) (x4 : Vec Ideal S16x8x1024 .f32) (r : Fin 128) (e : Fin 1024) :
    k0_pay6 (F := Ideal) a (k0_pay5 w0) x0 w1 x1 w2 x2 w3 x3 w4 x4 (ix2 r e)
      = a (ix2 r e) + tap w0 x0 r e + tap w1 x1 r e + tap w2 x2 r e + tap w3 x3 r e + tap w4 x4 r e := by
  unfold k0_pay6 k0_pay5
  simp only [shapeCast_self]
  pointwise
  unfold tap
  with_reducible rfl

theorem last_apply (g h : Vec Ideal S1x1024 .f32) (a : FVec Ideal S128x1024 .f32) (w0 : Vec Ideal S1x1024 .f32) (x0 : Vec Ideal S16x8x1024 .f32)
    (w1 : Vec Ideal S1x1024 .f32) (x1 : Vec Ideal S16x8x1024 .f32) (w2 : Vec Ideal S1x1024 .f32) (x2 : Vec Ideal S16x8x1024 .f32)
    (w3 : Vec Ideal S1x1024 .f32) (x3 : Vec Ideal S16x8x1024 .f32) (r : Fin 128) (e : Fin 1024) :
    k0_pay1 (F := Ideal) g h (k0_pay16 a (k0_pay15 w0) x0 w1 x1 w2 x2 w3 x3) (k0_pay17 a (k0_pay15 w0) x0 w1 x1 w2 x2 w3 x3) k0_pay18 (ix2 r e)
      = Trunk.silu (Trunk.norm (fun e => a (ix2 r e) + tap w0 x0 r e + tap w1 x1 r e + tap w2 x2 r e + tap w3 x3 r e)
          (fun e => g (ix2 0 e)) (fun e => h (ix2 0 e)) e) := by
  unfold k0_pay1 k0_pay17 k0_pay16 k0_pay15 k0_pay18
  simp only [shapeCast_self]
  pointwise
  unfold tap Trunk.silu Trunk.norm Trunk.var Trunk.mean
  with_reducible rfl

end CcSampleRun

end
-- ==== Proof.CcSampleKernel.lean ====
/- What one launch point of the sample convolution kernel leaves in its output block: the convolution's row of each of its requests' rows. -/
module

public import proofs.«01_k».proof.Proof.CcSamplePay
public import proofs.«01_k».proof.Proof.Gen.CcSampleIdeal.Frame
public import Idealize.ShloMosaic.Lib.Pipeline.ValueKit
public import Idealize.ShloMosaic.Lib.Pipeline.Value

@[expose] public section

set_option maxRecDepth 65536

noncomputable section

namespace CcSampleRun

open Idealize.ShloMosaic Cert.CcSampleIdeal Cert.CcSampleIdeal.Gen Idealize.ShloMosaic.TcCoe Idealize.SL.Sem
open Trunk (eq_ix2 eq_ix3)

/-- The weight block's rows, and a request's rows in the body's buffer: 32 of the history block, then 8 of its own. -/
def W (x2 : S32x1024.Idx → EReal) (k : ℕ) (e : Fin 1024) : EReal := if h : k < 32 then x2 (ix2 ⟨k, h⟩ e) else 0
def B (x0 : S16x8x1024.Idx → EReal) (x1 : S16x32x1024.Idx → EReal) (a : Fin 16) (j : ℕ) (e : Fin 1024) : EReal :=
  if h : j < 32 then x1 (ix3 a ⟨j, h⟩ e) else if h : j - 32 < 8 then x0 (ix3 a ⟨j - 32, h⟩ e) else 0

/-- Tap `k` of a block's row. -/
def T (x0 : S16x8x1024.Idx → EReal) (x1 : S16x32x1024.Idx → EReal) (x2 : S32x1024.Idx → EReal) (r : Fin 128) (e : Fin 1024) (k : ℕ) : EReal :=
  W x2 k e * B x0 x1 ⟨r.val / 8, by have := r.isLt; omega⟩ (2 + k + r.val % 8) e

/-- What the launch point stores at a row and lane, from the point's blocks. -/
def G (x0 : Vec Ideal S16x8x1024 .f32) (x1 : Vec Ideal S16x32x1024 .f32) (x2 : Vec Ideal S32x1024 .f32) (x3 x4 x5 : Vec Ideal S1x1024 .f32) : Vec Ideal S128x1024 .bf16 := fun y =>
  Trunk.silu (Trunk.norm (fun e => Trunk.taps (x3 (ix2 0 e)) (T x0 x1 x2 (y 0) e) 31) (fun e => x4 (ix2 0 e)) (fun e => x5 (ix2 0 e)) (y 1))

variable (c : Dev nD) (arg1 : Memref sig .tc .vmem S16x8x1024 .f32) (harg1 : arg1.IsWhole) (arg2 : Memref sig .tc .vmem S16x32x1024 .f32) (harg2 : arg2.IsWhole)
    (arg3 : Memref sig .tc .vmem S32x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1024 .f32) (harg6 : arg6.IsWhole)
    (arg8 : Memref sig .tc .vmem S16x40x1024 .f32)
    (x0 : Vec Ideal S16x8x1024 .f32) (x1 : Vec Ideal S16x32x1024 .f32) (x2 : Vec Ideal S32x1024 .f32) (x3 x4 x5 : Vec Ideal S1x1024 .f32)

/-- A load of a staged array reads its entries. -/
theorem readAt_unread {κ : Kind} {sp : Space} {e : EltTy} {S : Shape} (a : Memref sig κ sp S e) (ha : a.IsWhole) (x : S.Idx → Elt Ideal e) (r : Rect S) (y) :
    View.readAt (Elt Ideal) a.view r.toLoadRect (ha.unread x) y = x (r.emb y) :=
  congrFun (ha.read_unread x) _

theorem lane_apply (a : Memref sig .tc .vmem S1x1024 .f32) (ha : a.IsWhole) (x : Vec Ideal S1x1024 .f32) (k : Fin 1024) :
    View.readAt (Elt Ideal) a.view (Rect.unit (s := S1x1024) ![0, 0] S1x1024.size inb_S1x1024_S1x1024_0_0).toLoadRect (ha.unread x) (ix2 0 k) = x (ix2 0 k) :=
  (readAt_unread a ha x _ _).trans (congrArg x (eq_ix2 _ _ _ rfl (Fin.ext (by show 0 + 1 * k.val = k.val; omega))))

/-- The weight row loaded from row `k`. -/
abbrev rowAt (k : ℕ) (inb : ∀ a, (![k, 0] : Fin 2 → ℕ) a + S1x1024.size a ≤ S32x1024.size a) : Vec Ideal S1x1024 .f32 :=
  View.readAt (Elt Ideal) arg3.view (Rect.unit (s := S32x1024) ![k, 0] S1x1024.size inb).toLoadRect (harg3.unread x2)

theorem rowAt_apply (k : ℕ) (inb) (e : Fin 1024) : rowAt arg3 harg3 x2 k inb (ix2 0 e) = W x2 k e := by
  have hk : k < 32 := by have h : k + 1 ≤ 32 := inb 0; omega
  unfold W
  rw [dif_pos hk]
  exact (readAt_unread arg3 harg3 x2 _ _).trans (congrArg x2 (eq_ix2 _ _ _ (Fin.ext (by show k + 1 * 0 = k; omega)) (Fin.ext (by show 0 + 1 * e.val = e.val; omega))))

/-- The two blocks are stored as they are loaded. -/
theorem history_eq (v : Vec Ideal S16x32x1024 .f32) : k0_pay2 (F := Ideal) v = v := by
  unfold k0_pay2
  exact (shapeCast_self _ _).trans (shapeCast_self _ _)
theorem own_eq (v : Vec Ideal S16x8x1024 .f32) : k0_pay3 (F := Ideal) v = v := by
  unfold k0_pay3
  exact shapeCast_self _ _

/-- The buffer's contents. -/
abbrev held : Vec Ideal S16x40x1024 .f32 := fun y => B x0 x1 (y 0) (y 1).val (y 2)

/-- The window of 8 rows of every request loaded from row `o` of the buffer. -/
abbrev winAt (o : ℕ) (inb : ∀ a, (![0, o, 0] : Fin 3 → ℕ) a + S16x8x1024.size a ≤ S16x40x1024.size a) : Vec Ideal S16x8x1024 .f32 :=
  arg8.view.readCov (kernelRun0_A.sl.HS0_2 (F := Ideal) c arg1 harg1 arg2 harg2 x0 x1) (Rect.unit (s := S16x40x1024) ![0, o, 0] S16x8x1024.size inb).toLoadRect

theorem canon_apply (y : S16x40x1024.Idx) : View.canon (Val := Elt Ideal) (kernelRun0_A.sl.HS0_2 (F := Ideal) c arg1 harg1 arg2 harg2 x0 x1) y = held x0 x1 y := by
  have h0 : (y 0).val < 16 := (y 0).isLt
  have h1 : (y 1).val < 40 := (y 1).isLt
  have h2 : (y 2).val < 1024 := (y 2).isLt
  unfold kernelRun0_A.sl.HS0_2
  refine View.canon_apply_of_pieces (Val := Elt Ideal) (held x0 x1) _ ?_ y ?_
  · simp only [List.forall_mem_cons, List.not_mem_nil, false_implies, implies_true, and_true]
    refine ⟨fun x => ?_, fun x => ?_⟩
    · have hx : (x 1).val < 8 := (x 1).isLt
      refine (congrFun (own_eq _) x).trans ?_
      show _ = B x0 x1 _ (32 + 1 * (x 1).val) _
      unfold B
      rw [dif_neg (by omega), dif_pos (by omega)]
      exact (readAt_unread arg1 harg1 x0 _ _).trans (congrArg x0 (eq_ix3 _ _ _ _ rfl (Fin.ext (by show 0 + 1 * (x 1).val = 32 + 1 * (x 1).val - 32; omega)) rfl))
    · have hx : (x 1).val < 32 := (x 1).isLt
      refine (congrFun (history_eq _) x).trans ?_
      show _ = B x0 x1 _ (0 + 1 * (x 1).val) _
      unfold B
      rw [dif_pos (by omega)]
      exact (readAt_unread arg2 harg2 x1 _ _).trans (congrArg x1 (eq_ix3 _ _ _ _ rfl rfl rfl))
  · by_cases hy : (y 1).val < 32
    · refine ⟨_, List.mem_cons_of_mem _ (List.mem_cons_self ..), ?_⟩
      rw [Rect.mem_set_unit]
      intro a
      match a with
      | ⟨0, _⟩ => exact ⟨Nat.zero_le _, by show (y 0).val < 0 + 16; omega⟩
      | ⟨1, _⟩ => exact ⟨Nat.zero_le _, by show (y 1).val < 0 + 32; omega⟩
      | ⟨2, _⟩ => exact ⟨Nat.zero_le _, by show (y 2).val < 0 + 1024; omega⟩
    · refine ⟨_, List.mem_cons_self .., ?_⟩
      rw [Rect.mem_set_unit]
      intro a
      match a with
      | ⟨0, _⟩ => exact ⟨Nat.zero_le _, by show (y 0).val < 0 + 16; omega⟩
      | ⟨1, _⟩ => exact ⟨by show 32 ≤ (y 1).val; omega, by show (y 1).val < 32 + 8; omega⟩
      | ⟨2, _⟩ => exact ⟨Nat.zero_le _, by show (y 2).val < 0 + 1024; omega⟩

theorem winAt_apply (o : ℕ) (inb) (a : Fin 16) (t : Fin 8) (e : Fin 1024) : winAt c arg1 harg1 arg2 harg2 arg8 x0 x1 o inb (ix3 a t e) = B x0 x1 a (o + t.val) e := by
  unfold winAt
  rw [View.readCov_eq_canon']
  refine (canon_apply c arg1 harg1 arg2 harg2 x0 x1 _).trans ?_
  show B x0 x1 _ (o + 1 * t.val) _ = _
  rw [Nat.one_mul]
  exact congrArg₂ (fun a e => B x0 x1 a (o + t.val) e) (Fin.ext (by show 0 + 1 * a.val = a.val; omega)) (Fin.ext (by show 0 + 1 * e.val = e.val; omega))

/-- A loaded row times a loaded window is the tap. -/
theorem tap_eq (k o : ℕ) (ho : o = 2 + k) (ia ib) (r : Fin 128) (e : Fin 1024) :
    tap (rowAt arg3 harg3 x2 k ia) (winAt c arg1 harg1 arg2 harg2 arg8 x0 x1 o ib) r e = T x0 x1 x2 r e k := by
  subst ho
  unfold tap T
  rw [rowAt_apply, winAt_apply]

/-- A value holds the bias and the first `n` taps of every row. -/
def Held (n : ℕ) (acc : FVec Ideal S128x1024 .f32) : Prop := ∀ r e, acc (ix2 r e) = Trunk.taps (x3 (ix2 0 e)) (T x0 x1 x2 r e) n

/-- Five more taps. -/
theorem step (n k1 k2 k3 k4 o0 o1 o2 o3 o4 : ℕ) (h1 : k1 = n + 1) (h2 : k2 = n + 2) (h3 : k3 = n + 3) (h4 : k4 = n + 4)
    (g0 : o0 = 2 + n) (g1 : o1 = 2 + k1) (g2 : o2 = 2 + k2) (g3 : o3 = 2 + k3) (g4 : o4 = 2 + k4) (a0 a1 a2 a3 a4 b0 b1 b2 b3 b4)
    (acc : FVec Ideal S128x1024 .f32) (h : Held x0 x1 x2 x3 n acc) :
    Held x0 x1 x2 x3 (n + 5) (k0_pay6 (F := Ideal) acc (k0_pay5 (rowAt arg3 harg3 x2 n a0)) (winAt c arg1 harg1 arg2 harg2 arg8 x0 x1 o0 b0)
      (rowAt arg3 harg3 x2 k1 a1) (winAt c arg1 harg1 arg2 harg2 arg8 x0 x1 o1 b1) (rowAt arg3 harg3 x2 k2 a2) (winAt c arg1 harg1 arg2 harg2 arg8 x0 x1 o2 b2)
      (rowAt arg3 harg3 x2 k3 a3) (winAt c arg1 harg1 arg2 harg2 arg8 x0 x1 o3 b3) (rowAt arg3 harg3 x2 k4 a4) (winAt c arg1 harg1 arg2 harg2 arg8 x0 x1 o4 b4)) := fun r e => by
  rw [next_apply, h r e, tap_eq c arg1 harg1 arg2 harg2 arg3 harg3 arg8 x0 x1 x2 n o0 g0, tap_eq c arg1 harg1 arg2 harg2 arg3 harg3 arg8 x0 x1 x2 k1 o1 g1,
    tap_eq c arg1 harg1 arg2 harg2 arg3 harg3 arg8 x0 x1 x2 k2 o2 g2, tap_eq c arg1 harg1 arg2 harg2 arg3 harg3 arg8 x0 x1 x2 k3 o3 g3,
    tap_eq c arg1 harg1 arg2 harg2 arg3 harg3 arg8 x0 x1 x2 k4 o4 g4]
  subst h1 h2 h3 h4
  rfl

/-! The sum after each part of the body. -/

theorem held2 : Held x0 x1 x2 x3 2 (kernelRun0_A.sl.r (F := Ideal) c arg1 harg1 arg2 harg2 arg3 harg3 arg4 harg4 arg8 x0 x1 x2 x3) := fun r e => by
  refine (first_apply _ (rowAt arg3 harg3 x2 0 inb_S32x1024_S1x1024_0_0) (winAt c arg1 harg1 arg2 harg2 arg8 x0 x1 2 inb_S16x40x1024_S16x8x1024_0_2_0)
    (rowAt arg3 harg3 x2 1 inb_S32x1024_S1x1024_1_0) (winAt c arg1 harg1 arg2 harg2 arg8 x0 x1 3 inb_S16x40x1024_S16x8x1024_0_3_0) r e).trans ?_
  rw [lane_apply, tap_eq c arg1 harg1 arg2 harg2 arg3 harg3 arg8 x0 x1 x2 0 2 rfl, tap_eq c arg1 harg1 arg2 harg2 arg3 harg3 arg8 x0 x1 x2 1 3 rfl]
  rfl

theorem held7 : Held x0 x1 x2 x3 7 (kernelRun0_A.sl.r_2 (F := Ideal) c arg1 harg1 arg2 harg2 arg3 harg3 arg4 harg4 arg8 x0 x1 x2 x3) :=
  step c arg1 harg1 arg2 harg2 arg3 harg3 arg8 x0 x1 x2 x3 2 3 4 5 6 4 5 6 7 8 rfl rfl rfl rfl rfl rfl rfl rfl rfl
    inb_S32x1024_S1x1024_2_0 inb_S32x1024_S1x1024_3_0 inb_S32x1024_S1x1024_4_0 inb_S32x1024_S1x1024_5_0 inb_S32x1024_S1x1024_6_0
    inb_S16x40x1024_S16x8x1024_0_4_0 inb_S16x40x1024_S16x8x1024_0_5_0 inb_S16x40x1024_S16x8x1024_0_6_0 inb_S16x40x1024_S16x8x1024_0_7_0 inb_S16x40x1024_S16x8x1024_0_8_0 _
    (held2 c arg1 harg1 arg2 harg2 arg3 harg3 arg4 harg4 arg8 x0 x1 x2 x3)

theorem held12 : Held x0 x1 x2 x3 12 (kernelRun0_A.sl.r_4 (F := Ideal) c arg1 harg1 arg2 harg2 arg3 harg3 arg4 harg4 arg8 x0 x1 x2 x3) :=
  step c arg1 harg1 arg2 harg2 arg3 harg3 arg8 x0 x1 x2 x3 7 8 9 10 11 9 10 11 12 13 rfl rfl rfl rfl rfl rfl rfl rfl rfl
    inb_S32x1024_S1x1024_7_0 inb_S32x1024_S1x1024_8_0 inb_S32x1024_S1x1024_9_0 inb_S32x1024_S1x1024_10_0 inb_S32x1024_S1x1024_11_0
    inb_S16x40x1024_S16x8x1024_0_9_0 inb_S16x40x1024_S16x8x1024_0_10_0 inb_S16x40x1024_S16x8x1024_0_11_0 inb_S16x40x1024_S16x8x1024_0_12_0 inb_S16x40x1024_S16x8x1024_0_13_0 _
    (held7 c arg1 harg1 arg2 harg2 arg3 harg3 arg4 harg4 arg8 x0 x1 x2 x3)

theorem held17 : Held x0 x1 x2 x3 17 (kernelRun0_A.sl.r_6 (F := Ideal) c arg1 harg1 arg2 harg2 arg3 harg3 arg4 harg4 arg8 x0 x1 x2 x3) :=
  step c arg1 harg1 arg2 harg2 arg3 harg3 arg8 x0 x1 x2 x3 12 13 14 15 16 14 15 16 17 18 rfl rfl rfl rfl rfl rfl rfl rfl rfl
    inb_S32x1024_S1x1024_12_0 inb_S32x1024_S1x1024_13_0 inb_S32x1024_S1x1024_14_0 inb_S32x1024_S1x1024_15_0 inb_S32x1024_S1x1024_16_0
    inb_S16x40x1024_S16x8x1024_0_14_0 inb_S16x40x1024_S16x8x1024_0_15_0 inb_S16x40x1024_S16x8x1024_0_16_0 inb_S16x40x1024_S16x8x1024_0_17_0 inb_S16x40x1024_S16x8x1024_0_18_0 _
    (held12 c arg1 harg1 arg2 harg2 arg3 harg3 arg4 harg4 arg8 x0 x1 x2 x3)

theorem held22 : Held x0 x1 x2 x3 22 (kernelRun0_A.sl.r_8 (F := Ideal) c arg1 harg1 arg2 harg2 arg3 harg3 arg4 harg4 arg8 x0 x1 x2 x3) :=
  step c arg1 harg1 arg2 harg2 arg3 harg3 arg8 x0 x1 x2 x3 17 18 19 20 21 19 20 21 22 23 rfl rfl rfl rfl rfl rfl rfl rfl rfl
    inb_S32x1024_S1x1024_17_0 inb_S32x1024_S1x1024_18_0 inb_S32x1024_S1x1024_19_0 inb_S32x1024_S1x1024_20_0 inb_S32x1024_S1x1024_21_0
    inb_S16x40x1024_S16x8x1024_0_19_0 inb_S16x40x1024_S16x8x1024_0_20_0 inb_S16x40x1024_S16x8x1024_0_21_0 inb_S16x40x1024_S16x8x1024_0_22_0 inb_S16x40x1024_S16x8x1024_0_23_0 _
    (held17 c arg1 harg1 arg2 harg2 arg3 harg3 arg4 harg4 arg8 x0 x1 x2 x3)

theorem held27 : Held x0 x1 x2 x3 27 (kernelRun0_A.sl.r_10 (F := Ideal) c arg1 harg1 arg2 harg2 arg3 harg3 arg4 harg4 arg8 x0 x1 x2 x3) :=
  step c arg1 harg1 arg2 harg2 arg3 harg3 arg8 x0 x1 x2 x3 22 23 24 25 26 24 25 26 27 28 rfl rfl rfl rfl rfl rfl rfl rfl rfl
    inb_S32x1024_S1x1024_22_0 inb_S32x1024_S1x1024_23_0 inb_S32x1024_S1x1024_24_0 inb_S32x1024_S1x1024_25_0 inb_S32x1024_S1x1024_26_0
    inb_S16x40x1024_S16x8x1024_0_24_0 inb_S16x40x1024_S16x8x1024_0_25_0 inb_S16x40x1024_S16x8x1024_0_26_0 inb_S16x40x1024_S16x8x1024_0_27_0 inb_S16x40x1024_S16x8x1024_0_28_0 _
    (held22 c arg1 harg1 arg2 harg2 arg3 harg3 arg4 harg4 arg8 x0 x1 x2 x3)

/-- The stored block. -/
theorem stored (y : S128x1024.Idx) :
    k0_pay1 (F := Ideal) (kernelRun0_A.sl.r_12 c arg5 harg5 x4) (kernelRun0_A.sl.r_13 c arg6 harg6 x5)
      (kernelRun0_A.sl.r_14 c arg1 harg1 arg2 harg2 arg3 harg3 arg4 harg4 arg8 x0 x1 x2 x3)
      (kernelRun0_A.sl.r_15 c arg1 harg1 arg2 harg2 arg3 harg3 arg4 harg4 arg8 x0 x1 x2 x3) k0_pay18 y = G x0 x1 x2 x3 x4 x5 y := by
  obtain ⟨r, e, rfl⟩ : ∃ (r : Fin 128) (e : Fin 1024), y = ix2 r e := ⟨y 0, y 1, eq_ix2 _ _ _ rfl rfl⟩
  refine (last_apply _ _ (kernelRun0_A.sl.r_10 (F := Ideal) c arg1 harg1 arg2 harg2 arg3 harg3 arg4 harg4 arg8 x0 x1 x2 x3)
    (rowAt arg3 harg3 x2 27 inb_S32x1024_S1x1024_27_0) (winAt c arg1 harg1 arg2 harg2 arg8 x0 x1 29 inb_S16x40x1024_S16x8x1024_0_29_0)
    (rowAt arg3 harg3 x2 28 inb_S32x1024_S1x1024_28_0) (winAt c arg1 harg1 arg2 harg2 arg8 x0 x1 30 inb_S16x40x1024_S16x8x1024_0_30_0)
    (rowAt arg3 harg3 x2 29 inb_S32x1024_S1x1024_29_0) (winAt c arg1 harg1 arg2 harg2 arg8 x0 x1 31 inb_S16x40x1024_S16x8x1024_0_31_0)
    (rowAt arg3 harg3 x2 30 inb_S32x1024_S1x1024_30_0) (winAt c arg1 harg1 arg2 harg2 arg8 x0 x1 32 inb_S16x40x1024_S16x8x1024_0_32_0) r e).trans ?_
  have hsum : ∀ e, (kernelRun0_A.sl.r_10 (F := Ideal) c arg1 harg1 arg2 harg2 arg3 harg3 arg4 harg4 arg8 x0 x1 x2 x3 (ix2 r e) : EReal)
      + tap (rowAt arg3 harg3 x2 27 inb_S32x1024_S1x1024_27_0) (winAt c arg1 harg1 arg2 harg2 arg8 x0 x1 29 inb_S16x40x1024_S16x8x1024_0_29_0) r e
      + tap (rowAt arg3 harg3 x2 28 inb_S32x1024_S1x1024_28_0) (winAt c arg1 harg1 arg2 harg2 arg8 x0 x1 30 inb_S16x40x1024_S16x8x1024_0_30_0) r e
      + tap (rowAt arg3 harg3 x2 29 inb_S32x1024_S1x1024_29_0) (winAt c arg1 harg1 arg2 harg2 arg8 x0 x1 31 inb_S16x40x1024_S16x8x1024_0_31_0) r e
      + tap (rowAt arg3 harg3 x2 30 inb_S32x1024_S1x1024_30_0) (winAt c arg1 harg1 arg2 harg2 arg8 x0 x1 32 inb_S16x40x1024_S16x8x1024_0_32_0) r e
      = Trunk.taps (x3 (ix2 0 e)) (T x0 x1 x2 r e) 31 := fun e => by
    rw [held27 c arg1 harg1 arg2 harg2 arg3 harg3 arg4 harg4 arg8 x0 x1 x2 x3 r e, tap_eq c arg1 harg1 arg2 harg2 arg3 harg3 arg8 x0 x1 x2 27 29 rfl,
      tap_eq c arg1 harg1 arg2 harg2 arg3 harg3 arg8 x0 x1 x2 28 30 rfl, tap_eq c arg1 harg1 arg2 harg2 arg3 harg3 arg8 x0 x1 x2 29 31 rfl,
      tap_eq c arg1 harg1 arg2 harg2 arg3 harg3 arg8 x0 x1 x2 30 32 rfl]
    rfl
  rw [funext hsum]
  exact congrArg₂ (fun g h => Trunk.silu (Trunk.norm _ g h e)) (funext fun k => lane_apply arg5 harg5 x4 k) (funext fun k => lane_apply arg6 harg6 x5 k)

theorem out_apply (i : grid0.Coords) (arg7 : Memref sig .tc .vmem S128x1024 .bf16) (harg7 : arg7.IsWhole) (harg8 : arg8.IsWhole) (y : S128x1024.Idx) :
    out0_A_6 (F := Ideal) c i arg1 harg1 arg2 harg2 arg3 harg3 arg4 harg4 arg5 harg5 arg6 harg6 arg7 harg7 arg8 harg8 x0 x1 x2 x3 x4 x5 y = G x0 x1 x2 x3 x4 x5 y := by
  unfold out0_A_6 kernelRun0_A
  rw [View.read_writes_junk_eq_canon]
  refine (congrFun (View.canon_cons_unit_lit' (S := S128x1024) inb_S128x1024_S128x1024_0_0 _ [] (by decide)) y).trans ?_
  exact stored c arg1 harg1 arg2 harg2 arg3 harg3 arg4 harg4 arg5 harg5 arg6 harg6 arg8 x0 x1 x2 x3 x4 x5 y

end CcSampleRun

end
-- ==== Proof.CcSampleArray.lean ====
/- The sample convolution kernel's result array: every launch point writes its requests' rows. -/
module

public import proofs.«01_k».proof.Proof.CcSampleKernel
public import proofs.«01_k».proof.Proof.Gen.CcSampleIdeal.Value
public import Idealize.ShloMosaic.Lib.StableHlo.RunRead

@[expose] public section

set_option maxRecDepth 65536

noncomputable section

namespace CcSampleRun

open Idealize.ShloMosaic Cert.CcSampleIdeal Cert.CcSampleIdeal.Gen Idealize.ShloMosaic.TcCoe Idealize.SL.Sem
open Idealize.ShloMosaic.Pipeline (Dat)
open Trunk (eq_ix2 eq_ix3)

/-- The convolution of every row, as one function of the six arrays. -/
def block_of (x0 : S128x8x1024.Idx → EReal) (x1 : S128x30x1024.Idx → EReal) (x2 : S31x1024.Idx → EReal) (x3 x4 x5 : S1x1024.Idx → EReal) (y : S1024x1024.Idx) : EReal :=
  Trunk.convRow (Trunk.ext (fun j e => x1 (ix3 ⟨(y 0).val / 8, by have h : (y 0).val < 1024 := (y 0).isLt; omega⟩ j e)) (fun j e => x0 (ix3 ⟨(y 0).val / 8, by have h : (y 0).val < 1024 := (y 0).isLt; omega⟩ j e)))
    (fun k e => x2 (ix2 k e)) (fun e => x3 (ix2 0 e)) (fun e => x4 (ix2 0 e)) (fun e => x5 (ix2 0 e)) ((y 0).val % 8) (y 1)

variable (m : (ℓ : Loc nD τ sig) → Buf (Elt Ideal) ℓ)

/-- The history and the weights as the host pads them, at the rows that are theirs. -/
theorem padded_history (c : Dev nD) (i : Fin 128) (j : Fin 32) (e : Fin 1024) (h : 2 ≤ j.val) :
    V m c main_v0 (ix3 i j e : S128x32x1024.Idx) = m ((c : Thread nD τ).loc main_arg1) (ix3 i ⟨j.val - 2, by have := j.isLt; omega⟩ e : S128x30x1024.Idx) := by
  have hi := i.isLt
  have hj := j.isLt
  have he := e.isLt
  unfold V
  after_reads_simp
  refine (dif_pos (fun a => ?_)).trans ?_
  · match a with
    | ⟨0, _⟩ => exact ⟨Nat.zero_le _, Nat.mod_one _, by show (i.val - 0) / 1 < 128; omega⟩
    | ⟨1, _⟩ => exact ⟨h, Nat.mod_one _, by show (j.val - 2) / 1 < 30; omega⟩
    | ⟨2, _⟩ => exact ⟨Nat.zero_le _, Nat.mod_one _, by show (e.val - 0) / 1 < 1024; omega⟩
  · exact congrArg (m ((c : Thread nD τ).loc main_arg1)) (eq_ix3 _ _ _ _ (Fin.ext (Nat.div_one _)) (Fin.ext (Nat.div_one _)) (Fin.ext (Nat.div_one _)))

theorem padded_weights (c : Dev nD) (k : Fin 32) (e : Fin 1024) (h : k.val < 31) :
    V m c main_v1 (ix2 k e : S32x1024.Idx) = m ((c : Thread nD τ).loc main_arg2) (ix2 ⟨k.val, h⟩ e : S31x1024.Idx) := by
  have he := e.isLt
  unfold V
  after_reads_simp
  refine (dif_pos (fun a => ?_)).trans ?_
  · match a with
    | ⟨0, _⟩ => exact ⟨Nat.zero_le _, Nat.mod_one _, by show (k.val - 0) / 1 < 31; omega⟩
    | ⟨1, _⟩ => exact ⟨Nat.zero_le _, Nat.mod_one _, by show (e.val - 0) / 1 < 1024; omega⟩
  · exact congrArg (m ((c : Thread nD τ).loc main_arg2)) (eq_ix2 _ _ _ (Fin.ext (Nat.div_one _)) (Fin.ext (Nat.div_one _)))

theorem index_facts : ∀ t : Fin grid0.N, (win0_0.index t 0 = t.val ∧ win0_0.index t 1 = 0 ∧ win0_0.index t 2 = 0)
    ∧ (win0_1.index t 0 = t.val ∧ win0_1.index t 1 = 0 ∧ win0_1.index t 2 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0) ∧ win0_6.xsize (grid0.coords t) 0 = 128 ∧ win0_6.xsize (grid0.coords t) 1 = 1024 := by
  decide +kernel

theorem blk_lt (t : Fin cfg0.N) : t.val < 8 := by have := t.isLt; have hN : cfg0.N = 8 := N_0; omega

/-- The request under a block's request, and the array row under a block's row. -/
abbrev request (t : Fin cfg0.N) (a : Fin 16) : Fin 128 := ⟨t.val * 16 + a.val, by have h := blk_lt t; have := a.isLt; omega⟩
abbrev under (t : Fin cfg0.N) (r : Fin 128) : Fin 1024 := ⟨t.val * 128 + r.val, by have h := blk_lt t; have := r.isLt; omega⟩

theorem at_block {i n s v : ℕ} (t : Fin cfg0.N) (r : Fin s) (hi : i = t.val) (h : i * s + 1 * r.val < n) (hv : v < n) (e : v = t.val * s + r.val) :
    (⟨i * s + 1 * r.val, h⟩ : Fin n) = ⟨v, hv⟩ := Fin.ext (by show i * s + 1 * r.val = v; rw [hi, e, Nat.one_mul])
theorem at_whole {i n : ℕ} (k : Fin n) (hi : i = 0) (h : i * n + 1 * k.val < n) : (⟨i * n + 1 * k.val, h⟩ : Fin n) = k :=
  Fin.ext (by show i * n + 1 * k.val = k.val; rw [hi, Nat.zero_mul, Nat.zero_add, Nat.one_mul])

theorem iblk0_apply (c : Dev nD) (t : Fin cfg0.N) (a : Fin 16) (j : Fin 8) (e : Fin 1024) :
    iblk m c 0 t (ix3 a j e : S16x8x1024.Idx) = m ((c : Thread nD τ).loc main_arg0) (ix3 (request t a) j e : S128x8x1024.Idx) :=
  (congrArg (V m c main_arg0) (eq_ix3 _ _ _ _ (at_block t a (index_facts t).1.1 _ _ rfl) (at_whole j (index_facts t).1.2.1 _) (at_whole e (index_facts t).1.2.2 _))).trans (congrFun (V_main_arg0 m c) _)
theorem iblk1_apply (c : Dev nD) (t : Fin cfg0.N) (a : Fin 16) (j : Fin 32) (e : Fin 1024) (h : 2 ≤ j.val) :
    iblk m c 1 t (ix3 a j e : S16x32x1024.Idx) = m ((c : Thread nD τ).loc main_arg1) (ix3 (request t a) ⟨j.val - 2, by have := j.isLt; omega⟩ e : S128x30x1024.Idx) :=
  (congrArg (V m c main_v0) (eq_ix3 _ _ _ _ (at_block t a (index_facts t).2.1.1 _ _ rfl) (at_whole j (index_facts t).2.1.2.1 _) (at_whole e (index_facts t).2.1.2.2 _))).trans (padded_history m c _ j e h)
theorem iblk2_apply (c : Dev nD) (t : Fin cfg0.N) (k : Fin 32) (e : Fin 1024) (h : k.val < 31) :
    iblk m c 2 t (ix2 k e : S32x1024.Idx) = m ((c : Thread nD τ).loc main_arg2) (ix2 ⟨k.val, h⟩ e : S31x1024.Idx) :=
  (congrArg (V m c main_v1) (eq_ix2 _ _ _ (at_whole k (index_facts t).2.2.1.1 _) (at_whole e (index_facts t).2.2.1.2 _))).trans (padded_weights m c k e h)
theorem iblk3_apply (c : Dev nD) (t : Fin cfg0.N) (e : Fin 1024) :
    iblk m c 3 t (ix2 0 e : S1x1024.Idx) = m ((c : Thread nD τ).loc main_arg3) (ix2 0 e : S1x1024.Idx) :=
  (congrArg (V m c main_arg3) (eq_ix2 _ _ _ (at_whole (0 : Fin 1) (index_facts t).2.2.2.1.1 _) (at_whole e (index_facts t).2.2.2.1.2 _))).trans (congrFun (V_main_arg3 m c) _)
theorem iblk4_apply (c : Dev nD) (t : Fin cfg0.N) (e : Fin 1024) :
    iblk m c 4 t (ix2 0 e : S1x1024.Idx) = m ((c : Thread nD τ).loc main_arg4) (ix2 0 e : S1x1024.Idx) :=
  (congrArg (V m c main_arg4) (eq_ix2 _ _ _ (at_whole (0 : Fin 1) (index_facts t).2.2.2.2.1.1 _) (at_whole e (index_facts t).2.2.2.2.1.2 _))).trans (congrFun (V_main_arg4 m c) _)
theorem iblk5_apply (c : Dev nD) (t : Fin cfg0.N) (e : Fin 1024) :
    iblk m c 5 t (ix2 0 e : S1x1024.Idx) = m ((c : Thread nD τ).loc main_arg5) (ix2 0 e : S1x1024.Idx) :=
  (congrArg (V m c main_arg5) (eq_ix2 _ _ _ (at_whole (0 : Fin 1) (index_facts t).2.2.2.2.2.1.1 _) (at_whole e (index_facts t).2.2.2.2.2.1.2 _))).trans (congrFun (V_main_arg5 m c) _)

/-- A request's history and own rows. -/
abbrev hist (c : Dev nD) (q : Fin 128) : Fin 30 → Fin 1024 → EReal := fun j e => m ((c : Thread nD τ).loc main_arg1) (ix3 q j e : S128x30x1024.Idx)
abbrev own (c : Dev nD) (q : Fin 128) : Fin 8 → Fin 1024 → EReal := fun j e => m ((c : Thread nD τ).loc main_arg0) (ix3 q j e : S128x8x1024.Idx)

/-- The buffer two rows further is the history followed by the request's own rows. -/
theorem buffer_eq (c : Dev nD) (t : Fin cfg0.N) (a : Fin 16) (j : ℕ) (e : Fin 1024) :
    B (iblk m c 0 t) (iblk m c 1 t) a (2 + j) e = Trunk.ext (hist m c (request t a)) (own m c (request t a)) j e := by
  unfold B Trunk.ext
  by_cases h : j < 30
  · rw [dif_pos h, dif_pos (by omega)]
    refine (iblk1_apply m c t a ⟨2 + j, by omega⟩ e (by show 2 ≤ 2 + j; omega)).trans ?_
    exact congrArg (fun j => hist m c (request t a) j e) (Fin.ext (by show 2 + j - 2 = j; omega))
  · rw [dif_neg h, dif_neg (by omega)]
    by_cases h' : j - 30 < 8
    · rw [dif_pos h', dif_pos (by omega)]
      refine (iblk0_apply m c t a ⟨2 + j - 32, by omega⟩ e).trans ?_
      exact congrArg (fun j => own m c (request t a) j e) (Fin.ext (by show 2 + j - 32 = j - 30; omega))
    · rw [dif_neg h', dif_neg (by omega)]

/-- A block row's taps are the convolution of its array row. -/
theorem taps_conv (c : Dev nD) (t : Fin cfg0.N) (r : Fin 128) (e : Fin 1024) (q : Fin 128) (hq : q = request t ⟨r.val / 8, by have := r.isLt; omega⟩) :
    Trunk.taps (iblk m c 3 t (ix2 0 e : S1x1024.Idx)) (T (iblk m c 0 t) (iblk m c 1 t) (iblk m c 2 t) r e) 31
      = Trunk.conv (Trunk.ext (hist m c q) (own m c q)) (fun k e => m ((c : Thread nD τ).loc main_arg2) (ix2 k e : S31x1024.Idx))
          (fun e => m ((c : Thread nD τ).loc main_arg3) (ix2 0 e : S1x1024.Idx)) (r.val % 8) e := by
  subst hq
  rw [Trunk.taps_eq]
  unfold Trunk.conv
  refine congrArg₂ (· + ·) (Finset.sum_congr rfl fun k _ => ?_) (iblk3_apply m c t e)
  have hk := k.isLt
  have hw : W (iblk m c 2 t) k.val e = m ((c : Thread nD τ).loc main_arg2) (ix2 k e : S31x1024.Idx) := by
    unfold W
    rw [dif_pos (by omega)]
    exact iblk2_apply m c t ⟨k.val, by omega⟩ e hk
  unfold T
  rw [hw, Nat.add_assoc, buffer_eq, mul_comm]

/-- The result array. -/
abbrev GA (c : Dev nD) : Buf (Elt Ideal) ((c : Thread nD τ).loc main_v2) :=
  block_of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem mem_blk (t : Fin cfg0.N) (i : S1024x1024.Idx) (h0 : (i 0).val / 128 = t.val) : i ∈ ((cfg0.win 6).blk t).view.set := by
  show i ∈ ((View.whole main_v2).slice (win0_6.rect t)).set
  rw [View.set_slice_whole, Rect.mem_set_unit]
  have e := (index_facts t).2.2.2.2.2.2
  have h1 : (i 1).val < 1024 := (i 1).isLt
  intro a
  match a with
  | ⟨0, _⟩ =>
    show win0_6.index t 0 * 128 ≤ (i 0 : ℕ) ∧ (i 0 : ℕ) < win0_6.index t 0 * 128 + win0_6.xsize (grid0.coords t) 0
    rw [e.1.1, e.2.1]; omega
  | ⟨1, _⟩ =>
    show win0_6.index t 1 * 1024 ≤ (i 1 : ℕ) ∧ (i 1 : ℕ) < win0_6.index t 1 * 1024 + win0_6.xsize (grid0.coords t) 1
    rw [e.1.2, e.2.2]; omega

theorem block_eq (c : Dev nD) (t : Fin cfg0.N) (r : Fin 128) (e : Fin 1024) :
    G (iblk m c 0 t) (iblk m c 1 t) (iblk m c 2 t) (iblk m c 3 t) (iblk m c 4 t) (iblk m c 5 t) (ix2 r e) = GA m c (ix2 (under t r) e) := by
  have hr := r.isLt
  have ht := blk_lt t
  have h8 : (under t r).val % 8 = r.val % 8 := by show (t.val * 128 + r.val) % 8 = r.val % 8; omega
  show Trunk.silu (Trunk.norm _ _ _ e) = Trunk.silu (Trunk.norm (Trunk.conv _ _ _ ((under t r).val % 8)) _ _ e)
  rw [h8]
  refine congrArg Trunk.silu ?_
  have hc := funext fun e => taps_conv m c t r e ⟨(under t r).val / 8, by have := (under t r).isLt; omega⟩ (Fin.ext (by show (t.val * 128 + r.val) / 8 = t.val * 16 + r.val / 8; omega))
  have hg : (fun e => iblk m c 4 t (ix2 0 e : S1x1024.Idx)) = fun e => m ((c : Thread nD τ).loc main_arg4) (ix2 0 e : S1x1024.Idx) := funext fun e => iblk4_apply m c t e
  have hb : (fun e => iblk m c 5 t (ix2 0 e : S1x1024.Idx)) = fun e => m ((c : Thread nD τ).loc main_arg5) (ix2 0 e : S1x1024.Idx) := funext fun e => iblk5_apply m c t e
  exact (congrArg (fun f => Trunk.norm f _ _ e) hc).trans (congrArg₂ (fun g h => Trunk.norm _ g h e) hg hb)

/-- What a point writes back is its block of the result. -/
theorem flushed_eq (c : Dev nD) (t : Fin cfg0.N) : (dats m 0 c).flushed 6 t = ((cfg0.win 6).blk t).view.read (Elt Ideal) (GA m c) := by
  rw [Value.flushed6_A]
  have key : ∀ (r : Fin 128) (e : Fin 1024), out0_A_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (iblk m c 0 t) (iblk m c 1 t)
      (iblk m c 2 t) (iblk m c 3 t) (iblk m c 4 t) (iblk m c 5 t) (ix2 r e) = GA m c (ix2 (under t r) e) := fun r e => by
    rw [out_apply]
    exact block_eq m c t r e
  funext y
  obtain ⟨r, e, rfl⟩ : ∃ (r : Fin 128) (e : Fin 1024), y = ix2 r e := ⟨y 0, y 1, eq_ix2 _ _ _ rfl rfl⟩
  exact (key r e).trans (congrArg (GA m c) (eq_ix2 _ _ _ (at_block t r (index_facts t).2.2.2.2.2.2.1.1 _ _ rfl) (at_whole e (index_facts t).2.2.2.2.2.2.1.2 _)).symm)

/-- **The result array is the convolution of every row.** -/
theorem final (c : Dev nD) : (dats m 0 c).arrAt 6 cfg0.N = GA m c :=
  (dats m 0 c).arrAt_eq_of_cover 6 (GA m c) (fun t _ => flushed_eq m c t) fun i => by
    have h0 : (i 0).val < 1024 := (i 0).isLt
    have hN : cfg0.N = 8 := N_0
    exact ⟨⟨(i 0).val / 128, by omega⟩, flush0_6 _, mem_blk _ i rfl⟩

end CcSampleRun

end
-- ==== Proof.CcSampleRef.lean ====
/- The reference's sample convolution at a row and lane: its 31 stacked windows, the bias, the layer norm and the gate. -/
module

public import proofs.«01_k».proof.Proof.CcSampleSpec
public import proofs.«01_k».proof.Proof.Gen.CcSampleReferenceIdeal.Read
public import Idealize.ShloMosaic.Lib.Pipeline.Value
public import Idealize.ShloMosaic.Lib.IdealHost

@[expose] public section

set_option maxRecDepth 16384

noncomputable section

namespace CcSampleRef

open Idealize.ShloMosaic Cert.CcSampleReferenceIdeal Cert.CcSampleReferenceIdeal.Gen Cert.CcSampleReferenceIdeal.Read
open Trunk (eq_ix2 eq_ix3)

theorem eq_ix4 {n k l p : ℕ} (i : (⟨4, ![n, k, l, p]⟩ : Shape).Idx) (a : Fin n) (b : Fin k) (c : Fin l) (d : Fin p)
    (ha : i 0 = a) (hb : i 1 = b) (hc : i 2 = c) (hd : i 3 = d) : i = ix4 a b c d :=
  funext fun x => match x with | ⟨0, _⟩ => ha | ⟨1, _⟩ => hb | ⟨2, _⟩ => hc | ⟨3, _⟩ => hd

variable (x0 : S128x8x1024.Idx → EReal) (x1 : S128x30x1024.Idx → EReal) (x2 : S31x1024.Idx → EReal) (x3 x4 x5 : S1x1024.Idx → EReal)
  (q : Fin 128) (t : Fin 8)

/-- A request's rows. -/
abbrev rows : ℕ → Fin 1024 → EReal := Trunk.ext (fun j e => x1 (ix3 q j e)) (fun j e => x0 (ix3 q j e))

/-- Two arrays joined along an axis, at an index of each. -/
theorem first {r : Shape} {s : Shape} {u : Shape} (a : Fin r.rank) (x : s.Idx → EReal) (y : u.Idx → EReal)
    (h : Shape.Concatenates (([⟨s, x⟩, ⟨u, y⟩] : List ((s : Shape) × (s.Idx → EReal))).map (·.1)) r a) (j : r.Idx) (hr : s.rank = r.rank) (i : s.Idx)
    (hi : ∀ b : Fin s.rank, b.cast hr ≠ a → (i b).val = (j (b.cast hr)).val) (ha : (i (a.cast hr.symm)).val = (j a).val) :
    concatenate r a [⟨s, x⟩, ⟨u, y⟩] h j = x i :=
  concatenate_apply_piece _ _ h _ 0 (by show 0 < 2; decide) s x rfl hr 0 rfl i hi ((Nat.zero_add _).trans ha)
theorem second {r : Shape} {s : Shape} {u : Shape} (a : Fin r.rank) (x : s.Idx → EReal) (y : u.Idx → EReal)
    (h : Shape.Concatenates (([⟨s, x⟩, ⟨u, y⟩] : List ((s : Shape) × (s.Idx → EReal))).map (·.1)) r a) (j : r.Idx) (hs : s.rank = r.rank) (hr : u.rank = r.rank) (i : u.Idx)
    (hi : ∀ b : Fin u.rank, b.cast hr ≠ a → (i b).val = (j (b.cast hr)).val) (ha : s.size (a.cast hs.symm) + (i (a.cast hr.symm)).val = (j a).val) :
    concatenate r a [⟨s, x⟩, ⟨u, y⟩] h j = y i :=
  concatenate_apply_piece _ _ h _ 1 (by show 1 < 2; decide) u y rfl hr (s.size (a.cast hs.symm)) (by simp [hs]) i hi ha

theorem joined (i : S128x38x1024.Idx) (k : ℕ) (e : Fin 1024) (h0 : i 0 = q) (h1 : (i 1).val = k + t.val) (h2 : i 2 = e) :
    val_main_v0 (F := Ideal) x0 x1 i = rows x0 x1 q (k + t.val) e := by
  have hi : (i 1).val < 38 := (i 1).isLt
  unfold rows Trunk.ext
  split
  · rename_i h
    exact first (1 : Fin S128x38x1024.rank) x1 x0 concatenates_S128x30x1024_S128x8x1024_S128x38x1024_d1 i rfl (ix3 q ⟨k + t.val, h⟩ e) (fun b hb => by
      match b with
      | ⟨0, _⟩ => exact (congrArg Fin.val h0).symm
      | ⟨1, _⟩ => exact absurd rfl hb
      | ⟨2, _⟩ => exact (congrArg Fin.val h2).symm) h1.symm
  · rename_i h
    rw [dif_pos (by omega)]
    exact second (1 : Fin S128x38x1024.rank) x1 x0 concatenates_S128x30x1024_S128x8x1024_S128x38x1024_d1 i rfl rfl (ix3 q ⟨k + t.val - 30, by omega⟩ e) (fun b hb => by
      match b with
      | ⟨0, _⟩ => exact (congrArg Fin.val h0).symm
      | ⟨1, _⟩ => exact absurd rfl hb
      | ⟨2, _⟩ => exact (congrArg Fin.val h2).symm) (by show 30 + (k + t.val - 30) = (i 1).val; omega)

/-- Windows stand one after the other in their stack. -/
theorem ones {n : ℕ} (xs : List ((s : Shape) × (s.Idx → EReal))) (k : Fin n) (hp : xs.map (·.1) = List.replicate n S128x8x1x1024) :
    (((xs.take k.val).map (·.1)).map fun s => if h : s.rank = 4 then s.size ((2 : Fin 4).cast h.symm) else 0).sum = k.val := by
  have hk := k.isLt
  rw [List.map_take, hp, List.take_replicate, Nat.min_eq_left (by omega), List.map_replicate, List.sum_replicate]
  show k.val * 1 = k.val
  omega

/-- One entry of a stack of windows, from the window at its place. -/
theorem stacked {n : ℕ} (xs : List ((s : Shape) × (s.Idx → EReal))) (h : Shape.Concatenates (xs.map (·.1)) ⟨4, ![128, 8, n, 1024]⟩ 2) (k : Fin n) (hk : k.val < xs.length)
    (x : S128x8x1x1024.Idx → EReal) (hx : xs[k.val] = ⟨S128x8x1x1024, x⟩)
    (hp : xs.map (·.1) = List.replicate n S128x8x1x1024) (e : Fin 1024) :
    concatenate ⟨4, ![128, 8, n, 1024]⟩ 2 xs h (ix4 q t k e) = x (ix4 q t 0 e) :=
  concatenate_apply_piece _ _ h _ k.val hk S128x8x1x1024 x hx rfl k.val (ones xs k hp) _ (fun b hb => by
    match b with
    | ⟨0, _⟩ => rfl
    | ⟨1, _⟩ => rfl
    | ⟨2, _⟩ => exact absurd rfl hb
    | ⟨3, _⟩ => rfl) rfl

/-! The two stacks the windows are laid in. -/

theorem window0 (e : Fin 1024) : val_main_v63 (F := Ideal) x0 x1 (ix4 q t 0 e) = rows x0 x1 q (0 + t.val) e := by
  unfold val_main_v63
  exact Eq.trans (stacked q t _ _ _ (by show 0 < 16; decide) (val_main_v32 (F := Ideal) x0 x1) (by rfl) (by rfl) e)
    ((val_main_v32_apply _ _ _).trans ((val_main_v1_apply _ _ _).trans (joined x0 x1 q t _ 0 e rfl (Nat.zero_add _).symm rfl)))
theorem window1 (e : Fin 1024) : val_main_v63 (F := Ideal) x0 x1 (ix4 q t 1 e) = rows x0 x1 q (1 + t.val) e := by
  unfold val_main_v63
  exact Eq.trans (stacked q t _ _ _ (by show 1 < 16; decide) (val_main_v33 (F := Ideal) x0 x1) (by rfl) (by rfl) e)
    ((val_main_v33_apply _ _ _).trans ((val_main_v2_apply _ _ _).trans (joined x0 x1 q t _ 1 e rfl rfl rfl)))
theorem window2 (e : Fin 1024) : val_main_v63 (F := Ideal) x0 x1 (ix4 q t 2 e) = rows x0 x1 q (2 + t.val) e := by
  unfold val_main_v63
  exact Eq.trans (stacked q t _ _ _ (by show 2 < 16; decide) (val_main_v34 (F := Ideal) x0 x1) (by rfl) (by rfl) e)
    ((val_main_v34_apply _ _ _).trans ((val_main_v3_apply _ _ _).trans (joined x0 x1 q t _ 2 e rfl rfl rfl)))
theorem window3 (e : Fin 1024) : val_main_v63 (F := Ideal) x0 x1 (ix4 q t 3 e) = rows x0 x1 q (3 + t.val) e := by
  unfold val_main_v63
  exact Eq.trans (stacked q t _ _ _ (by show 3 < 16; decide) (val_main_v35 (F := Ideal) x0 x1) (by rfl) (by rfl) e)
    ((val_main_v35_apply _ _ _).trans ((val_main_v4_apply _ _ _).trans (joined x0 x1 q t _ 3 e rfl rfl rfl)))
theorem window4 (e : Fin 1024) : val_main_v63 (F := Ideal) x0 x1 (ix4 q t 4 e) = rows x0 x1 q (4 + t.val) e := by
  unfold val_main_v63
  exact Eq.trans (stacked q t _ _ _ (by show 4 < 16; decide) (val_main_v36 (F := Ideal) x0 x1) (by rfl) (by rfl) e)
    ((val_main_v36_apply _ _ _).trans ((val_main_v5_apply _ _ _).trans (joined x0 x1 q t _ 4 e rfl rfl rfl)))
theorem window5 (e : Fin 1024) : val_main_v63 (F := Ideal) x0 x1 (ix4 q t 5 e) = rows x0 x1 q (5 + t.val) e := by
  unfold val_main_v63
  exact Eq.trans (stacked q t _ _ _ (by show 5 < 16; decide) (val_main_v37 (F := Ideal) x0 x1) (by rfl) (by rfl) e)
    ((val_main_v37_apply _ _ _).trans ((val_main_v6_apply _ _ _).trans (joined x0 x1 q t _ 5 e rfl rfl rfl)))
theorem window6 (e : Fin 1024) : val_main_v63 (F := Ideal) x0 x1 (ix4 q t 6 e) = rows x0 x1 q (6 + t.val) e := by
  unfold val_main_v63
  exact Eq.trans (stacked q t _ _ _ (by show 6 < 16; decide) (val_main_v38 (F := Ideal) x0 x1) (by rfl) (by rfl) e)
    ((val_main_v38_apply _ _ _).trans ((val_main_v7_apply _ _ _).trans (joined x0 x1 q t _ 6 e rfl rfl rfl)))
theorem window7 (e : Fin 1024) : val_main_v63 (F := Ideal) x0 x1 (ix4 q t 7 e) = rows x0 x1 q (7 + t.val) e := by
  unfold val_main_v63
  exact Eq.trans (stacked q t _ _ _ (by show 7 < 16; decide) (val_main_v39 (F := Ideal) x0 x1) (by rfl) (by rfl) e)
    ((val_main_v39_apply _ _ _).trans ((val_main_v8_apply _ _ _).trans (joined x0 x1 q t _ 7 e rfl rfl rfl)))
theorem window8 (e : Fin 1024) : val_main_v63 (F := Ideal) x0 x1 (ix4 q t 8 e) = rows x0 x1 q (8 + t.val) e := by
  unfold val_main_v63
  exact Eq.trans (stacked q t _ _ _ (by show 8 < 16; decide) (val_main_v40 (F := Ideal) x0 x1) (by rfl) (by rfl) e)
    ((val_main_v40_apply _ _ _).trans ((val_main_v9_apply _ _ _).trans (joined x0 x1 q t _ 8 e rfl rfl rfl)))
theorem window9 (e : Fin 1024) : val_main_v63 (F := Ideal) x0 x1 (ix4 q t 9 e) = rows x0 x1 q (9 + t.val) e := by
  unfold val_main_v63
  exact Eq.trans (stacked q t _ _ _ (by show 9 < 16; decide) (val_main_v41 (F := Ideal) x0 x1) (by rfl) (by rfl) e)
    ((val_main_v41_apply _ _ _).trans ((val_main_v10_apply _ _ _).trans (joined x0 x1 q t _ 9 e rfl rfl rfl)))
theorem window10 (e : Fin 1024) : val_main_v63 (F := Ideal) x0 x1 (ix4 q t 10 e) = rows x0 x1 q (10 + t.val) e := by
  unfold val_main_v63
  exact Eq.trans (stacked q t _ _ _ (by show 10 < 16; decide) (val_main_v42 (F := Ideal) x0 x1) (by rfl) (by rfl) e)
    ((val_main_v42_apply _ _ _).trans ((val_main_v11_apply _ _ _).trans (joined x0 x1 q t _ 10 e rfl rfl rfl)))
theorem window11 (e : Fin 1024) : val_main_v63 (F := Ideal) x0 x1 (ix4 q t 11 e) = rows x0 x1 q (11 + t.val) e := by
  unfold val_main_v63
  exact Eq.trans (stacked q t _ _ _ (by show 11 < 16; decide) (val_main_v43 (F := Ideal) x0 x1) (by rfl) (by rfl) e)
    ((val_main_v43_apply _ _ _).trans ((val_main_v12_apply _ _ _).trans (joined x0 x1 q t _ 11 e rfl rfl rfl)))
theorem window12 (e : Fin 1024) : val_main_v63 (F := Ideal) x0 x1 (ix4 q t 12 e) = rows x0 x1 q (12 + t.val) e := by
  unfold val_main_v63
  exact Eq.trans (stacked q t _ _ _ (by show 12 < 16; decide) (val_main_v44 (F := Ideal) x0 x1) (by rfl) (by rfl) e)
    ((val_main_v44_apply _ _ _).trans ((val_main_v13_apply _ _ _).trans (joined x0 x1 q t _ 12 e rfl rfl rfl)))
theorem window13 (e : Fin 1024) : val_main_v63 (F := Ideal) x0 x1 (ix4 q t 13 e) = rows x0 x1 q (13 + t.val) e := by
  unfold val_main_v63
  exact Eq.trans (stacked q t _ _ _ (by show 13 < 16; decide) (val_main_v45 (F := Ideal) x0 x1) (by rfl) (by rfl) e)
    ((val_main_v45_apply _ _ _).trans ((val_main_v14_apply _ _ _).trans (joined x0 x1 q t _ 13 e rfl rfl rfl)))
theorem window14 (e : Fin 1024) : val_main_v63 (F := Ideal) x0 x1 (ix4 q t 14 e) = rows x0 x1 q (14 + t.val) e := by
  unfold val_main_v63
  exact Eq.trans (stacked q t _ _ _ (by show 14 < 16; decide) (val_main_v46 (F := Ideal) x0 x1) (by rfl) (by rfl) e)
    ((val_main_v46_apply _ _ _).trans ((val_main_v15_apply _ _ _).trans (joined x0 x1 q t _ 14 e rfl rfl rfl)))
theorem window15 (e : Fin 1024) : val_main_v63 (F := Ideal) x0 x1 (ix4 q t 15 e) = rows x0 x1 q (15 + t.val) e := by
  unfold val_main_v63
  exact Eq.trans (stacked q t _ _ _ (by show 15 < 16; decide) (val_main_v47 (F := Ideal) x0 x1) (by rfl) (by rfl) e)
    ((val_main_v47_apply _ _ _).trans ((val_main_v16_apply _ _ _).trans (joined x0 x1 q t _ 15 e rfl rfl rfl)))
theorem stack63 (e : Fin 1024) (k : Fin 16) : val_main_v63 (F := Ideal) x0 x1 (ix4 q t k e) = rows x0 x1 q (k.val + t.val) e := by
  match k with
  | ⟨0, _⟩ => exact window0 x0 x1 q t e
  | ⟨1, _⟩ => exact window1 x0 x1 q t e
  | ⟨2, _⟩ => exact window2 x0 x1 q t e
  | ⟨3, _⟩ => exact window3 x0 x1 q t e
  | ⟨4, _⟩ => exact window4 x0 x1 q t e
  | ⟨5, _⟩ => exact window5 x0 x1 q t e
  | ⟨6, _⟩ => exact window6 x0 x1 q t e
  | ⟨7, _⟩ => exact window7 x0 x1 q t e
  | ⟨8, _⟩ => exact window8 x0 x1 q t e
  | ⟨9, _⟩ => exact window9 x0 x1 q t e
  | ⟨10, _⟩ => exact window10 x0 x1 q t e
  | ⟨11, _⟩ => exact window11 x0 x1 q t e
  | ⟨12, _⟩ => exact window12 x0 x1 q t e
  | ⟨13, _⟩ => exact window13 x0 x1 q t e
  | ⟨14, _⟩ => exact window14 x0 x1 q t e
  | ⟨15, _⟩ => exact window15 x0 x1 q t e
  | ⟨_ + 16, h⟩ => omega

theorem window16 (e : Fin 1024) : val_main_v64 (F := Ideal) x0 x1 (ix4 q t 0 e) = rows x0 x1 q (16 + t.val) e := by
  unfold val_main_v64
  exact Eq.trans (stacked q t _ _ _ (by show 0 < 15; decide) (val_main_v48 (F := Ideal) x0 x1) (by rfl) (by rfl) e)
    ((val_main_v48_apply _ _ _).trans ((val_main_v17_apply _ _ _).trans (joined x0 x1 q t _ 16 e rfl rfl rfl)))
theorem window17 (e : Fin 1024) : val_main_v64 (F := Ideal) x0 x1 (ix4 q t 1 e) = rows x0 x1 q (17 + t.val) e := by
  unfold val_main_v64
  exact Eq.trans (stacked q t _ _ _ (by show 1 < 15; decide) (val_main_v49 (F := Ideal) x0 x1) (by rfl) (by rfl) e)
    ((val_main_v49_apply _ _ _).trans ((val_main_v18_apply _ _ _).trans (joined x0 x1 q t _ 17 e rfl rfl rfl)))
theorem window18 (e : Fin 1024) : val_main_v64 (F := Ideal) x0 x1 (ix4 q t 2 e) = rows x0 x1 q (18 + t.val) e := by
  unfold val_main_v64
  exact Eq.trans (stacked q t _ _ _ (by show 2 < 15; decide) (val_main_v50 (F := Ideal) x0 x1) (by rfl) (by rfl) e)
    ((val_main_v50_apply _ _ _).trans ((val_main_v19_apply _ _ _).trans (joined x0 x1 q t _ 18 e rfl rfl rfl)))
theorem window19 (e : Fin 1024) : val_main_v64 (F := Ideal) x0 x1 (ix4 q t 3 e) = rows x0 x1 q (19 + t.val) e := by
  unfold val_main_v64
  exact Eq.trans (stacked q t _ _ _ (by show 3 < 15; decide) (val_main_v51 (F := Ideal) x0 x1) (by rfl) (by rfl) e)
    ((val_main_v51_apply _ _ _).trans ((val_main_v20_apply _ _ _).trans (joined x0 x1 q t _ 19 e rfl rfl rfl)))
theorem window20 (e : Fin 1024) : val_main_v64 (F := Ideal) x0 x1 (ix4 q t 4 e) = rows x0 x1 q (20 + t.val) e := by
  unfold val_main_v64
  exact Eq.trans (stacked q t _ _ _ (by show 4 < 15; decide) (val_main_v52 (F := Ideal) x0 x1) (by rfl) (by rfl) e)
    ((val_main_v52_apply _ _ _).trans ((val_main_v21_apply _ _ _).trans (joined x0 x1 q t _ 20 e rfl rfl rfl)))
theorem window21 (e : Fin 1024) : val_main_v64 (F := Ideal) x0 x1 (ix4 q t 5 e) = rows x0 x1 q (21 + t.val) e := by
  unfold val_main_v64
  exact Eq.trans (stacked q t _ _ _ (by show 5 < 15; decide) (val_main_v53 (F := Ideal) x0 x1) (by rfl) (by rfl) e)
    ((val_main_v53_apply _ _ _).trans ((val_main_v22_apply _ _ _).trans (joined x0 x1 q t _ 21 e rfl rfl rfl)))
theorem window22 (e : Fin 1024) : val_main_v64 (F := Ideal) x0 x1 (ix4 q t 6 e) = rows x0 x1 q (22 + t.val) e := by
  unfold val_main_v64
  exact Eq.trans (stacked q t _ _ _ (by show 6 < 15; decide) (val_main_v54 (F := Ideal) x0 x1) (by rfl) (by rfl) e)
    ((val_main_v54_apply _ _ _).trans ((val_main_v23_apply _ _ _).trans (joined x0 x1 q t _ 22 e rfl rfl rfl)))
theorem window23 (e : Fin 1024) : val_main_v64 (F := Ideal) x0 x1 (ix4 q t 7 e) = rows x0 x1 q (23 + t.val) e := by
  unfold val_main_v64
  exact Eq.trans (stacked q t _ _ _ (by show 7 < 15; decide) (val_main_v55 (F := Ideal) x0 x1) (by rfl) (by rfl) e)
    ((val_main_v55_apply _ _ _).trans ((val_main_v24_apply _ _ _).trans (joined x0 x1 q t _ 23 e rfl rfl rfl)))
theorem window24 (e : Fin 1024) : val_main_v64 (F := Ideal) x0 x1 (ix4 q t 8 e) = rows x0 x1 q (24 + t.val) e := by
  unfold val_main_v64
  exact Eq.trans (stacked q t _ _ _ (by show 8 < 15; decide) (val_main_v56 (F := Ideal) x0 x1) (by rfl) (by rfl) e)
    ((val_main_v56_apply _ _ _).trans ((val_main_v25_apply _ _ _).trans (joined x0 x1 q t _ 24 e rfl rfl rfl)))
theorem window25 (e : Fin 1024) : val_main_v64 (F := Ideal) x0 x1 (ix4 q t 9 e) = rows x0 x1 q (25 + t.val) e := by
  unfold val_main_v64
  exact Eq.trans (stacked q t _ _ _ (by show 9 < 15; decide) (val_main_v57 (F := Ideal) x0 x1) (by rfl) (by rfl) e)
    ((val_main_v57_apply _ _ _).trans ((val_main_v26_apply _ _ _).trans (joined x0 x1 q t _ 25 e rfl rfl rfl)))
theorem window26 (e : Fin 1024) : val_main_v64 (F := Ideal) x0 x1 (ix4 q t 10 e) = rows x0 x1 q (26 + t.val) e := by
  unfold val_main_v64
  exact Eq.trans (stacked q t _ _ _ (by show 10 < 15; decide) (val_main_v58 (F := Ideal) x0 x1) (by rfl) (by rfl) e)
    ((val_main_v58_apply _ _ _).trans ((val_main_v27_apply _ _ _).trans (joined x0 x1 q t _ 26 e rfl rfl rfl)))
theorem window27 (e : Fin 1024) : val_main_v64 (F := Ideal) x0 x1 (ix4 q t 11 e) = rows x0 x1 q (27 + t.val) e := by
  unfold val_main_v64
  exact Eq.trans (stacked q t _ _ _ (by show 11 < 15; decide) (val_main_v59 (F := Ideal) x0 x1) (by rfl) (by rfl) e)
    ((val_main_v59_apply _ _ _).trans ((val_main_v28_apply _ _ _).trans (joined x0 x1 q t _ 27 e rfl rfl rfl)))
theorem window28 (e : Fin 1024) : val_main_v64 (F := Ideal) x0 x1 (ix4 q t 12 e) = rows x0 x1 q (28 + t.val) e := by
  unfold val_main_v64
  exact Eq.trans (stacked q t _ _ _ (by show 12 < 15; decide) (val_main_v60 (F := Ideal) x0 x1) (by rfl) (by rfl) e)
    ((val_main_v60_apply _ _ _).trans ((val_main_v29_apply _ _ _).trans (joined x0 x1 q t _ 28 e rfl rfl rfl)))
theorem window29 (e : Fin 1024) : val_main_v64 (F := Ideal) x0 x1 (ix4 q t 13 e) = rows x0 x1 q (29 + t.val) e := by
  unfold val_main_v64
  exact Eq.trans (stacked q t _ _ _ (by show 13 < 15; decide) (val_main_v61 (F := Ideal) x0 x1) (by rfl) (by rfl) e)
    ((val_main_v61_apply _ _ _).trans ((val_main_v30_apply _ _ _).trans (joined x0 x1 q t _ 29 e rfl rfl rfl)))
theorem window30 (e : Fin 1024) : val_main_v64 (F := Ideal) x0 x1 (ix4 q t 14 e) = rows x0 x1 q (30 + t.val) e := by
  unfold val_main_v64
  exact Eq.trans (stacked q t _ _ _ (by show 14 < 15; decide) (val_main_v62 (F := Ideal) x0 x1) (by rfl) (by rfl) e)
    ((val_main_v62_apply _ _ _).trans ((val_main_v31_apply _ _ _).trans (joined x0 x1 q t _ 30 e rfl rfl rfl)))
theorem stack64 (e : Fin 1024) (k : Fin 15) : val_main_v64 (F := Ideal) x0 x1 (ix4 q t k e) = rows x0 x1 q (16 + k.val + t.val) e := by
  match k with
  | ⟨0, _⟩ => exact window16 x0 x1 q t e
  | ⟨1, _⟩ => exact window17 x0 x1 q t e
  | ⟨2, _⟩ => exact window18 x0 x1 q t e
  | ⟨3, _⟩ => exact window19 x0 x1 q t e
  | ⟨4, _⟩ => exact window20 x0 x1 q t e
  | ⟨5, _⟩ => exact window21 x0 x1 q t e
  | ⟨6, _⟩ => exact window22 x0 x1 q t e
  | ⟨7, _⟩ => exact window23 x0 x1 q t e
  | ⟨8, _⟩ => exact window24 x0 x1 q t e
  | ⟨9, _⟩ => exact window25 x0 x1 q t e
  | ⟨10, _⟩ => exact window26 x0 x1 q t e
  | ⟨11, _⟩ => exact window27 x0 x1 q t e
  | ⟨12, _⟩ => exact window28 x0 x1 q t e
  | ⟨13, _⟩ => exact window29 x0 x1 q t e
  | ⟨14, _⟩ => exact window30 x0 x1 q t e
  | ⟨_ + 15, h⟩ => omega

theorem window_apply (k : Fin 31) (e : Fin 1024) : val_main_v65 (F := Ideal) x0 x1 (ix4 q t k e) = rows x0 x1 q (k.val + t.val) e := by
  have hk := k.isLt
  by_cases h : k.val < 16
  · exact (first (2 : Fin S128x8x31x1024.rank) (val_main_v63 (F := Ideal) x0 x1) (val_main_v64 (F := Ideal) x0 x1) concatenates_S128x8x16x1024_S128x8x15x1024_S128x8x31x1024_d2
      (ix4 q t k e) rfl (ix4 q t ⟨k.val, h⟩ e) (fun b hb => by
      match b with
      | ⟨0, _⟩ => rfl
      | ⟨1, _⟩ => rfl
      | ⟨2, _⟩ => exact absurd rfl hb
      | ⟨3, _⟩ => rfl) rfl).trans (stack63 x0 x1 q t e ⟨k.val, h⟩)
  · refine (second (2 : Fin S128x8x31x1024.rank) (val_main_v63 (F := Ideal) x0 x1) (val_main_v64 (F := Ideal) x0 x1) concatenates_S128x8x16x1024_S128x8x15x1024_S128x8x31x1024_d2
      (ix4 q t k e) rfl rfl (ix4 q t ⟨k.val - 16, by omega⟩ e) (fun b hb => by
      match b with
      | ⟨0, _⟩ => rfl
      | ⟨1, _⟩ => rfl
      | ⟨2, _⟩ => exact absurd rfl hb
      | ⟨3, _⟩ => rfl) (by show 16 + (k.val - 16) = k.val; omega)).trans ((stack64 x0 x1 q t e ⟨k.val - 16, by omega⟩).trans ?_)
    exact congrArg (fun j => rows x0 x1 q (j + t.val) e) (by show 16 + (k.val - 16) = k.val; omega)

theorem weight_apply (k : Fin 31) (e : Fin 1024) : val_main_v67 (F := Ideal) x2 (ix4 q t k e) = x2 (ix2 k e) := by
  rw [val_main_v67_apply, val_main_v66_apply]
  exact congrArg x2 (eq_ix2 _ _ _ rfl rfl)

/-! The vectors given as one row, at a lane. -/

theorem bias_apply (e : Fin 1024) : val_main_v72 (F := Ideal) x3 (ix3 q t e) = x3 (ix2 0 e) := by
  rw [val_main_v72_apply, val_main_v71_apply, val_main_v70_apply]
  exact congrArg x3 (eq_ix2 _ _ _ rfl (Fin.ext (by show e.val % 1024 = e.val; have := e.isLt; omega)))
theorem gain_apply (e : Fin 1024) : val_main_v93 (F := Ideal) x4 (ix3 q t e) = x4 (ix2 0 e) := by
  rw [val_main_v93_apply, val_main_v92_apply, val_main_v74_apply]
  exact congrArg x4 (eq_ix2 _ _ _ rfl (Fin.ext (by show e.val % 1024 = e.val; have := e.isLt; omega)))
theorem shift_apply (e : Fin 1024) : val_main_v96 (F := Ideal) x5 (ix3 q t e) = x5 (ix2 0 e) := by
  rw [val_main_v96_apply, val_main_v95_apply, val_main_v75_apply]
  exact congrArg x5 (eq_ix2 _ _ _ rfl (Fin.ext (by show e.val % 1024 = e.val; have := e.isLt; omega)))

/-- The convolution's row. -/
abbrev res : Fin 1024 → EReal := Trunk.conv (rows x0 x1 q) (fun k e => x2 (ix2 k e)) (fun e => x3 (ix2 0 e)) t.val

theorem conv_apply (e : Fin 1024) : val_main_v73 (F := Ideal) x0 x1 x2 x3 (ix3 q t e) = res x0 x1 x2 x3 q t e := by
  have hs : val_main_v69 (F := Ideal) x0 x1 x2 (ix3 q t e) = ∑ k : Fin 31, rows x0 x1 q (k.val + t.val) e * x2 (ix2 k e) := by
    rw [val_main_v69_apply, val_main_cst_apply]
    show Ideal.ofBits .f32 0x00000000#32 + _ = _
    rw [Ideal.ofBits_zero_f32, zero_add]
    refine Finset.sum_congr rfl fun k _ => ?_
    rw [show idx_main_v69 (ix3 q t e) k = ix4 q t k e from eq_ix4 _ _ _ _ _ rfl rfl rfl rfl, val_main_v68_apply, window_apply, weight_apply]
    rfl
  rw [val_main_v73_apply, hs, bias_apply]
  rfl

theorem mean_apply : val_main_v79 (F := Ideal) x0 x1 x2 x3 (ix3 q t 0) = Trunk.mean (res x0 x1 x2 x3 q t) := by
  have hs : val_main_v77 (F := Ideal) x0 x1 x2 x3 (ix3 q t 0) = ∑ k, res x0 x1 x2 x3 q t k := by
    rw [val_main_v77_apply, val_main_v76_apply, val_main_cst_0_apply]
    show Ideal.ofBits .f32 0x00000000#32 + _ = _
    rw [Ideal.ofBits_zero_f32, zero_add]
    refine Finset.sum_congr rfl fun k _ => ?_
    refine Eq.trans (b := val_main_v73 (F := Ideal) x0 x1 x2 x3 (ix3 q t k)) ?_ (conv_apply x0 x1 x2 x3 q t k)
    exact congrArg _ (eq_ix3 _ _ _ _ rfl rfl rfl)
  rw [val_main_v79_apply, val_main_v78_apply, val_main_cst_1_apply, hs]
  rfl

theorem dev_apply (e : Fin 1024) : val_main_v81 (F := Ideal) x0 x1 x2 x3 (ix3 q t e) = res x0 x1 x2 x3 q t e - Trunk.mean (res x0 x1 x2 x3 q t) := by
  rw [val_main_v81_apply, conv_apply, val_main_v80_apply, ← mean_apply]
  exact congrArg (fun i => _ - val_main_v79 (F := Ideal) x0 x1 x2 x3 i) (eq_ix3 _ _ _ _ rfl rfl rfl)

theorem var_apply : val_main_v86 (F := Ideal) x0 x1 x2 x3 (ix3 q t 0) = Trunk.var (res x0 x1 x2 x3 q t) := by
  have hs : val_main_v84 (F := Ideal) x0 x1 x2 x3 (ix3 q t 0)
      = ∑ k, (res x0 x1 x2 x3 q t k - Trunk.mean (res x0 x1 x2 x3 q t)) * (res x0 x1 x2 x3 q t k - Trunk.mean (res x0 x1 x2 x3 q t)) := by
    rw [val_main_v84_apply, val_main_v83_apply, val_main_cst_2_apply]
    show Ideal.ofBits .f32 0x00000000#32 + _ = _
    rw [Ideal.ofBits_zero_f32, zero_add]
    refine Finset.sum_congr rfl fun k _ => ?_
    rw [← dev_apply]
    refine (val_main_v82_apply _ _ _ _ _).trans ?_
    exact congrArg (fun i => val_main_v81 (F := Ideal) x0 x1 x2 x3 i * val_main_v81 (F := Ideal) x0 x1 x2 x3 i) (eq_ix3 _ _ _ _ rfl rfl rfl)
  rw [val_main_v86_apply, val_main_v85_apply, val_main_cst_3_apply, hs]
  rfl

theorem scale_apply (e : Fin 1024) : val_main_v90 (F := Ideal) x0 x1 x2 x3 (ix3 q t e) = Ideal.rsqrt (Trunk.var (res x0 x1 x2 x3 q t) + Trunk.eps) := by
  have h : val_main_v89 (F := Ideal) x0 x1 x2 x3 (ix3 q t 0) = Ideal.rsqrt (Trunk.var (res x0 x1 x2 x3 q t) + Trunk.eps) := by
    rw [val_main_v89_apply, val_main_v88_apply, val_main_v87_apply, val_main_cst_4_apply, var_apply]
    rfl
  rw [val_main_v90_apply, ← h]
  exact congrArg _ (eq_ix3 _ _ _ _ rfl rfl rfl)

theorem norm_apply (e : Fin 1024) : val_main_v97 (F := Ideal) x0 x1 x2 x3 x4 x5 (ix3 q t e)
    = Trunk.norm (res x0 x1 x2 x3 q t) (fun e => x4 (ix2 0 e)) (fun e => x5 (ix2 0 e)) e := by
  rw [val_main_v97_apply, val_main_v94_apply, val_main_v91_apply, dev_apply, scale_apply, gain_apply, shift_apply]
  rfl

theorem act_apply (e : Fin 1024) : val_main_v98 (F := Ideal) x0 x1 x2 x3 x4 x5 (ix3 q t e)
    = Trunk.convRow (rows x0 x1 q) (fun k e => x2 (ix2 k e)) (fun e => x3 (ix2 0 e)) (fun e => x4 (ix2 0 e)) (fun e => x5 (ix2 0 e)) t.val e := by
  rw [val_main_v98_apply, val_main_call0_v5_apply, val_main_call0_v4_apply, val_main_call0_cst_0_apply, val_main_call0_v3_apply,
    val_main_call0_v2_apply, val_main_call0_cst_apply, val_main_call0_v1_apply, val_main_call0_v0_apply, norm_apply]
  unfold Trunk.convRow Trunk.silu Ideal.logistic
  generalize Trunk.norm _ _ _ e = g
  show g * Ideal.div (Ideal.ofBits .f32 0x3F800000#32) (Ideal.ofBits .f32 0x3F800000#32 + Ideal.exp (-g)) = _
  rw [Ideal.ofBits_one_f32]

/-- **The reference's result** is the convolution of every row. -/
theorem result (y : S1024x1024.Idx) : val_main_v100 (F := Ideal) x0 x1 x2 x3 x4 x5 y
    = Trunk.convRow (rows x0 x1 ⟨(y 0).val / 8, by have h : (y 0).val < 1024 := (y 0).isLt; omega⟩) (fun k e => x2 (ix2 k e)) (fun e => x3 (ix2 0 e))
        (fun e => x4 (ix2 0 e)) (fun e => x5 (ix2 0 e)) ((y 0).val % 8) (y 1) := by
  have h0 : (y 0).val < 1024 := (y 0).isLt
  have h1 : (y 1).val < 1024 := (y 1).isLt
  rw [val_main_v100_apply, val_main_v99_apply]
  refine (congrArg (val_main_v98 (F := Ideal) x0 x1 x2 x3 x4 x5) (eq_ix3 _ ⟨(y 0).val / 8, by omega⟩ ⟨(y 0).val % 8, by omega⟩ (y 1) (Fin.ext ?_) (Fin.ext ?_) (Fin.ext ?_))).trans
    (act_apply x0 x1 x2 x3 x4 x5 _ _ _)
  · show ((y 0).val * 1024 + (y 1).val) / 8192 = (y 0).val / 8; omega
  · show ((y 0).val * 1024 + (y 1).val) / 1024 % 8 = (y 0).val % 8; omega
  · show ((y 0).val * 1024 + (y 1).val) % 1024 = (y 1).val; omega

end CcSampleRef

end
-- ==== Proof.CcSampleClaim.lean ====
/- The sample convolution's claims: the two runs have equal results. -/
module

public import proofs.«01_k».proof.Defs
public import proofs.«01_k».proof.Proof.CcSampleArray
public import proofs.«01_k».proof.Proof.CcSampleRef
public import proofs.«01_k».proof.Proof.Gen.CcSampleReferenceIdeal.Run
public import proofs.«01_k».proof.Proof.Gen.CcSample.Frame
public import Idealize.ShloMosaic.Lib.Quiescent
public import Idealize.ShloMosaic.Adequacy

@[expose] public section

set_option maxRecDepth 16384

noncomputable section

namespace CcSampleClaim

open Idealize.ShloMosaic Idealize.ShloMosaic.TcCoe Idealize.SL.Sem

theorem frame_kernel : Cert.quiescent_CcSample := fun m ρ _ => Cert.CcSample.Gen.frame m ρ
theorem frame_ideal : Cert.quiescent_CcSampleIdeal := fun m ρ _ => Cert.CcSampleIdeal.Gen.frame m ρ
theorem frame_reference : Cert.quiescent_CcSampleReferenceIdeal := fun m ρ _ =>
  (θ_run Cert.CcSampleReferenceIdeal.defs _ _).mono (fun r h => ⟨fun c => (h c).2, Idealize.ShloMosaic.sem_eq_zero_of_no_sems (by decide) r.2⟩)
    (Cert.CcSampleReferenceIdeal.Value.run (F := Ideal) m ρ)

theorem algebraic : Cert.algebraic_CcSampleIdeal_CcSampleReferenceIdeal := fun m ρ m' ρ' _ hag =>
  ⟨fun c => CcSampleRun.GA m c,
    (θ_run Cert.CcSampleIdeal.defs _ _).mono (fun r h c => ⟨(h c).1.trans (CcSampleRun.final m c), (h c).2⟩) (Cert.CcSampleIdeal.Value.run_blocks m ρ),
    (θ_run Cert.CcSampleReferenceIdeal.defs _ _).mono (fun r h c => ⟨(h c).1.trans (by
        rw [Cert.CcSampleReferenceIdeal.Read.val_main_v100_eq]
        show Cert.CcSampleReferenceIdeal.Read.val_main_v100 (F := Ideal) (m' ((c : Thread Cert.CcSampleReferenceIdeal.nD Cert.CcSampleReferenceIdeal.τ).loc Cert.CcSampleReferenceIdeal.main_arg0)) (m' ((c : Thread Cert.CcSampleReferenceIdeal.nD Cert.CcSampleReferenceIdeal.τ).loc Cert.CcSampleReferenceIdeal.main_arg1)) (m' ((c : Thread Cert.CcSampleReferenceIdeal.nD Cert.CcSampleReferenceIdeal.τ).loc Cert.CcSampleReferenceIdeal.main_arg2))
          (m' ((c : Thread Cert.CcSampleReferenceIdeal.nD Cert.CcSampleReferenceIdeal.τ).loc Cert.CcSampleReferenceIdeal.main_arg3)) (m' ((c : Thread Cert.CcSampleReferenceIdeal.nD Cert.CcSampleReferenceIdeal.τ).loc Cert.CcSampleReferenceIdeal.main_arg4)) (m' ((c : Thread Cert.CcSampleReferenceIdeal.nD Cert.CcSampleReferenceIdeal.τ).loc Cert.CcSampleReferenceIdeal.main_arg5)) = _
        rw [(hag c).1, (hag c).2.1, (hag c).2.2.1, (hag c).2.2.2.1, (hag c).2.2.2.2.1, (hag c).2.2.2.2.2]
        exact funext fun y => CcSampleRef.result _ _ _ _ _ _ y), (h c).2⟩)
      (Cert.CcSampleReferenceIdeal.Value.run (F := Ideal) m' ρ')⟩

end CcSampleClaim

end
-- ==== Proof.lean ====
/- Everything the certificate claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.AttendClaim
public import proofs.«01_k».proof.Proof.FfnClaim
public import proofs.«01_k».proof.Proof.Gen.Ffn
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.MergeClaim
public import proofs.«01_k».proof.Proof.Gen.Merge
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.ProjSsdClaim
public import proofs.«01_k».proof.Proof.Gen.ProjSsd
public import proofs.«01_k».proof.Proof.Gen.ProjSsd.Frame
public import proofs.«01_k».proof.Proof.Gen.ProjSsdIdeal.Frame
public import proofs.«01_k».proof.Proof.Gen.ProjSsdIdeal.Value
public import proofs.«01_k».proof.Proof.Gen.ProjSsdReferenceIdeal.Run
public import proofs.«01_k».proof.Proof.Gen.ProjSsdReferenceIdeal.Read
public import proofs.«01_k».proof.Proof.ProjMixClaim
public import proofs.«01_k».proof.Proof.Gen.ProjMix
public import proofs.«01_k».proof.Proof.Gen.ProjMix.Frame
public import proofs.«01_k».proof.Proof.Gen.ProjMixIdeal.Frame
public import proofs.«01_k».proof.Proof.Gen.ProjMixIdeal.Value
public import proofs.«01_k».proof.Proof.Gen.ProjMixReferenceIdeal.Run
public import proofs.«01_k».proof.Proof.Gen.ProjMixReferenceIdeal.Read
public import proofs.«01_k».proof.Proof.CcSampleClaim
public import proofs.«01_k».proof.Proof.Gen.CcSample
public import proofs.«01_k».proof.Proof.Gen.CcSample.Frame
public import proofs.«01_k».proof.Proof.Gen.CcSampleIdeal.Frame
public import proofs.«01_k».proof.Proof.Gen.CcSampleIdeal.Value
public import proofs.«01_k».proof.Proof.Gen.CcSampleReferenceIdeal.Run
public import proofs.«01_k».proof.Proof.Gen.CcSampleReferenceIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.ProjSsd.Gen.facts, Cert.ProjSsdIdeal.Gen.facts, Cert.ProjSsdReferenceIdeal.Gen.facts,
  Cert.ProjMix.Gen.facts, Cert.ProjMixIdeal.Gen.facts, Cert.ProjMixReferenceIdeal.Gen.facts,
  Cert.CcSample.Gen.facts, Cert.CcSampleIdeal.Gen.facts, Cert.CcSampleReferenceIdeal.Gen.facts,
  AttendClaim.facts_finite, AttendClaim.frame_kernel, AttendClaim.frame_ideal, AttendClaim.frame_ideal_finite, AttendClaim.frame_reference,
  AttendClaim.frame_reference_finite,
  FfnClaim.frame_kernel, FfnClaim.frame_ideal, FfnClaim.frame_reference,
  MergeClaim.frame_kernel, MergeClaim.frame_ideal, MergeClaim.frame_reference,
  ProjSsdClaim.frame_kernel, ProjSsdClaim.frame_ideal, ProjSsdClaim.frame_reference,
  ProjMixClaim.frame_kernel, ProjMixClaim.frame_ideal, ProjMixClaim.frame_reference,
  CcSampleClaim.frame_kernel, CcSampleClaim.frame_ideal, CcSampleClaim.frame_reference,
  trivial, AttendClaim.algebraic, trivial, FfnClaim.algebraic, trivial, MergeClaim.algebraic, trivial, ProjSsdClaim.algebraic,
  trivial, ProjMixClaim.algebraic, trivial, CcSampleClaim.algebraic⟩

end Cert.Proof

end
